-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_rows_routed : Cert.Pre_rows_routed.Facts] (m : (ℓ : Loc Cert.Kernel3.nD Cert.Kernel3.τ Cert.Kernel3.sig) → Buf (Elt Bits) ℓ) : Prop :=
  ∀ c : Dev Cert.Kernel3.nD,
    (Cert.Pre_rows_routed.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))).1 = (fun _ => 1#1)
    ∧ (Cert.Pre_rows_routed.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))).2.1 = (fun _ => 1#1)
    ∧ (Cert.Pre_rows_routed.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))).2.2 = (fun _ => 1#1)

def Pre_Kernel3Ideal [hPre_rows_routed : Cert.Pre_rows_routed.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_rows_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_rows_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_rows_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_rows_routed [hPre_rows_routed : Cert.Pre_rows_routed.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_rows_routed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_rows_routed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_rows_routed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] [hPre_rows_routed : Cert.Pre_rows_routed.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_rows_routed : Cert.Pre_rows_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_rows_routed [hReference3Ideal : Cert.Reference3Ideal.Facts] [hPre_rows_routed : Cert.Pre_rows_routed.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_rows_routed m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v79) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] [hPre_rows_routed : Cert.Pre_rows_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v25)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v25) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v225) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts) (hPre_rows_routed : Cert.Pre_rows_routed.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_rows_routed := hPre_rows_routed)
    ∧ quiescent_Kernel3Ideal (hKernel3Ideal := hKernel3Ideal) (hPre_rows_routed := hPre_rows_routed)
    ∧ quiescent_Reference3Ideal (hReference3Ideal := hReference3Ideal)
    ∧ quiescent_Reference3Ideal_pre_rows_routed (hReference3Ideal := hReference3Ideal) (hPre_rows_routed := hPre_rows_routed)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_rows_routed := hPre_rows_routed)
-- ==== Pre_finite_scores.lean ====
abbrev S8 : Shape := ⟨1, ![8]⟩
abbrev S8x73728x64 : Shape := ⟨3, ![8, 73728, 64]⟩
abbrev S2x64x73728 : Shape := ⟨3, ![2, 64, 73728]⟩
abbrev S2x73728x64 : Shape := ⟨3, ![2, 73728, 64]⟩
abbrev S_ : Shape := ⟨0, ![]⟩

class Facts : Prop where
  bcast_S_S8 : S_.BroadcastsInDim S8 (![] : Fin 0 → Fin S8.rank)
  bitsLt_bf16_f32 : FTy.bits .bf16 < FTy.bits .f32
  bcast_S_S8x73728x64 : S_.BroadcastsInDim S8x73728x64 (![] : Fin 0 → Fin S8x73728x64.rank)
  bcast_S_S2x64x73728 : S_.BroadcastsInDim S2x64x73728 (![] : Fin 0 → Fin S2x64x73728.rank)

variable [Facts]

def fn {F : FTy → Type} [FloatOps F] (main_arg0 : FVec F S8 .f32) (main_arg1 : FVec F S8x73728x64 .bf16) (main_arg2 : FVec F S2x64x73728 .bf16) (main_arg3 : FVec F S2x73728x64 .bf16) : IVec S8 1 × IVec S8x73728x64 1 × IVec S2x64x73728 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_v3 : FVec F S8x73728x64 .f32 := (extf .f32 · bitsLt_bf16_f32) main_arg1
  let main_v4 : FVec F S8x73728x64 .f32 := Host.absf main_v3
  let main_cst_0 : FVec F S_ .f32 := constant S_ .f32 0x7F800000#32
  let main_v5 : FVec F S8x73728x64 .f32 := broadcastInDim S8x73728x64 ![] bcast_S_S8x73728x64 main_cst_0
  let main_v6 : IVec S8x73728x64 1 := cmpf .olt main_v4 main_v5
  let main_v7 : FVec F S2x64x73728 .f32 := (extf .f32 · bitsLt_bf16_f32) main_arg2
  let main_v8 : FVec F S2x64x73728 .f32 := Host.absf main_v7
  let main_cst_1 : FVec F S_ .f32 := constant S_ .f32 0x7F800000#32
  let main_v9 : FVec F S2x64x73728 .f32 := broadcastInDim S2x64x73728 ![] bcast_S_S2x64x73728 main_cst_1
  let main_v10 : IVec S2x64x73728 1 := cmpf .olt main_v8 main_v9
  (main_v2, main_v6, main_v10)
-- ==== Pre_rows_routed.lean ====
abbrev S8 : Shape := ⟨1, ![8]⟩
abbrev S151552x1024 : Shape := ⟨2, ![151552, 1024]⟩
abbrev S8x1024x2816 : Shape := ⟨3, ![8, 1024, 2816]⟩
abbrev S8x2816x1024 : Shape := ⟨3, ![8, 2816, 1024]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : IVec S8 32) (main_arg1 : FVec F S151552x1024 .f32) (main_arg2 : FVec F S8x1024x2816 .f32) (main_arg3 : FVec F S8x1024x2816 .f32) (main_arg4 : FVec F S8x2816x1024 .f32) : IVec S8 1 × IVec S8 1 × IVec S_ 1 :=
  let main_c : IVec S_ 32 := constantI S_ 32 0#32
  let main_v0 : IVec S8 32 := broadcastInDim S8 ![] bcast_S_S8 main_c
  let main_v1 : IVec S8 1 := cmpi .sge main_arg0 main_v0
  let main_c_0 : IVec S_ 32 := constantI S_ 32 147456#32
  let main_v2 : IVec S8 32 := broadcastInDim S8 ![] bcast_S_S8 main_c_0
  let main_v3 : IVec S8 1 := cmpi .sle main_arg0 main_v2
  let main_c_1 : IVec S_ 32 := constantI S_ 32 0#32
  let main_v4 : IVec S_ 32 := (fun x v => Host.reduce IntOp.addi x v reducesTo_S8_S_d0 h_S_) main_arg0 main_c_1
  let main_c_2 : IVec S_ 32 := constantI S_ 32 147456#32
  let main_v5 : IVec S_ 1 := cmpi .eq main_v4 main_c_2
  (main_v1, main_v3, main_v5)
-- ==== Kernel.lean ====
abbrev S8 : Shape := ⟨1, ![8]⟩
abbrev S8x73728x64 : Shape := ⟨3, ![8, 73728, 64]⟩
abbrev S2x64x73728 : Shape := ⟨3, ![2, 64, 73728]⟩
abbrev S2x73728x64 : Shape := ⟨3, ![2, 73728, 64]⟩
abbrev S65536x512 : Shape := ⟨2, ![65536, 512]⟩
abbrev S8x2048x64 : Shape := ⟨3, ![8, 2048, 64]⟩
abbrev S2x64x2048 : Shape := ⟨3, ![2, 64, 2048]⟩
abbrev S2x2048x64 : Shape := ⟨3, ![2, 2048, 64]⟩
abbrev S2x64x256 : Shape := ⟨3, ![2, 64, 256]⟩
abbrev S2x256x64 : Shape := ⟨3, ![2, 256, 64]⟩
abbrev S2048x512 : Shape := ⟨2, ![2048, 512]⟩
abbrev S3x512x384 : Shape := ⟨3, ![3, 512, 384]⟩
abbrev S512x1 : Shape := ⟨2, ![512, 1]⟩
abbrev S512x384 : Shape := ⟨2, ![512, 384]⟩
abbrev S1x512x384 : Shape := ⟨3, ![1, 512, 384]⟩
abbrev S1x64x256 : Shape := ⟨3, ![1, 64, 256]⟩
abbrev S64x256 : Shape := ⟨2, ![64, 256]⟩
abbrev S1x256x64 : Shape := ⟨3, ![1, 256, 64]⟩
abbrev S256x64 : Shape := ⟨2, ![256, 64]⟩
abbrev S1 : Shape := ⟨1, ![1]⟩
abbrev S1x128x64 : Shape := ⟨3, ![1, 128, 64]⟩
abbrev S128x64 : Shape := ⟨2, ![128, 64]⟩
abbrev S512x64 : Shape := ⟨2, ![512, 64]⟩
abbrev S512x256 : Shape := ⟨2, ![512, 256]⟩
abbrev S512 : Shape := ⟨1, ![512]⟩
abbrev S1x64x384 : Shape := ⟨3, ![1, 64, 384]⟩
abbrev S64x384 : Shape := ⟨2, ![64, 384]⟩
abbrev S1x384x64 : Shape := ⟨3, ![1, 384, 64]⟩
abbrev S384x64 : Shape := ⟨2, ![384, 64]⟩

abbrev nBuf : Space → Nat
  | .hbm => 5
  | .vmem => 13
  | .smem => 1
  | _ => 0

abbrev bufTy : (tb : Table) → Fin (tcTables nBuf tb) → BufTy
  | .hbm, ⟨0, _⟩ => ⟨S8, .f32⟩
  | .hbm, ⟨1, _⟩ => ⟨S8x73728x64, .bf16⟩
  | .hbm, ⟨2, _⟩ => ⟨S2x64x73728, .bf16⟩
  | .hbm, ⟨3, _⟩ => ⟨S2x73728x64, .bf16⟩
  | .hbm, ⟨4, _⟩ => ⟨S65536x512, .f32⟩
  | .local _ .vmem, ⟨0, _⟩ => ⟨S8x2048x64, .bf16⟩
  | .local _ .vmem, ⟨1, _⟩ => ⟨S8x2048x64, .bf16⟩
  | .local _ .vmem, ⟨2, _⟩ => ⟨S2x64x2048, .bf16⟩
  | .local _ .vmem, ⟨3, _⟩ => ⟨S2x64x2048, .bf16⟩
  | .local _ .vmem, ⟨4, _⟩ => ⟨S2x2048x64, .bf16⟩
  | .local _ .vmem, ⟨5, _⟩ => ⟨S2x2048x64, .bf16⟩
  | .local _ .vmem, ⟨6, _⟩ => ⟨S2x64x256, .bf16⟩
  | .local _ .vmem, ⟨7, _⟩ => ⟨S2x64x256, .bf16⟩
  | .local _ .vmem, ⟨8, _⟩ => ⟨S2x256x64, .bf16⟩
  | .local _ .vmem, ⟨9, _⟩ => ⟨S2x256x64, .bf16⟩
  | .local _ .vmem, ⟨10, _⟩ => ⟨S2048x512, .f32⟩
  | .local _ .vmem, ⟨11, _⟩ => ⟨S2048x512, .f32⟩
  | .local _ .vmem, ⟨12, _⟩ => ⟨S3x512x384, .f32⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_35 : BitVec 32 := 0#32
  let c16_i32 : BitVec 32 := 16#32
  let v125 : BitVec 32 := Scalar.addi c0_i32_35 c16_i32
  let c1_i32_36 : BitVec 32 := 1#32
  ⟨c0_i32_35, v125, c1_i32_36⟩
def k0_mult1 (k0_t1 : Fin k0_t1_loop.trips) : BitVec 32 :=
  let c0_i32_35 : BitVec 32 := 0#32
  let c1_i32_36 : BitVec 32 := 1#32
  let arg9 : BitVec 32 := Scf.iv c0_i32_35 c1_i32_36 k0_t1
  let c128_i32_81 : BitVec 32 := 128#32
  let v248 : BitVec 32 := Scalar.muli arg9 c128_i32_81
  v248
def k0_off1 (k0_t1 : Fin k0_t1_loop.trips) : Fin 3 → Nat :=
  let c0_82 : Index := 0#32
  let c0_i32_35 : BitVec 32 := 0#32
  let c1_i32_36 : BitVec 32 := 1#32
  let arg9 : BitVec 32 := Scf.iv c0_i32_35 c1_i32_36 k0_t1
  let c128_i32_81 : BitVec 32 := 128#32
  let v248 : BitVec 32 := Scalar.muli arg9 c128_i32_81
  let v249 : BitVec 32 := v248
  let v250 : Index := Scalar.indexCast v249
  let c0_83 : Index := 0#32
  ![0, v250.toNat, 0]
def k0_off2 (k0_t1 : Fin k0_t1_loop.trips) : Fin 3 → Nat :=
  let c1_84 : Index := 1#32
  let c0_i32_35 : BitVec 32 := 0#32
  let c1_i32_36 : BitVec 32 := 1#32
  let arg9 : BitVec 32 := Scf.iv c0_i32_35 c1_i32_36 k0_t1
  let c128_i32_81 : BitVec 32 := 128#32
  let v248 : BitVec 32 := Scalar.muli arg9 c128_i32_81
  let v249 : BitVec 32 := v248
  let v253 : Index := Scalar.indexCast v249
  let c0_85 : Index := 0#32
  ![1, v253.toNat, 0]
def k0_off3 (k0_t1 : Fin k0_t1_loop.trips) : Fin 3 → Nat :=
  let c2_86 : Index := 2#32
  let c0_i32_35 : BitVec 32 := 0#32
  let c1_i32_36 : BitVec 32 := 1#32
  let arg9 : BitVec 32 := Scf.iv c0_i32_35 c1_i32_36 k0_t1
  let c128_i32_81 : BitVec 32 := 128#32
  let v248 : BitVec 32 := Scalar.muli arg9 c128_i32_81
  let v249 : BitVec 32 := v248
  let v256 : Index := Scalar.indexCast v249
  let c0_87 : Index := 0#32
  ![2, v256.toNat, 0]
def k0_off4 (k0_t1 : Fin k0_t1_loop.trips) : Fin 3 → Nat :=
  let c3_88 : Index := 3#32
  let c0_i32_35 : BitVec 32 := 0#32
  let c1_i32_36 : BitVec 32 := 1#32
  let arg9 : BitVec 32 := Scf.iv c0_i32_35 c1_i32_36 k0_t1
  let c128_i32_81 : BitVec 32 := 128#32
  let v248 : BitVec 32 := Scalar.muli arg9 c128_i32_81
  let v249 : BitVec 32 := v248
  let v259 : Index := Scalar.indexCast v249
  let c0_89 : Index := 0#32
  ![3, v259.toNat, 0]
def k0_mult2 (k0_t1 : Fin k0_t1_loop.trips) : BitVec 32 :=
  let c1664_i32 : BitVec 32 := 1664#32
  let c0_i32_93 : BitVec 32 := 0#32
  let c0_i32_35 : BitVec 32 := 0#32
  let c1_i32_36 : BitVec 32 := 1#32
  let arg9 : BitVec 32 := Scf.iv c0_i32_35 c1_i32_36 k0_t1
  let c128_i32_81 : BitVec 32 := 128#32
  let v248 : BitVec 32 := Scalar.muli arg9 c128_i32_81
  let v249 : BitVec 32 := v248
  let c128_i32_92 : BitVec 32 := 128#32
  let v267 : BitVec 32 := Scalar.subi v249 c128_i32_92
  let v268 : BitVec 32 := Scalar.maxsi c0_i32_93 v267
  let v269 : BitVec 32 := Scalar.minsi c1664_i32 v268
  v269
def k0_off5 (k0_t1 : Fin k0_t1_loop.trips) : Fin 3 → Nat :=
  let c0_98 : Index := 0#32
  let c0_99 : Index := 0#32
  let c1664_i32 : BitVec 32 := 1664#32
  let c0_i32_93 : BitVec 32 := 0#32
  let c0_i32_35 : BitVec 32 := 0#32
  let c1_i32_36 : BitVec 32 := 1#32
  let arg9 : BitVec 32 := Scf.iv c0_i32_35 c1_i32_36 k0_t1
  let c128_i32_81 : BitVec 32 := 128#32
  let v248 : BitVec 32 := Scalar.muli arg9 c128_i32_81
  let v249 : BitVec 32 := v248
  let c128_i32_92 : BitVec 32 := 128#32
  let v267 : BitVec 32 := Scalar.subi v249 c128_i32_92
  let v268 : BitVec 32 := Scalar.maxsi c0_i32_93 v267
  let v269 : BitVec 32 := Scalar.minsi c1664_i32 v268
  let v270 : BitVec 32 := v269
  let v275 : Index := Scalar.indexCast v270
  ![0, 0, v275.toNat]
def k0_off6 (k0_t1 : Fin k0_t1_loop.trips) : Fin 3 → Nat :=
  let c0_i32_35 : BitVec 32 := 0#32
  let c1_i32_36 : BitVec 32 := 1#32
  let arg9 : BitVec 32 := Scf.iv c0_i32_35 c1_i32_36 k0_t1
  let c0_i32_94 : BitVec 32 := 0#32
  let v271 : BitVec 1 := Scalar.cmpi .eq arg9 c0_i32_94
  let c0_i32_97 : BitVec 32 := 0#32
  let c15_i32 : BitVec 32 := 15#32
  let v272 : BitVec 1 := Scalar.cmpi .eq arg9 c15_i32
  let c2_i32_95 : BitVec 32 := 2#32
  let c1_i32_96 : BitVec 32 := 1#32
  let v273 : BitVec 32 := Scalar.select v272 c2_i32_95 c1_i32_96
  let v274 : BitVec 32 := Scalar.select v271 c0_i32_97 v273
  let v279 : Index := Scalar.indexCast v274
  let c0_101 : Index := 0#32
  let c0_102 : Index := 0#32
  ![v279.toNat, 0, 0]
def k0_off7 (k0_t1 : Fin k0_t1_loop.trips) : Fin 3 → Nat :=
  let c0_107 : Index := 0#32
  let c1664_i32 : BitVec 32 := 1664#32
  let c0_i32_93 : BitVec 32 := 0#32
  let c0_i32_35 : BitVec 32 := 0#32
  let c1_i32_36 : BitVec 32 := 1#32
  let arg9 : BitVec 32 := Scf.iv c0_i32_35 c1_i32_36 k0_t1
  let c128_i32_81 : BitVec 32 := 128#32
  let v248 : BitVec 32 := Scalar.muli arg9 c128_i32_81
  let v249 : BitVec 32 := v248
  let c128_i32_92 : BitVec 32 := 128#32
  let v267 : BitVec 32 := Scalar.subi v249 c128_i32_92
  let v268 : BitVec 32 := Scalar.maxsi c0_i32_93 v267
  let v269 : BitVec 32 := Scalar.minsi c1664_i32 v268
  let v270 : BitVec 32 := v269
  let v303 : Index := Scalar.indexCast v270
  let c0_108 : Index := 0#32
  ![0, v303.toNat, 0]
def k0_off8 (k0_t1 : Fin k0_t1_loop.trips) : Fin 2 → Nat :=
  let c0_i32_35 : BitVec 32 := 0#32
  let c1_i32_36 : BitVec 32 := 1#32
  let arg9 : BitVec 32 := Scf.iv c0_i32_35 c1_i32_36 k0_t1
  let c128_i32_81 : BitVec 32 := 128#32
  let v248 : BitVec 32 := Scalar.muli arg9 c128_i32_81
  let v249 : BitVec 32 := v248
  let v311 : Index := Scalar.indexCast v249
  let c0_110 : Index := 0#32
  ![v311.toNat, 0]
def k0_off9 (k0_t1 : Fin k0_t1_loop.trips) : Fin 2 → Nat :=
  let c0_i32_35 : BitVec 32 := 0#32
  let c1_i32_36 : BitVec 32 := 1#32
  let arg9 : BitVec 32 := Scf.iv c0_i32_35 c1_i32_36 k0_t1
  let c128_i32_81 : BitVec 32 := 128#32
  let v248 : BitVec 32 := Scalar.muli arg9 c128_i32_81
  let v249 : BitVec 32 := v248
  let v314 : Index := Scalar.indexCast v249
  let c64 : Index := 64#32
  ![v314.toNat, 64]
def k0_off10 (k0_t1 : Fin k0_t1_loop.trips) : Fin 2 → Nat :=
  let c0_i32_35 : BitVec 32 := 0#32
  let c1_i32_36 : BitVec 32 := 1#32
  let arg9 : BitVec 32 := Scf.iv c0_i32_35 c1_i32_36 k0_t1
  let c128_i32_81 : BitVec 32 := 128#32
  let v248 : BitVec 32 := Scalar.muli arg9 c128_i32_81
  let v249 : BitVec 32 := v248
  let v317 : Index := Scalar.indexCast v249
  let c128 : Index := 128#32
  ![v317.toNat, 128]
def k0_off11 (k0_t1 : Fin k0_t1_loop.trips) : Fin 2 → Nat :=
  let c0_i32_35 : BitVec 32 := 0#32
  let c1_i32_36 : BitVec 32 := 1#32
  let arg9 : BitVec 32 := Scf.iv c0_i32_35 c1_i32_36 k0_t1
  let c128_i32_81 : BitVec 32 := 128#32
  let v248 : BitVec 32 := Scalar.muli arg9 c128_i32_81
  let v249 : BitVec 32 := v248
  let v320 : Index := Scalar.indexCast v249
  let c192 : Index := 192#32
  ![v320.toNat, 192]
@[reducible] def k0_t2_loop : Scf.Loop 32 :=
  let c0_i32_77 : BitVec 32 := 0#32
  let c16_i32_78 : BitVec 32 := 16#32
  let v247 : BitVec 32 := Scalar.addi c0_i32_77 c16_i32_78
  let c1_i32_79 : BitVec 32 := 1#32
  ⟨c0_i32_77, v247, c1_i32_79⟩
def k0_mult3 (k0_t2 : Fin k0_t2_loop.trips) : BitVec 32 :=
  let c0_i32_77 : BitVec 32 := 0#32
  let c1_i32_79 : BitVec 32 := 1#32
  let arg9 : BitVec 32 := Scf.iv c0_i32_77 c1_i32_79 k0_t2
  let c128_i32_81 : BitVec 32 := 128#32
  let v248 : BitVec 32 := Scalar.muli arg9 c128_i32_81
  v248
def k0_off12 (k0_t2 : Fin k0_t2_loop.trips) : Fin 3 → Nat :=
  let c4_82 : Index := 4#32
  let c0_i32_77 : BitVec 32 := 0#32
  let c1_i32_79 : BitVec 32 := 1#32
  let arg9 : BitVec 32 := Scf.iv c0_i32_77 c1_i32_79 k0_t2
  let c128_i32_81 : BitVec 32 := 128#32
  let v248 : BitVec 32 := Scalar.muli arg9 c128_i32_81
  let v249 : BitVec 32 := v248
  let v250 : Index := Scalar.indexCast v249
  let c0_83 : Index := 0#32
  ![4, v250.toNat, 0]
def k0_off13 (k0_t2 : Fin k0_t2_loop.trips) : Fin 3 → Nat :=
  let c5_84 : Index := 5#32
  let c0_i32_77 : BitVec 32 := 0#32
  let c1_i32_79 : BitVec 32 := 1#32
  let arg9 : BitVec 32 := Scf.iv c0_i32_77 c1_i32_79 k0_t2
  let c128_i32_81 : BitVec 32 := 128#32
  let v248 : BitVec 32 := Scalar.muli arg9 c128_i32_81
  let v249 : BitVec 32 := v248
  let v253 : Index := Scalar.indexCast v249
  let c0_85 : Index := 0#32
  ![5, v253.toNat, 0]
def k0_off14 (k0_t2 : Fin k0_t2_loop.trips) : Fin 3 → Nat :=
  let c6_86 : Index := 6#32
  let c0_i32_77 : BitVec 32 := 0#32
  let c1_i32_79 : BitVec 32 := 1#32
  let arg9 : BitVec 32 := Scf.iv c0_i32_77 c1_i32_79 k0_t2
  let c128_i32_81 : BitVec 32 := 128#32
  let v248 : BitVec 32 := Scalar.muli arg9 c128_i32_81
  let v249 : BitVec 32 := v248
  let v256 : Index := Scalar.indexCast v249
  let c0_87 : Index := 0#32
  ![6, v256.toNat, 0]
def k0_off15 (k0_t2 : Fin k0_t2_loop.trips) : Fin 3 → Nat :=
  let c7_88 : Index := 7#32
  let c0_i32_77 : BitVec 32 := 0#32
  let c1_i32_79 : BitVec 32 := 1#32
  let arg9 : BitVec 32 := Scf.iv c0_i32_77 c1_i32_79 k0_t2
  let c128_i32_81 : BitVec 32 := 128#32
  let v248 : BitVec 32 := Scalar.muli arg9 c128_i32_81
  let v249 : BitVec 32 := v248
  let v259 : Index := Scalar.indexCast v249
  let c0_89 : Index := 0#32
  ![7, v259.toNat, 0]
def k0_mult4 (k0_t2 : Fin k0_t2_loop.trips) : BitVec 32 :=
  let c1664_i32 : BitVec 32 := 1664#32
  let c0_i32_93 : BitVec 32 := 0#32
  let c0_i32_77 : BitVec 32 := 0#32
  let c1_i32_79 : BitVec 32 := 1#32
  let arg9 : BitVec 32 := Scf.iv c0_i32_77 c1_i32_79 k0_t2
  let c128_i32_81 : BitVec 32 := 128#32
  let v248 : BitVec 32 := Scalar.muli arg9 c128_i32_81
  let v249 : BitVec 32 := v248
  let c128_i32_92 : BitVec 32 := 128#32
  let v267 : BitVec 32 := Scalar.subi v249 c128_i32_92
  let v268 : BitVec 32 := Scalar.maxsi c0_i32_93 v267
  let v269 : BitVec 32 := Scalar.minsi c1664_i32 v268
  v269
def k0_off16 (k0_t2 : Fin k0_t2_loop.trips) : Fin 3 → Nat :=
  let c1_98 : Index := 1#32
  let c0_99 : Index := 0#32
  let c1664_i32 : BitVec 32 := 1664#32
  let c0_i32_93 : BitVec 32 := 0#32
  let c0_i32_77 : BitVec 32 := 0#32
  let c1_i32_79 : BitVec 32 := 1#32
  let arg9 : BitVec 32 := Scf.iv c0_i32_77 c1_i32_79 k0_t2
  let c128_i32_81 : BitVec 32 := 128#32
  let v248 : BitVec 32 := Scalar.muli arg9 c128_i32_81
  let v249 : BitVec 32 := v248
  let c128_i32_92 : BitVec 32 := 128#32
  let v267 : BitVec 32 := Scalar.subi v249 c128_i32_92
  let v268 : BitVec 32 := Scalar.maxsi c0_i32_93 v267
  let v269 : BitVec 32 := Scalar.minsi c1664_i32 v268
  let v270 : BitVec 32 := v269
  let v275 : Index := Scalar.indexCast v270
  ![1, 0, v275.toNat]
def k0_off17 (k0_t2 : Fin k0_t2_loop.trips) : Fin 3 → Nat :=
  let c0_i32_77 : BitVec 32 := 0#32
  let c1_i32_79 : BitVec 32 := 1#32
  let arg9 : BitVec 32 := Scf.iv c0_i32_77 c1_i32_79 k0_t2
  let c0_i32_94 : BitVec 32 := 0#32
  let v271 : BitVec 1 := Scalar.cmpi .eq arg9 c0_i32_94
  let c0_i32_97 : BitVec 32 := 0#32
  let c15_i32 : BitVec 32 := 15#32
  let v272 : BitVec 1 := Scalar.cmpi .eq arg9 c15_i32
  let c2_i32_95 : BitVec 32 := 2#32
  let c1_i32_96 : BitVec 32 := 1#32
  let v273 : BitVec 32 := Scalar.select v272 c2_i32_95 c1_i32_96
  let v274 : BitVec 32 := Scalar.select v271 c0_i32_97 v273
  let v279 : Index := Scalar.indexCast v274
  let c0_101 : Index := 0#32
  let c0_102 : Index := 0#32
  ![v279.toNat, 0, 0]
def k0_off18 (k0_t2 : Fin k0_t2_loop.trips) : Fin 3 → Nat :=
  let c1_107 : Index := 1#32
  let c1664_i32 : BitVec 32 := 1664#32
  let c0_i32_93 : BitVec 32 := 0#32
  let c0_i32_77 : BitVec 32 := 0#32
  let c1_i32_79 : BitVec 32 := 1#32
  let arg9 : BitVec 32 := Scf.iv c0_i32_77 c1_i32_79 k0_t2
  let c128_i32_81 : BitVec 32 := 128#32
  let v248 : BitVec 32 := Scalar.muli arg9 c128_i32_81
  let v249 : BitVec 32 := v248
  let c128_i32_92 : BitVec 32 := 128#32
  let v267 : BitVec 32 := Scalar.subi v249 c128_i32_92
  let v268 : BitVec 32 := Scalar.maxsi c0_i32_93 v267
  let v269 : BitVec 32 := Scalar.minsi c1664_i32 v268
  let v270 : BitVec 32 := v269
  let v303 : Index := Scalar.indexCast v270
  let c0_108 : Index := 0#32
  ![1, v303.toNat, 0]
def k0_off19 (k0_t2 : Fin k0_t2_loop.trips) : Fin 2 → Nat :=
  let c0_i32_77 : BitVec 32 := 0#32
  let c1_i32_79 : BitVec 32 := 1#32
  let arg9 : BitVec 32 := Scf.iv c0_i32_77 c1_i32_79 k0_t2
  let c128_i32_81 : BitVec 32 := 128#32
  let v248 : BitVec 32 := Scalar.muli arg9 c128_i32_81
  let v249 : BitVec 32 := v248
  let v311 : Index := Scalar.indexCast v249
  let c256 : Index := 256#32
  ![v311.toNat, 256]
def k0_off20 (k0_t2 : Fin k0_t2_loop.trips) : Fin 2 → Nat :=
  let c0_i32_77 : BitVec 32 := 0#32
  let c1_i32_79 : BitVec 32 := 1#32
  let arg9 : BitVec 32 := Scf.iv c0_i32_77 c1_i32_79 k0_t2
  let c128_i32_81 : BitVec 32 := 128#32
  let v248 : BitVec 32 := Scalar.muli arg9 c128_i32_81
  let v249 : BitVec 32 := v248
  let v314 : Index := Scalar.indexCast v249
  let c320 : Index := 320#32
  ![v314.toNat, 320]
def k0_off21 (k0_t2 : Fin k0_t2_loop.trips) : Fin 2 → Nat :=
  let c0_i32_77 : BitVec 32 := 0#32
  let c1_i32_79 : BitVec 32 := 1#32
  let arg9 : BitVec 32 := Scf.iv c0_i32_77 c1_i32_79 k0_t2
  let c128_i32_81 : BitVec 32 := 128#32
  let v248 : BitVec 32 := Scalar.muli arg9 c128_i32_81
  let v249 : BitVec 32 := v248
  let v317 : Index := Scalar.indexCast v249
  let c384 : Index := 384#32
  ![v317.toNat, 384]
def k0_off22 (k0_t2 : Fin k0_t2_loop.trips) : Fin 2 → Nat :=
  let c0_i32_77 : BitVec 32 := 0#32
  let c1_i32_79 : BitVec 32 := 1#32
  let arg9 : BitVec 32 := Scf.iv c0_i32_77 c1_i32_79 k0_t2
  let c128_i32_81 : BitVec 32 := 128#32
  let v248 : BitVec 32 := Scalar.muli arg9 c128_i32_81
  let v249 : BitVec 32 := v248
  let v320 : Index := Scalar.indexCast v249
  let c448 : Index := 448#32
  ![v320.toNat, 448]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8 : Shape := ⟨1, ![8]⟩
abbrev S8x73728x64 : Shape := ⟨3, ![8, 73728, 64]⟩
abbrev S2x64x73728 : Shape := ⟨3, ![2, 64, 73728]⟩
abbrev S2x73728x64 : Shape := ⟨3, ![2, 73728, 64]⟩
abbrev S2x4 : Shape := ⟨2, ![2, 4]⟩
abbrev S8x65536x64 : Shape := ⟨3, ![8, 65536, 64]⟩
abbrev S2x4x32x2048x64 : Shape := ⟨5, ![2, 4, 32, 2048, 64]⟩
abbrev S2x64x65536 : Shape := ⟨3, ![2, 64, 65536]⟩
abbrev S2x64x32x2048 : Shape := ⟨4, ![2, 64, 32, 2048]⟩
abbrev S2x64x8192 : Shape := ⟨3, ![2, 64, 8192]⟩
abbrev S2x64x32x256 : Shape := ⟨4, ![2, 64, 32, 256]⟩
abbrev S2x65536x64 : Shape := ⟨3, ![2, 65536, 64]⟩
abbrev S2x32x2048x64 : Shape := ⟨4, ![2, 32, 2048, 64]⟩
abbrev S2x8192x64 : Shape := ⟨3, ![2, 8192, 64]⟩
abbrev S2x32x256x64 : Shape := ⟨4, ![2, 32, 256, 64]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S32x2x4x2048x2048 : Shape := ⟨5, ![32, 2, 4, 2048, 2048]⟩
abbrev S32x2x4x2048x256 : Shape := ⟨5, ![32, 2, 4, 2048, 256]⟩
abbrev S1x2x4x1x1 : Shape := ⟨5, ![1, 2, 4, 1, 1]⟩
abbrev S32x2x4x2048x1 : Shape := ⟨5, ![32, 2, 4, 2048, 1]⟩
abbrev S32x2x4x2048x2305 : Shape := ⟨5, ![32, 2, 4, 2048, 2305]⟩
abbrev S32x2x4x2048 : Shape := ⟨4, ![32, 2, 4, 2048]⟩
abbrev S32x2x64x4x2048 : Shape := ⟨5, ![32, 2, 64, 4, 2048]⟩
abbrev S32x2048x2x4x64 : Shape := ⟨5, ![32, 2048, 2, 4, 64]⟩
abbrev S65536x512 : Shape := ⟨2, ![65536, 512]⟩

abbrev nBuf : Space → Nat
  | .hbm => 65
  | .vmem => 0
  | .smem => 0
  | _ => 0

abbrev bufTy : (tb : Table) → Fin (tcTables nBuf tb) → BufTy
  | .hbm, ⟨0, _⟩ => ⟨S8, .f32⟩
  | .hbm, ⟨1, _⟩ => ⟨S8x73728x64, .bf16⟩
  | .hbm, ⟨2, _⟩ => ⟨S2x64x73728, .bf16⟩
  | .hbm, ⟨3, _⟩ => ⟨S2x73728x64, .bf16⟩
  | .hbm, ⟨4, _⟩ => ⟨S2x4, .f32⟩
  | .hbm, ⟨5, _⟩ => ⟨S8x65536x64, .bf16⟩
  | .hbm, ⟨6, _⟩ => ⟨S2x4x32x2048x64, .bf16⟩
  | .hbm, ⟨7, _⟩ => ⟨S2x64x65536, .bf16⟩
  | .hbm, ⟨8, _⟩ => ⟨S2x64x32x2048, .bf16⟩
  | .hbm, ⟨9, _⟩ => ⟨S2x64x8192, .bf16⟩
  | .hbm, ⟨10, _⟩ => ⟨S2x64x32x256, .bf16⟩
  | .hbm, ⟨11, _⟩ => ⟨S2x65536x64, .bf16⟩
  | .hbm, ⟨12, _⟩ => ⟨S2x32x2048x64, .bf16⟩
  | .hbm, ⟨13, _⟩ => ⟨S2x8192x64, .bf16⟩
  | .hbm, ⟨14, _⟩ => ⟨S2x32x256x64, .bf16⟩
  | .hbm, ⟨15, _⟩ => ⟨S2048, .i32⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i32⟩
  | .hbm, ⟨21, _⟩ => ⟨S2048x2048, .i32⟩
  | .hbm, ⟨22, _⟩ => ⟨S_, .i32⟩
  | .hbm, ⟨23, _⟩ => ⟨S2048x2048, .i32⟩
  | .hbm, ⟨24, _⟩ => ⟨S2048x2048, .i1⟩
  | .hbm, ⟨25, _⟩ => ⟨S32x2x4x2048x2048, .f32⟩
  | .hbm, ⟨26, _⟩ => ⟨S32x2x4x2048x2048, .bf16⟩
  | .hbm, ⟨27, _⟩ => ⟨S32x2x4x2048x2048, .f32⟩
  | .hbm, ⟨28, _⟩ => ⟨S_, .f32⟩
  | .hbm, ⟨29, _⟩ => ⟨S_, .f32⟩
  | .hbm, ⟨30, _⟩ => ⟨S32x2x4x2048x2048, .i1⟩
  | .hbm, ⟨31, _⟩ => ⟨S32x2x4x2048x2048, .f32⟩
  | .hbm, ⟨32, _⟩ => ⟨S32x2x4x2048x2048, .f32⟩
  | .hbm, ⟨33, _⟩ => ⟨S32x2x4x2048x256, .f32⟩
  | .hbm, ⟨34, _⟩ => ⟨S32x2x4x2048x256, .bf16⟩
  | .hbm, ⟨35, _⟩ => ⟨S32x2x4x2048x256, .f32⟩
  | .hbm, ⟨36, _⟩ => ⟨S1x2x4x1x1, .f32⟩
  | .hbm, ⟨37, _⟩ => ⟨S32x2x4x2048x1, .f32⟩
  | .hbm, ⟨38, _⟩ => ⟨S32x2x4x2048x2305, .f32⟩
  | .hbm, ⟨39, _⟩ => ⟨S_, .f32⟩
  | .hbm, ⟨40, _⟩ => ⟨S32x2x4x2048, .f32⟩
  | .hbm, ⟨41, _⟩ => ⟨S_, .f32⟩
  | .hbm, ⟨42, _⟩ => ⟨S32x2x4x2048, .f32⟩
  | .hbm, ⟨43, _⟩ => ⟨S32x2x4x2048, .f32⟩
  | .hbm, ⟨44, _⟩ => ⟨S32x2x4x2048x1, .f32⟩
  | .hbm, ⟨45, _⟩ => ⟨S32x2x4x2048x2305, .f32⟩
  | .hbm, ⟨46, _⟩ => ⟨S32x2x4x2048x2305, .f32⟩
  | .hbm, ⟨47, _⟩ => ⟨S32x2x4x2048x2305, .f32⟩
  | .hbm, ⟨48, _⟩ => ⟨S_, .f32⟩
  | .hbm, ⟨49, _⟩ => ⟨S32x2x4x2048, .f32⟩
  | .hbm, ⟨50, _⟩ => ⟨S32x2x4x2048x1, .f32⟩
  | .hbm, ⟨51, _⟩ => ⟨S32x2x4x2048x2305, .f32⟩
  | .hbm, ⟨52, _⟩ => ⟨S32x2x4x2048x2305, .f32⟩
  | .hbm, ⟨53, _⟩ => ⟨S32x2x4x2048x2305, .bf16⟩
  | .hbm, ⟨54, _⟩ => ⟨S32x2x4x2048x2048, .bf16⟩
  | .hbm, ⟨55, _⟩ => ⟨S32x2x64x4x2048, .f32⟩
  | .hbm, ⟨56, _⟩ => ⟨S32x2048x2x4x64, .f32⟩
  | .hbm, ⟨57, _⟩ => ⟨S32x2048x2x4x64, .bf16⟩
  | .hbm, ⟨58, _⟩ => ⟨S32x2x4x2048x256, .bf16⟩
  | .hbm, ⟨59, _⟩ => ⟨S32x2x64x4x2048, .f32⟩
  | .hbm, ⟨60, _⟩ => ⟨S32x2048x2x4x64, .f32⟩
  | .hbm, ⟨61, _⟩ => ⟨S32x2048x2x4x64, .bf16⟩
  | .hbm, ⟨62, _⟩ => ⟨S32x2048x2x4x64, .bf16⟩
  | .hbm, ⟨63, _⟩ => ⟨S65536x512, .bf16⟩
  | .hbm, ⟨64, _⟩ => ⟨S65536x512, .f32⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_0 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_2 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩

abbrev nD : Nat := 1
abbrev τ : Topo := Topo.v7x

variable {F : FTy → Type} [FloatOps F]
-- ==== Kernel2.lean ====
abbrev S73728x1024 : Shape := ⟨2, ![73728, 1024]⟩
abbrev S33x6x1024 : Shape := ⟨3, ![33, 6, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1x6x1024 : Shape := ⟨3, ![1, 6, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 11
  | .vmem => 11
  | .smem => 0
  | _ => 0

abbrev bufTy : (tb : Table) → Fin (tcTables nBuf tb) → BufTy
  | .hbm, ⟨0, _⟩ => ⟨S73728x1024, .f32⟩
  | .hbm, ⟨1, _⟩ => ⟨S33x6x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S73728x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![144], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32 : BitVec 32 := 32#32
  let v17 : BitVec 32 := Scalar.minsi v16 c32_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S73728x1024 : Shape := ⟨2, ![73728, 1024]⟩
abbrev S33x6x1024 : Shape := ⟨3, ![33, 6, 1024]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S32x2048x1024 : Shape := ⟨3, ![32, 2048, 1024]⟩
abbrev S8192x1024 : Shape := ⟨2, ![8192, 1024]⟩
abbrev S32x256x1024 : Shape := ⟨3, ![32, 256, 1024]⟩
abbrev S32x6x1024 : Shape := ⟨3, ![32, 6, 1024]⟩
abbrev S32x6x1x1024 : Shape := ⟨4, ![32, 6, 1, 1024]⟩
abbrev S1x6x1024 : Shape := ⟨3, ![1, 6, 1024]⟩
abbrev S6x1024 : Shape := ⟨2, ![6, 1024]⟩
abbrev S32x1x1x1024 : Shape := ⟨4, ![32, 1, 1, 1024]⟩
abbrev S32x1x1024 : Shape := ⟨3, ![32, 1, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2816 : Shape := ⟨3, ![32, 2048, 2816]⟩
abbrev S1x1024 : Shape := ⟨2, ![1, 1024]⟩
abbrev S32x256 : Shape := ⟨2, ![32, 256]⟩
abbrev S32x256x1 : Shape := ⟨3, ![32, 256, 1]⟩
abbrev S32x256x2816 : Shape := ⟨3, ![32, 256, 2816]⟩

abbrev nBuf : Space → Nat
  | .hbm => 110
  | .vmem => 0
  | .smem => 0
  | _ => 0

abbrev bufTy : (tb : Table) → Fin (tcTables nBuf tb) → BufTy
  | .hbm, ⟨0, _⟩ => ⟨S73728x1024, .f32⟩
  | .hbm, ⟨1, _⟩ => ⟨S33x6x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S65536x1024, .f32⟩
  | .hbm, ⟨7, _⟩ => ⟨S32x2048x1024, .f32⟩
  | .hbm, ⟨8, _⟩ => ⟨S8192x1024, .f32⟩
  | .hbm, ⟨9, _⟩ => ⟨S32x256x1024, .f32⟩
  | .hbm, ⟨10, _⟩ => ⟨S32x6x1024, .f32⟩
  | .hbm, ⟨11, _⟩ => ⟨S32x6x1x1024, .f32⟩
  | .hbm, ⟨12, _⟩ => ⟨S1x6x1024, .f32⟩
  | .hbm, ⟨13, _⟩ => ⟨S6x1024, .f32⟩
  | .hbm, ⟨14, _⟩ => ⟨S32x1x1x1024, .f32⟩
  | .hbm, ⟨15, _⟩ => ⟨S32x1x1024, .f32⟩
  | .hbm, ⟨16, _⟩ => ⟨S32x2048x1024, .f32⟩
  | .hbm, ⟨17, _⟩ => ⟨S_, .f32⟩
  | .hbm, ⟨18, _⟩ => ⟨S32x2048, .f32⟩
  | .hbm, ⟨19, _⟩ => ⟨S32x2048x1, .f32⟩
  | .hbm, ⟨20, _⟩ => ⟨S_, .f32⟩
  | .hbm, ⟨21, _⟩ => ⟨S32x2048x1, .f32⟩
  | .hbm, ⟨22, _⟩ => ⟨S32x2048x1, .f32⟩
  | .hbm, ⟨23, _⟩ => ⟨S_, .f32⟩
  | .hbm, ⟨24, _⟩ => ⟨S32x2048x1, .f32⟩
  | .hbm, ⟨25, _⟩ => ⟨S32x2048x1, .f32⟩
  | .hbm, ⟨26, _⟩ => ⟨S32x2048x1, .f32⟩
  | .hbm, ⟨27, _⟩ => ⟨S32x2048x1024, .f32⟩
  | .hbm, ⟨28, _⟩ => ⟨S32x2048x1024, .f32⟩
  | .hbm, ⟨29, _⟩ => ⟨S1x1x1024, .f32⟩
  | .hbm, ⟨30, _⟩ => ⟨S32x2048x1024, .f32⟩
  | .hbm, ⟨31, _⟩ => ⟨S32x2048x1024, .f32⟩
  | .hbm, ⟨32, _⟩ => ⟨S32x1x1x1024, .f32⟩
  | .hbm, ⟨33, _⟩ => ⟨S32x1x1024, .f32⟩
  | .hbm, ⟨34, _⟩ => ⟨S_, .f32⟩
  | .hbm, ⟨35, _⟩ => ⟨S32x1x1024, .f32⟩
  | .hbm, ⟨36, _⟩ => ⟨S32x1x1024, .f32⟩
  | .hbm, ⟨37, _⟩ => ⟨S32x2048x1024, .f32⟩
  | .hbm, ⟨38, _⟩ => ⟨S32x2048x1024, .f32⟩
  | .hbm, ⟨39, _⟩ => ⟨S32x1x1x1024, .f32⟩
  | .hbm, ⟨40, _⟩ => ⟨S32x1x1024, .f32⟩
  | .hbm, ⟨41, _⟩ => ⟨S32x2048x1024, .f32⟩
  | .hbm, ⟨42, _⟩ => ⟨S32x2048x1024, .f32⟩
  | .hbm, ⟨43, _⟩ => ⟨S32x2048x2816, .f32⟩
  | .hbm, ⟨44, _⟩ => ⟨S32x2048x2816, .f32⟩
  | .hbm, ⟨45, _⟩ => ⟨S32x2048x2816, .f32⟩
  | .hbm, ⟨46, _⟩ => ⟨S_, .f32⟩
  | .hbm, ⟨47, _⟩ => ⟨S32x2048x2816, .f32⟩
  | .hbm, ⟨48, _⟩ => ⟨S32x2048x2816, .f32⟩
  | .hbm, ⟨49, _⟩ => ⟨S_, .f32⟩
  | .hbm, ⟨50, _⟩ => ⟨S32x2048x2816, .f32⟩
  | .hbm, ⟨51, _⟩ => ⟨S32x2048x2816, .f32⟩
  | .hbm, ⟨52, _⟩ => ⟨S32x2048x2816, .f32⟩
  | .hbm, ⟨53, _⟩ => ⟨S32x2048x2816, .f32⟩
  | .hbm, ⟨54, _⟩ => ⟨S32x2048x2816, .f32⟩
  | .hbm, ⟨55, _⟩ => ⟨S32x2048x1024, .f32⟩
  | .hbm, ⟨56, _⟩ => ⟨S32x2048x1024, .f32⟩
  | .hbm, ⟨57, _⟩ => ⟨S32x2048x1024, .f32⟩
  | .hbm, ⟨58, _⟩ => ⟨S32x2048x1024, .f32⟩
  | .hbm, ⟨59, _⟩ => ⟨S1x1024, .f32⟩
  | .hbm, ⟨60, _⟩ => ⟨S1024, .f32⟩
  | .hbm, ⟨61, _⟩ => ⟨S32x256x1024, .f32⟩
  | .hbm, ⟨62, _⟩ => ⟨S_, .f32⟩
  | .hbm, ⟨63, _⟩ => ⟨S32x256, .f32⟩
  | .hbm, ⟨64, _⟩ => ⟨S32x256x1, .f32⟩
  | .hbm, ⟨65, _⟩ => ⟨S_, .f32⟩
  | .hbm, ⟨66, _⟩ => ⟨S32x256x1, .f32⟩
  | .hbm, ⟨67, _⟩ => ⟨S32x256x1, .f32⟩
  | .hbm, ⟨68, _⟩ => ⟨S_, .f32⟩
  | .hbm, ⟨69, _⟩ => ⟨S32x256x1, .f32⟩
  | .hbm, ⟨70, _⟩ => ⟨S32x256x1, .f32⟩
  | .hbm, ⟨71, _⟩ => ⟨S32x256x1, .f32⟩
  | .hbm, ⟨72, _⟩ => ⟨S32x256x1024, .f32⟩
  | .hbm, ⟨73, _⟩ => ⟨S32x256x1024, .f32⟩
  | .hbm, ⟨74, _⟩ => ⟨S1x1x1024, .f32⟩
  | .hbm, ⟨75, _⟩ => ⟨S32x256x1024, .f32⟩
  | .hbm, ⟨76, _⟩ => ⟨S32x256x1024, .f32⟩
  | .hbm, ⟨77, _⟩ => ⟨S1x1024, .f32⟩
  | .hbm, ⟨78, _⟩ => ⟨S1024, .f32⟩
  | .hbm, ⟨79, _⟩ => ⟨S_, .f32⟩
  | .hbm, ⟨80, _⟩ => ⟨S1024, .f32⟩
  | .hbm, ⟨81, _⟩ => ⟨S1024, .f32⟩
  | .hbm, ⟨82, _⟩ => ⟨S1x1x1024, .f32⟩
  | .hbm, ⟨83, _⟩ => ⟨S32x256x1024, .f32⟩
  | .hbm, ⟨84, _⟩ => ⟨S32x256x1024, .f32⟩
  | .hbm, ⟨85, _⟩ => ⟨S1x1024, .f32⟩
  | .hbm, ⟨86, _⟩ => ⟨S1024, .f32⟩
  | .hbm, ⟨87, _⟩ => ⟨S1x1x1024, .f32⟩
  | .hbm, ⟨88, _⟩ => ⟨S32x256x1024, .f32⟩
  | .hbm, ⟨89, _⟩ => ⟨S32x256x1024, .f32⟩
  | .hbm, ⟨90, _⟩ => ⟨S32x256x2816, .f32⟩
  | .hbm, ⟨91, _⟩ => ⟨S32x256x2816, .f32⟩
  | .hbm, ⟨92, _⟩ => ⟨S32x256x2816, .f32⟩
  | .hbm, ⟨93, _⟩ => ⟨S_, .f32⟩
  | .hbm, ⟨94, _⟩ => ⟨S32x256x2816, .f32⟩
  | .hbm, ⟨95, _⟩ => ⟨S32x256x2816, .f32⟩
  | .hbm, ⟨96, _⟩ => ⟨S_, .f32⟩
  | .hbm, ⟨97, _⟩ => ⟨S32x256x2816, .f32⟩
  | .hbm, ⟨98, _⟩ => ⟨S32x256x2816, .f32⟩
  | .hbm, ⟨99, _⟩ => ⟨S32x256x2816, .f32⟩
  | .hbm, ⟨100, _⟩ => ⟨S32x256x2816, .f32⟩
  | .hbm, ⟨101, _⟩ => ⟨S32x256x2816, .f32⟩
  | .hbm, ⟨102, _⟩ => ⟨S32x256x1024, .f32⟩
  | .hbm, ⟨103, _⟩ => ⟨S1x1x1024, .f32⟩
  | .hbm, ⟨104, _⟩ => ⟨S32x256x1024, .f32⟩
  | .hbm, ⟨105, _⟩ => ⟨S32x256x1024, .f32⟩
  | .hbm, ⟨106, _⟩ => ⟨S32x256x1024, .f32⟩
  | .hbm, ⟨107, _⟩ => ⟨S65536x1024, .f32⟩
  | .hbm, ⟨108, _⟩ => ⟨S8192x1024, .f32⟩
  | .hbm, ⟨109, _⟩ => ⟨S73728x1024, .f32⟩
  | _, _ => ⟨S73728x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_3 : Ref sig .tc := ⟨.hbm, 62, rfl⟩
abbrev main_v44 : Ref sig .tc := ⟨.hbm, 63, rfl⟩
abbrev main_v45 : Ref sig .tc := ⟨.hbm, 64, rfl⟩
abbrev main_cst_4 : Ref sig .tc := ⟨.hbm, 65, rfl⟩
abbrev main_v46 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_6 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_call1_v0 : Ref sig .tc := ⟨.hbm, 91, rfl⟩
abbrev main_call1_v1 : Ref sig .tc := ⟨.hbm, 92, rfl⟩
abbrev main_call1_cst : Ref sig .tc := ⟨.hbm, 93, rfl⟩
abbrev main_call1_v2 : Ref sig .tc := ⟨.hbm, 94, rfl⟩
abbrev main_call1_v3 : Ref sig .tc := ⟨.hbm, 95, rfl⟩
abbrev main_call1_cst_0 : Ref sig .tc := ⟨.hbm, 96, rfl⟩
abbrev main_call1_v4 : Ref sig .tc := ⟨.hbm, 97, rfl⟩
abbrev main_call1_v5 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]
-- ==== Kernel3.lean ====
abbrev S8 : Shape := ⟨1, ![8]⟩
abbrev S151552x1024 : Shape := ⟨2, ![151552, 1024]⟩
abbrev S8x1024x2816 : Shape := ⟨3, ![8, 1024, 2816]⟩
abbrev S8x2816x1024 : Shape := ⟨3, ![8, 2816, 1024]⟩
abbrev S_ : Shape := ⟨0, ![]⟩
abbrev S296 : Shape := ⟨1, ![296]⟩
abbrev S296x1 : Shape := ⟨2, ![296, 1]⟩
abbrev S1x8 : Shape := ⟨2, ![1, 8]⟩
abbrev S296x8 : Shape := ⟨2, ![296, 8]⟩
abbrev S1 : Shape := ⟨1, ![1]⟩
abbrev S512x1024 : Shape := ⟨2, ![512, 1024]⟩
abbrev S1x1024x2816 : Shape := ⟨3, ![1, 1024, 2816]⟩
abbrev S1x2816x1024 : Shape := ⟨3, ![1, 2816, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 71
  | .vmem => 11
  | .smem => 2
  | _ => 0

abbrev bufTy : (tb : Table) → Fin (tcTables nBuf tb) → BufTy
  | .hbm, ⟨0, _⟩ => ⟨S8, .i32⟩
  | .hbm, ⟨1, _⟩ => ⟨S151552x1024, .f32⟩
  | .hbm, ⟨2, _⟩ => ⟨S8x1024x2816, .f32⟩
  | .hbm, ⟨3, _⟩ => ⟨S8x1024x2816, .f32⟩
  | .hbm, ⟨4, _⟩ => ⟨S8x2816x1024, .f32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i1⟩
  | .hbm, ⟨19, _⟩ => ⟨S8, .i32⟩
  | .hbm, ⟨20, _⟩ => ⟨S8, .i32⟩
  | .hbm, ⟨21, _⟩ => ⟨S_, .i32⟩
  | .hbm, ⟨22, _⟩ => ⟨S8, .i32⟩
  | .hbm, ⟨23, _⟩ => ⟨S8, .i1⟩
  | .hbm, ⟨24, _⟩ => ⟨S8, .i1⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S8, .i32⟩
  | .hbm, ⟨29, _⟩ => ⟨S_, .i32⟩
  | .hbm, ⟨30, _⟩ => ⟨S8, .i32⟩
  | .hbm, ⟨31, _⟩ => ⟨S8, .i32⟩
  | .hbm, ⟨32, _⟩ => ⟨S_, .i32⟩
  | .hbm, ⟨33, _⟩ => ⟨S_, .i32⟩
  | .hbm, ⟨34, _⟩ => ⟨S8, .i32⟩
  | .hbm, ⟨35, _⟩ => ⟨S296, .i32⟩
  | .hbm, ⟨36, _⟩ => ⟨S_, .i32⟩
  | .hbm, ⟨37, _⟩ => ⟨S296, .i32⟩
  | .hbm, ⟨38, _⟩ => ⟨S296, .i32⟩
  | .hbm, ⟨39, _⟩ => ⟨S296x1, .i32⟩
  | .hbm, ⟨40, _⟩ => ⟨S1x8, .i32⟩
  | .hbm, ⟨41, _⟩ => ⟨S296x8, .i32⟩
  | .hbm, ⟨42, _⟩ => ⟨S296x8, .i32⟩
  | .hbm, ⟨43, _⟩ => ⟨S296x8, .i1⟩
  | .hbm, ⟨44, _⟩ => ⟨S296x8, .i32⟩
  | .hbm, ⟨45, _⟩ => ⟨S_, .i32⟩
  | .hbm, ⟨46, _⟩ => ⟨S296, .i32⟩
  | .hbm, ⟨47, _⟩ => ⟨S_, .i32⟩
  | .hbm, ⟨48, _⟩ => ⟨S296, .i32⟩
  | .hbm, ⟨49, _⟩ => ⟨S1, .i32⟩
  | .hbm, ⟨50, _⟩ => ⟨S_, .i32⟩
  | .hbm, ⟨51, _⟩ => ⟨S_, .i32⟩
  | .hbm, ⟨52, _⟩ => ⟨S1, .i32⟩
  | .hbm, ⟨53, _⟩ => ⟨S1, .i32⟩
  | .hbm, ⟨54, _⟩ => ⟨S1, .i32⟩
  | .hbm, ⟨55, _⟩ => ⟨S_, .i32⟩
  | .hbm, ⟨56, _⟩ => ⟨S1, .i32⟩
  | .hbm, ⟨57, _⟩ => ⟨S1, .i1⟩
  | .hbm, ⟨58, _⟩ => ⟨S1, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S1, .i1⟩
  | .hbm, ⟨63, _⟩ => ⟨S1, .i1⟩
  | .hbm, ⟨64, _⟩ => ⟨S_, .i32⟩
  | .hbm, ⟨65, _⟩ => ⟨S1, .i32⟩
  | .hbm, ⟨66, _⟩ => ⟨S1, .i32⟩
  | .hbm, ⟨67, _⟩ => ⟨S8x1024x2816, .bf16⟩
  | .hbm, ⟨68, _⟩ => ⟨S8x1024x2816, .bf16⟩
  | .hbm, ⟨69, _⟩ => ⟨S8x2816x1024, .bf16⟩
  | .hbm, ⟨70, _⟩ => ⟨S151552x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x2816x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .smem, ⟨0, _⟩ => ⟨S296, .i32⟩
  | .local _ .smem, ⟨1, _⟩ => ⟨S1, .i32⟩
  | _, _ => ⟨S8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v20 : Ref sig .tc := ⟨.hbm, 49, rfl⟩
abbrev main_c_6 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_c : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_0 : Ref sig .tc := ⟨.hbm, 64, rfl⟩
abbrev main_call2_v12 : Ref sig .tc := ⟨.hbm, 65, rfl⟩
abbrev main_call2_v13 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v19 : Ref sig .tc := ⟨.smem, 0, rfl⟩
abbrev main_v21 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![296], ![false]⟩

abbrev pre0 : Pipeline.Prefetch sig := ⟨2, ![main_v19.idx, main_v21.idx], fun | 0 => main_v19.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S8 : Shape := ⟨1, ![8]⟩
abbrev S151552x1024 : Shape := ⟨2, ![151552, 1024]⟩
abbrev S8x1024x2816 : Shape := ⟨3, ![8, 1024, 2816]⟩
abbrev S8x2816x1024 : Shape := ⟨3, ![8, 2816, 1024]⟩
abbrev S151552 : Shape := ⟨1, ![151552]⟩
abbrev S_ : Shape := ⟨0, ![]⟩
abbrev S1 : Shape := ⟨1, ![1]⟩
abbrev S151552x1 : Shape := ⟨2, ![151552, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S151552x2816 : Shape := ⟨2, ![151552, 2816]⟩

abbrev nBuf : Space → Nat
  | .hbm => 418
  | .vmem => 0
  | .smem => 0
  | _ => 0

abbrev hbmTy0_0 (i : Nat) : BufTy := match i % 128 with
  | 0 => ⟨S8, .i32⟩
  | 1 => ⟨S151552x1024, .f32⟩
  | 2 => ⟨S8x1024x2816, .f32⟩
  | 3 => ⟨S8x1024x2816, .f32⟩
  | 4 => ⟨S8x2816x1024, .f32⟩
  | 5 => ⟨S151552, .i32⟩
  | 6 => ⟨S_, .f32⟩
  | 7 => ⟨S151552x1024, .f32⟩
  | 8 => ⟨S1, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S_, .i1⟩
  | 23 => ⟨S_, .i1⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S151552, .i32⟩
  | 33 => ⟨S151552, .i1⟩
  | 34 => ⟨S151552, .i32⟩
  | 35 => ⟨S151552, .i1⟩
  | 36 => ⟨S151552, .i1⟩
  | 37 => ⟨S151552, .f32⟩
  | 38 => ⟨S151552x1, .f32⟩
  | 39 => ⟨S1x1024x2816, .f32⟩
  | 40 => ⟨S1024x2816, .f32⟩
  | 41 => ⟨S1x1024x2816, .f32⟩
  | 42 => ⟨S1024x2816, .f32⟩
  | 43 => ⟨S1x2816x1024, .f32⟩
  | 44 => ⟨S2816x1024, .f32⟩
  | 45 => ⟨S151552x2816, .f32⟩
  | 46 => ⟨S151552x2816, .f32⟩
  | 47 => ⟨S151552x2816, .f32⟩
  | 48 => ⟨S_, .f32⟩
  | 49 => ⟨S151552x2816, .f32⟩
  | 50 => ⟨S151552x2816, .f32⟩
  | 51 => ⟨S_, .f32⟩
  | 52 => ⟨S151552x2816, .f32⟩
  | 53 => ⟨S151552x2816, .f32⟩
  | 54 => ⟨S151552x2816, .f32⟩
  | 55 => ⟨S151552x2816, .f32⟩
  | 56 => ⟨S151552x2816, .f32⟩
  | 57 => ⟨S151552x1024, .f32⟩
  | 58 => ⟨S151552x1024, .f32⟩
  | 59 => ⟨S151552x1024, .f32⟩
  | 60 => ⟨S151552x1024, .f32⟩
  | 61 => ⟨S1, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S_, .i1⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S151552, .i32⟩
  | 84 => ⟨S151552, .i1⟩
  | 85 => ⟨S151552, .i32⟩
  | 86 => ⟨S151552, .i1⟩
  | 87 => ⟨S151552, .i1⟩
  | 88 => ⟨S151552, .f32⟩
  | 89 => ⟨S151552x1, .f32⟩
  | 90 => ⟨S1x1024x2816, .f32⟩
  | 91 => ⟨S1024x2816, .f32⟩
  | 92 => ⟨S1x1024x2816, .f32⟩
  | 93 => ⟨S1024x2816, .f32⟩
  | 94 => ⟨S1x2816x1024, .f32⟩
  | 95 => ⟨S2816x1024, .f32⟩
  | 96 => ⟨S151552x2816, .f32⟩
  | 97 => ⟨S151552x2816, .f32⟩
  | 98 => ⟨S151552x2816, .f32⟩
  | 99 => ⟨S_, .f32⟩
  | 100 => ⟨S151552x2816, .f32⟩
  | 101 => ⟨S151552x2816, .f32⟩
  | 102 => ⟨S_, .f32⟩
  | 103 => ⟨S151552x2816, .f32⟩
  | 104 => ⟨S151552x2816, .f32⟩
  | 105 => ⟨S151552x2816, .f32⟩
  | 106 => ⟨S151552x2816, .f32⟩
  | 107 => ⟨S151552x2816, .f32⟩
  | 108 => ⟨S151552x1024, .f32⟩
  | 109 => ⟨S151552x1024, .f32⟩
  | 110 => ⟨S151552x1024, .f32⟩
  | 111 => ⟨S151552x1024, .f32⟩
  | 112 => ⟨S1, .i32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S_, .i1⟩
  | 127 => ⟨S_, .i1⟩
  | _ => ⟨S8, .i32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S151552, .i32⟩
  | 7 => ⟨S151552, .i1⟩
  | 8 => ⟨S151552, .i32⟩
  | 9 => ⟨S151552, .i1⟩
  | 10 => ⟨S151552, .i1⟩
  | 11 => ⟨S151552, .f32⟩
  | 12 => ⟨S151552x1, .f32⟩
  | 13 => ⟨S1x1024x2816, .f32⟩
  | 14 => ⟨S1024x2816, .f32⟩
  | 15 => ⟨S1x1024x2816, .f32⟩
  | 16 => ⟨S1024x2816, .f32⟩
  | 17 => ⟨S1x2816x1024, .f32⟩
  | 18 => ⟨S2816x1024, .f32⟩
  | 19 => ⟨S151552x2816, .f32⟩
  | 20 => ⟨S151552x2816, .f32⟩
  | 21 => ⟨S151552x2816, .f32⟩
  | 22 => ⟨S_, .f32⟩
  | 23 => ⟨S151552x2816, .f32⟩
  | 24 => ⟨S151552x2816, .f32⟩
  | 25 => ⟨S_, .f32⟩
  | 26 => ⟨S151552x2816, .f32⟩
  | 27 => ⟨S151552x2816, .f32⟩
  | 28 => ⟨S151552x2816, .f32⟩
  | 29 => ⟨S151552x2816, .f32⟩
  | 30 => ⟨S151552x2816, .f32⟩
  | 31 => ⟨S151552x1024, .f32⟩
  | 32 => ⟨S151552x1024, .f32⟩
  | 33 => ⟨S151552x1024, .f32⟩
  | 34 => ⟨S151552x1024, .f32⟩
  | 35 => ⟨S1, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S_, .i1⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S151552, .i32⟩
  | 58 => ⟨S151552, .i1⟩
  | 59 => ⟨S151552, .i32⟩
  | 60 => ⟨S151552, .i1⟩
  | 61 => ⟨S151552, .i1⟩
  | 62 => ⟨S151552, .f32⟩
  | 63 => ⟨S151552x1, .f32⟩
  | 64 => ⟨S1x1024x2816, .f32⟩
  | 65 => ⟨S1024x2816, .f32⟩
  | 66 => ⟨S1x1024x2816, .f32⟩
  | 67 => ⟨S1024x2816, .f32⟩
  | 68 => ⟨S1x2816x1024, .f32⟩
  | 69 => ⟨S2816x1024, .f32⟩
  | 70 => ⟨S151552x2816, .f32⟩
  | 71 => ⟨S151552x2816, .f32⟩
  | 72 => ⟨S151552x2816, .f32⟩
  | 73 => ⟨S_, .f32⟩
  | 74 => ⟨S151552x2816, .f32⟩
  | 75 => ⟨S151552x2816, .f32⟩
  | 76 => ⟨S_, .f32⟩
  | 77 => ⟨S151552x2816, .f32⟩
  | 78 => ⟨S151552x2816, .f32⟩
  | 79 => ⟨S151552x2816, .f32⟩
  | 80 => ⟨S151552x2816, .f32⟩
  | 81 => ⟨S151552x2816, .f32⟩
  | 82 => ⟨S151552x1024, .f32⟩
  | 83 => ⟨S151552x1024, .f32⟩
  | 84 => ⟨S151552x1024, .f32⟩
  | 85 => ⟨S151552x1024, .f32⟩
  | 86 => ⟨S1, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S_, .i1⟩
  | 101 => ⟨S_, .i1⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S151552, .i32⟩
  | 109 => ⟨S151552, .i1⟩
  | 110 => ⟨S151552, .i32⟩
  | 111 => ⟨S151552, .i1⟩
  | 112 => ⟨S151552, .i1⟩
  | 113 => ⟨S151552, .f32⟩
  | 114 => ⟨S151552x1, .f32⟩
  | 115 => ⟨S1x1024x2816, .f32⟩
  | 116 => ⟨S1024x2816, .f32⟩
  | 117 => ⟨S1x1024x2816, .f32⟩
  | 118 => ⟨S1024x2816, .f32⟩
  | 119 => ⟨S1x2816x1024, .f32⟩
  | 120 => ⟨S2816x1024, .f32⟩
  | 121 => ⟨S151552x2816, .f32⟩
  | 122 => ⟨S151552x2816, .f32⟩
  | 123 => ⟨S151552x2816, .f32⟩
  | 124 => ⟨S_, .f32⟩
  | 125 => ⟨S151552x2816, .f32⟩
  | 126 => ⟨S151552x2816, .f32⟩
  | 127 => ⟨S_, .f32⟩
  | _ => ⟨S8, .i32⟩

abbrev hbmTy0_2 (i : Nat) : BufTy := match i % 128 with
  | 0 => ⟨S151552x2816, .f32⟩
  | 1 => ⟨S151552x2816, .f32⟩
  | 2 => ⟨S151552x2816, .f32⟩
  | 3 => ⟨S151552x2816, .f32⟩
  | 4 => ⟨S151552x2816, .f32⟩
  | 5 => ⟨S151552x1024, .f32⟩
  | 6 => ⟨S151552x1024, .f32⟩
  | 7 => ⟨S151552x1024, .f32⟩
  | 8 => ⟨S151552x1024, .f32⟩
  | 9 => ⟨S1, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S_, .i1⟩
  | 24 => ⟨S_, .i1⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S151552, .i32⟩
  | 32 => ⟨S151552, .i1⟩
  | 33 => ⟨S151552, .i32⟩
  | 34 => ⟨S151552, .i1⟩
  | 35 => ⟨S151552, .i1⟩
  | 36 => ⟨S151552, .f32⟩
  | 37 => ⟨S151552x1, .f32⟩
  | 38 => ⟨S1x1024x2816, .f32⟩
  | 39 => ⟨S1024x2816, .f32⟩
  | 40 => ⟨S1x1024x2816, .f32⟩
  | 41 => ⟨S1024x2816, .f32⟩
  | 42 => ⟨S1x2816x1024, .f32⟩
  | 43 => ⟨S2816x1024, .f32⟩
  | 44 => ⟨S151552x2816, .f32⟩
  | 45 => ⟨S151552x2816, .f32⟩
  | 46 => ⟨S151552x2816, .f32⟩
  | 47 => ⟨S_, .f32⟩
  | 48 => ⟨S151552x2816, .f32⟩
  | 49 => ⟨S151552x2816, .f32⟩
  | 50 => ⟨S_, .f32⟩
  | 51 => ⟨S151552x2816, .f32⟩
  | 52 => ⟨S151552x2816, .f32⟩
  | 53 => ⟨S151552x2816, .f32⟩
  | 54 => ⟨S151552x2816, .f32⟩
  | 55 => ⟨S151552x2816, .f32⟩
  | 56 => ⟨S151552x1024, .f32⟩
  | 57 => ⟨S151552x1024, .f32⟩
  | 58 => ⟨S151552x1024, .f32⟩
  | 59 => ⟨S151552x1024, .f32⟩
  | 60 => ⟨S1, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S_, .i1⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S151552, .i32⟩
  | 83 => ⟨S151552, .i1⟩
  | 84 => ⟨S151552, .i32⟩
  | 85 => ⟨S151552, .i1⟩
  | 86 => ⟨S151552, .i1⟩
  | 87 => ⟨S151552, .f32⟩
  | 88 => ⟨S151552x1, .f32⟩
  | 89 => ⟨S1x1024x2816, .f32⟩
  | 90 => ⟨S1024x2816, .f32⟩
  | 91 => ⟨S1x1024x2816, .f32⟩
  | 92 => ⟨S1024x2816, .f32⟩
  | 93 => ⟨S1x2816x1024, .f32⟩
  | 94 => ⟨S2816x1024, .f32⟩
  | 95 => ⟨S151552x2816, .f32⟩
  | 96 => ⟨S151552x2816, .f32⟩
  | 97 => ⟨S151552x2816, .f32⟩
  | 98 => ⟨S_, .f32⟩
  | 99 => ⟨S151552x2816, .f32⟩
  | 100 => ⟨S151552x2816, .f32⟩
  | 101 => ⟨S_, .f32⟩
  | 102 => ⟨S151552x2816, .f32⟩
  | 103 => ⟨S151552x2816, .f32⟩
  | 104 => ⟨S151552x2816, .f32⟩
  | 105 => ⟨S151552x2816, .f32⟩
  | 106 => ⟨S151552x2816, .f32⟩
  | 107 => ⟨S151552x1024, .f32⟩
  | 108 => ⟨S151552x1024, .f32⟩
  | 109 => ⟨S151552x1024, .f32⟩
  | 110 => ⟨S151552x1024, .f32⟩
  | 111 => ⟨S1, .i32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i1⟩
  | 123 => ⟨S_, .i32⟩
  | 124 => ⟨S_, .i32⟩
  | 125 => ⟨S_, .i1⟩
  | 126 => ⟨S_, .i1⟩
  | 127 => ⟨S_, .i32⟩
  | _ => ⟨S8, .i32⟩

abbrev hbmTy0_3 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S151552, .i32⟩
  | 6 => ⟨S151552, .i1⟩
  | 7 => ⟨S151552, .i32⟩
  | 8 => ⟨S151552, .i1⟩
  | 9 => ⟨S151552, .i1⟩
  | 10 => ⟨S151552, .f32⟩
  | 11 => ⟨S151552x1, .f32⟩
  | 12 => ⟨S1x1024x2816, .f32⟩
  | 13 => ⟨S1024x2816, .f32⟩
  | 14 => ⟨S1x1024x2816, .f32⟩
  | 15 => ⟨S1024x2816, .f32⟩
  | 16 => ⟨S1x2816x1024, .f32⟩
  | 17 => ⟨S2816x1024, .f32⟩
  | 18 => ⟨S151552x2816, .f32⟩
  | 19 => ⟨S151552x2816, .f32⟩
  | 20 => ⟨S151552x2816, .f32⟩
  | 21 => ⟨S_, .f32⟩
  | 22 => ⟨S151552x2816, .f32⟩
  | 23 => ⟨S151552x2816, .f32⟩
  | 24 => ⟨S_, .f32⟩
  | 25 => ⟨S151552x2816, .f32⟩
  | 26 => ⟨S151552x2816, .f32⟩
  | 27 => ⟨S151552x2816, .f32⟩
  | 28 => ⟨S151552x2816, .f32⟩
  | 29 => ⟨S151552x2816, .f32⟩
  | 30 => ⟨S151552x1024, .f32⟩
  | 31 => ⟨S151552x1024, .f32⟩
  | 32 => ⟨S151552x1024, .f32⟩
  | 33 => ⟨S151552x1024, .f32⟩
  | _ => ⟨S8, .i32⟩

abbrev hbmTy (i : Nat) : BufTy := match i / 128 with
  | 0 => hbmTy0_0 i
  | 1 => hbmTy0_1 i
  | 2 => hbmTy0_2 i
  | 3 => hbmTy0_3 i
  | _ => ⟨S8, .i32⟩

abbrev bufTy : (tb : Table) → Fin (tcTables nBuf tb) → BufTy
  | .hbm, ⟨i, _⟩ => hbmTy i
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c : Ref sig .tc := ⟨.hbm, 21, rfl⟩
abbrev main_call0_v6 : Ref sig .tc := ⟨.hbm, 22, rfl⟩
abbrev main_call0_v7 : Ref sig .tc := ⟨.hbm, 23, rfl⟩
abbrev main_call0_c_0 : Ref sig .tc := ⟨.hbm, 24, rfl⟩
abbrev main_call0_v8 : Ref sig .tc := ⟨.hbm, 25, rfl⟩
abbrev main_v6 : Ref sig .tc := ⟨.hbm, 26, rfl⟩
abbrev main_c_2 : Ref sig .tc := ⟨.hbm, 27, rfl⟩
abbrev main_v7 : Ref sig .tc := ⟨.hbm, 28, rfl⟩
abbrev main_c_3 : Ref sig .tc := ⟨.hbm, 29, rfl⟩
abbrev main_v8 : Ref sig .tc := ⟨.hbm, 30, rfl⟩
abbrev main_c_4 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_c_5 : Ref sig .tc := ⟨.hbm, 63, rfl⟩
abbrev main_v32 : Ref sig .tc := ⟨.hbm, 64, rfl⟩
abbrev main_c_6 : Ref sig .tc := ⟨.hbm, 65, rfl⟩
abbrev main_v33 : Ref sig .tc := ⟨.hbm, 66, rfl⟩
abbrev main_c_7 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_c : Ref sig .tc := ⟨.hbm, 74, rfl⟩
abbrev main_call2_v6 : Ref sig .tc := ⟨.hbm, 75, rfl⟩
abbrev main_call2_v7 : Ref sig .tc := ⟨.hbm, 76, rfl⟩
abbrev main_call2_c_0 : Ref sig .tc := ⟨.hbm, 77, rfl⟩
abbrev main_call2_v8 : Ref sig .tc := ⟨.hbm, 78, rfl⟩
abbrev main_v34 : Ref sig .tc := ⟨.hbm, 79, rfl⟩
abbrev main_c_8 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_call3_v0 : Ref sig .tc := ⟨.hbm, 97, rfl⟩
abbrev main_call3_v1 : Ref sig .tc := ⟨.hbm, 98, rfl⟩
abbrev main_call3_cst : Ref sig .tc := ⟨.hbm, 99, rfl⟩
abbrev main_call3_v2 : Ref sig .tc := ⟨.hbm, 100, rfl⟩
abbrev main_call3_v3 : Ref sig .tc := ⟨.hbm, 101, rfl⟩
abbrev main_call3_cst_0 : Ref sig .tc := ⟨.hbm, 102, rfl⟩
abbrev main_call3_v4 : Ref sig .tc := ⟨.hbm, 103, rfl⟩
abbrev main_call3_v5 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_c_9 : Ref sig .tc := ⟨.hbm, 114, rfl⟩
abbrev main_v60 : Ref sig .tc := ⟨.hbm, 115, rfl⟩
abbrev main_c_10 : Ref sig .tc := ⟨.hbm, 116, rfl⟩
abbrev main_v61 : Ref sig .tc := ⟨.hbm, 117, rfl⟩
abbrev main_c_11 : Ref sig .tc := ⟨.hbm, 118, rfl⟩
abbrev main_call4_v0 : Ref sig .tc := ⟨.hbm, 119, rfl⟩
abbrev main_call4_v1 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_call4_v5 : Ref sig .tc := ⟨.hbm, 124, rfl⟩
abbrev main_call4_c : Ref sig .tc := ⟨.hbm, 125, rfl⟩
abbrev main_call4_v6 : Ref sig .tc := ⟨.hbm, 126, rfl⟩
abbrev main_call4_v7 : Ref sig .tc := ⟨.hbm, 127, rfl⟩
abbrev main_call4_c_0 : Ref sig .tc := ⟨.hbm, 128, rfl⟩
abbrev main_call4_v8 : Ref sig .tc := ⟨.hbm, 129, rfl⟩
abbrev main_v62 : Ref sig .tc := ⟨.hbm, 130, rfl⟩
abbrev main_c_12 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_call5_v0 : Ref sig .tc := ⟨.hbm, 148, rfl⟩
abbrev main_call5_v1 : Ref sig .tc := ⟨.hbm, 149, rfl⟩
abbrev main_call5_cst : Ref sig .tc := ⟨.hbm, 150, rfl⟩
abbrev main_call5_v2 : Ref sig .tc := ⟨.hbm, 151, rfl⟩
abbrev main_call5_v3 : Ref sig .tc := ⟨.hbm, 152, rfl⟩
abbrev main_call5_cst_0 : Ref sig .tc := ⟨.hbm, 153, rfl⟩
abbrev main_call5_v4 : Ref sig .tc := ⟨.hbm, 154, rfl⟩
abbrev main_call5_v5 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_c_13 : Ref sig .tc := ⟨.hbm, 165, rfl⟩
abbrev main_v88 : Ref sig .tc := ⟨.hbm, 166, rfl⟩
abbrev main_c_14 : Ref sig .tc := ⟨.hbm, 167, rfl⟩
abbrev main_v89 : Ref sig .tc := ⟨.hbm, 168, rfl⟩
abbrev main_c_15 : Ref sig .tc := ⟨.hbm, 169, rfl⟩
abbrev main_call6_v0 : Ref sig .tc := ⟨.hbm, 170, rfl⟩
abbrev main_call6_v1 : Ref sig .tc := ⟨.hbm, 171, rfl⟩
abbrev main_call6_v2 : Ref sig .tc := ⟨.hbm, 172, rfl⟩
abbrev main_call6_v3 : Ref sig .tc := ⟨.hbm, 173, rfl⟩
abbrev main_call6_v4 : Ref sig .tc := ⟨.hbm, 174, rfl⟩
abbrev main_call6_v5 : Ref sig .tc := ⟨.hbm, 175, rfl⟩
abbrev main_call6_c : Ref sig .tc := ⟨.hbm, 176, rfl⟩
abbrev main_call6_v6 : Ref sig .tc := ⟨.hbm, 177, rfl⟩
abbrev main_call6_v7 : Ref sig .tc := ⟨.hbm, 178, rfl⟩
abbrev main_call6_c_0 : Ref sig .tc := ⟨.hbm, 179, rfl⟩
abbrev main_call6_v8 : Ref sig .tc := ⟨.hbm, 180, rfl⟩
abbrev main_v90 : Ref sig .tc := ⟨.hbm, 181, rfl⟩
abbrev main_c_16 : Ref sig .tc := ⟨.hbm, 182, rfl⟩
abbrev main_v91 : Ref sig .tc := ⟨.hbm, 183, rfl⟩
abbrev main_v92 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev main_v96 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_v100 : Ref sig .tc := ⟨.hbm, 192, rfl⟩
abbrev main_v101 : Ref sig .tc := ⟨.hbm, 193, rfl⟩
abbrev main_v102 : Ref sig .tc := ⟨.hbm, 194, rfl⟩
abbrev main_v103 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_call7_v0 : Ref sig .tc := ⟨.hbm, 199, rfl⟩
abbrev main_call7_v1 : Ref sig .tc := ⟨.hbm, 200, rfl⟩
abbrev main_call7_cst : Ref sig .tc := ⟨.hbm, 201, rfl⟩
abbrev main_call7_v2 : Ref sig .tc := ⟨.hbm, 202, rfl⟩
abbrev main_call7_v3 : Ref sig .tc := ⟨.hbm, 203, rfl⟩
abbrev main_call7_cst_0 : Ref sig .tc := ⟨.hbm, 204, rfl⟩
abbrev main_call7_v4 : Ref sig .tc := ⟨.hbm, 205, rfl⟩
abbrev main_call7_v5 : Ref sig .tc := ⟨.hbm, 206, rfl⟩
abbrev main_v107 : Ref sig .tc := ⟨.hbm, 207, rfl⟩
abbrev main_v108 : Ref sig .tc := ⟨.hbm, 208, rfl⟩
abbrev main_v109 : Ref sig .tc := ⟨.hbm, 209, rfl⟩
abbrev main_v110 : Ref sig .tc := ⟨.hbm, 210, rfl⟩
abbrev main_v111 : Ref sig .tc := ⟨.hbm, 211, rfl⟩
abbrev main_v112 : Ref sig .tc := ⟨.hbm, 212, rfl⟩
abbrev main_v113 : Ref sig .tc := ⟨.hbm, 213, rfl⟩
abbrev main_v114 : Ref sig .tc := ⟨.hbm, 214, rfl⟩
abbrev main_v115 : Ref sig .tc := ⟨.hbm, 215, rfl⟩
abbrev main_c_17 : Ref sig .tc := ⟨.hbm, 216, rfl⟩
abbrev main_v116 : Ref sig .tc := ⟨.hbm, 217, rfl⟩
abbrev main_c_18 : Ref sig .tc := ⟨.hbm, 218, rfl⟩
abbrev main_v117 : Ref sig .tc := ⟨.hbm, 219, rfl⟩
abbrev main_c_19 : Ref sig .tc := ⟨.hbm, 220, rfl⟩
abbrev main_call8_v0 : Ref sig .tc := ⟨.hbm, 221, rfl⟩
abbrev main_call8_v1 : Ref sig .tc := ⟨.hbm, 222, rfl⟩
abbrev main_call8_v2 : Ref sig .tc := ⟨.hbm, 223, rfl⟩
abbrev main_call8_v3 : Ref sig .tc := ⟨.hbm, 224, rfl⟩
abbrev main_call8_v4 : Ref sig .tc := ⟨.hbm, 225, rfl⟩
abbrev main_call8_v5 : Ref sig .tc := ⟨.hbm, 226, rfl⟩
abbrev main_call8_c : Ref sig .tc := ⟨.hbm, 227, rfl⟩
abbrev main_call8_v6 : Ref sig .tc := ⟨.hbm, 228, rfl⟩
abbrev main_call8_v7 : Ref sig .tc := ⟨.hbm, 229, rfl⟩
abbrev main_call8_c_0 : Ref sig .tc := ⟨.hbm, 230, rfl⟩
abbrev main_call8_v8 : Ref sig .tc := ⟨.hbm, 231, rfl⟩
abbrev main_v118 : Ref sig .tc := ⟨.hbm, 232, rfl⟩
abbrev main_c_20 : Ref sig .tc := ⟨.hbm, 233, rfl⟩
abbrev main_v119 : Ref sig .tc := ⟨.hbm, 234, rfl⟩
abbrev main_v120 : Ref sig .tc := ⟨.hbm, 235, rfl⟩
abbrev main_v121 : Ref sig .tc := ⟨.hbm, 236, rfl⟩
abbrev main_v122 : Ref sig .tc := ⟨.hbm, 237, rfl⟩
abbrev main_v123 : Ref sig .tc := ⟨.hbm, 238, rfl⟩
abbrev main_v124 : Ref sig .tc := ⟨.hbm, 239, rfl⟩
abbrev main_v125 : Ref sig .tc := ⟨.hbm, 240, rfl⟩
abbrev main_v126 : Ref sig .tc := ⟨.hbm, 241, rfl⟩
abbrev main_v127 : Ref sig .tc := ⟨.hbm, 242, rfl⟩
abbrev main_v128 : Ref sig .tc := ⟨.hbm, 243, rfl⟩
abbrev main_v129 : Ref sig .tc := ⟨.hbm, 244, rfl⟩
abbrev main_v130 : Ref sig .tc := ⟨.hbm, 245, rfl⟩
abbrev main_v131 : Ref sig .tc := ⟨.hbm, 246, rfl⟩
abbrev main_v132 : Ref sig .tc := ⟨.hbm, 247, rfl⟩
abbrev main_v133 : Ref sig .tc := ⟨.hbm, 248, rfl⟩
abbrev main_v134 : Ref sig .tc := ⟨.hbm, 249, rfl⟩
abbrev main_call9_v0 : Ref sig .tc := ⟨.hbm, 250, rfl⟩
abbrev main_call9_v1 : Ref sig .tc := ⟨.hbm, 251, rfl⟩
abbrev main_call9_cst : Ref sig .tc := ⟨.hbm, 252, rfl⟩
abbrev main_call9_v2 : Ref sig .tc := ⟨.hbm, 253, rfl⟩
abbrev main_call9_v3 : Ref sig .tc := ⟨.hbm, 254, rfl⟩
abbrev main_call9_cst_0 : Ref sig .tc := ⟨.hbm, 255, rfl⟩
abbrev main_call9_v4 : Ref sig .tc := ⟨.hbm, 256, rfl⟩
abbrev main_call9_v5 : Ref sig .tc := ⟨.hbm, 257, rfl⟩
abbrev main_v135 : Ref sig .tc := ⟨.hbm, 258, rfl⟩
abbrev main_v136 : Ref sig .tc := ⟨.hbm, 259, rfl⟩
abbrev main_v137 : Ref sig .tc := ⟨.hbm, 260, rfl⟩
abbrev main_v138 : Ref sig .tc := ⟨.hbm, 261, rfl⟩
abbrev main_v139 : Ref sig .tc := ⟨.hbm, 262, rfl⟩
abbrev main_v140 : Ref sig .tc := ⟨.hbm, 263, rfl⟩
abbrev main_v141 : Ref sig .tc := ⟨.hbm, 264, rfl⟩
abbrev main_v142 : Ref sig .tc := ⟨.hbm, 265, rfl⟩
abbrev main_v143 : Ref sig .tc := ⟨.hbm, 266, rfl⟩
abbrev main_c_21 : Ref sig .tc := ⟨.hbm, 267, rfl⟩
abbrev main_v144 : Ref sig .tc := ⟨.hbm, 268, rfl⟩
abbrev main_c_22 : Ref sig .tc := ⟨.hbm, 269, rfl⟩
abbrev main_v145 : Ref sig .tc := ⟨.hbm, 270, rfl⟩
abbrev main_c_23 : Ref sig .tc := ⟨.hbm, 271, rfl⟩
abbrev main_call10_v0 : Ref sig .tc := ⟨.hbm, 272, rfl⟩
abbrev main_call10_v1 : Ref sig .tc := ⟨.hbm, 273, rfl⟩
abbrev main_call10_v2 : Ref sig .tc := ⟨.hbm, 274, rfl⟩
abbrev main_call10_v3 : Ref sig .tc := ⟨.hbm, 275, rfl⟩
abbrev main_call10_v4 : Ref sig .tc := ⟨.hbm, 276, rfl⟩
abbrev main_call10_v5 : Ref sig .tc := ⟨.hbm, 277, rfl⟩
abbrev main_call10_c : Ref sig .tc := ⟨.hbm, 278, rfl⟩
abbrev main_call10_v6 : Ref sig .tc := ⟨.hbm, 279, rfl⟩
abbrev main_call10_v7 : Ref sig .tc := ⟨.hbm, 280, rfl⟩
abbrev main_call10_c_0 : Ref sig .tc := ⟨.hbm, 281, rfl⟩
abbrev main_call10_v8 : Ref sig .tc := ⟨.hbm, 282, rfl⟩
abbrev main_v146 : Ref sig .tc := ⟨.hbm, 283, rfl⟩
abbrev main_c_24 : Ref sig .tc := ⟨.hbm, 284, rfl⟩
abbrev main_v147 : Ref sig .tc := ⟨.hbm, 285, rfl⟩
abbrev main_v148 : Ref sig .tc := ⟨.hbm, 286, rfl⟩
abbrev main_v149 : Ref sig .tc := ⟨.hbm, 287, rfl⟩
abbrev main_v150 : Ref sig .tc := ⟨.hbm, 288, rfl⟩
abbrev main_v151 : Ref sig .tc := ⟨.hbm, 289, rfl⟩
abbrev main_v152 : Ref sig .tc := ⟨.hbm, 290, rfl⟩
abbrev main_v153 : Ref sig .tc := ⟨.hbm, 291, rfl⟩
abbrev main_v154 : Ref sig .tc := ⟨.hbm, 292, rfl⟩
abbrev main_v155 : Ref sig .tc := ⟨.hbm, 293, rfl⟩
abbrev main_v156 : Ref sig .tc := ⟨.hbm, 294, rfl⟩
abbrev main_v157 : Ref sig .tc := ⟨.hbm, 295, rfl⟩
abbrev main_v158 : Ref sig .tc := ⟨.hbm, 296, rfl⟩
abbrev main_v159 : Ref sig .tc := ⟨.hbm, 297, rfl⟩
abbrev main_v160 : Ref sig .tc := ⟨.hbm, 298, rfl⟩
abbrev main_v161 : Ref sig .tc := ⟨.hbm, 299, rfl⟩
abbrev main_v162 : Ref sig .tc := ⟨.hbm, 300, rfl⟩
abbrev main_call11_v0 : Ref sig .tc := ⟨.hbm, 301, rfl⟩
abbrev main_call11_v1 : Ref sig .tc := ⟨.hbm, 302, rfl⟩
abbrev main_call11_cst : Ref sig .tc := ⟨.hbm, 303, rfl⟩
abbrev main_call11_v2 : Ref sig .tc := ⟨.hbm, 304, rfl⟩
abbrev main_call11_v3 : Ref sig .tc := ⟨.hbm, 305, rfl⟩
abbrev main_call11_cst_0 : Ref sig .tc := ⟨.hbm, 306, rfl⟩
abbrev main_call11_v4 : Ref sig .tc := ⟨.hbm, 307, rfl⟩
abbrev main_call11_v5 : Ref sig .tc := ⟨.hbm, 308, rfl⟩
abbrev main_v163 : Ref sig .tc := ⟨.hbm, 309, rfl⟩
abbrev main_v164 : Ref sig .tc := ⟨.hbm, 310, rfl⟩
abbrev main_v165 : Ref sig .tc := ⟨.hbm, 311, rfl⟩
abbrev main_v166 : Ref sig .tc := ⟨.hbm, 312, rfl⟩
abbrev main_v167 : Ref sig .tc := ⟨.hbm, 313, rfl⟩
abbrev main_v168 : Ref sig .tc := ⟨.hbm, 314, rfl⟩
abbrev main_v169 : Ref sig .tc := ⟨.hbm, 315, rfl⟩
abbrev main_v170 : Ref sig .tc := ⟨.hbm, 316, rfl⟩
abbrev main_v171 : Ref sig .tc := ⟨.hbm, 317, rfl⟩
abbrev main_c_25 : Ref sig .tc := ⟨.hbm, 318, rfl⟩
abbrev main_v172 : Ref sig .tc := ⟨.hbm, 319, rfl⟩
abbrev main_c_26 : Ref sig .tc := ⟨.hbm, 320, rfl⟩
abbrev main_v173 : Ref sig .tc := ⟨.hbm, 321, rfl⟩
abbrev main_c_27 : Ref sig .tc := ⟨.hbm, 322, rfl⟩
abbrev main_call12_v0 : Ref sig .tc := ⟨.hbm, 323, rfl⟩
abbrev main_call12_v1 : Ref sig .tc := ⟨.hbm, 324, rfl⟩
abbrev main_call12_v2 : Ref sig .tc := ⟨.hbm, 325, rfl⟩
abbrev main_call12_v3 : Ref sig .tc := ⟨.hbm, 326, rfl⟩
abbrev main_call12_v4 : Ref sig .tc := ⟨.hbm, 327, rfl⟩
abbrev main_call12_v5 : Ref sig .tc := ⟨.hbm, 328, rfl⟩
abbrev main_call12_c : Ref sig .tc := ⟨.hbm, 329, rfl⟩
abbrev main_call12_v6 : Ref sig .tc := ⟨.hbm, 330, rfl⟩
abbrev main_call12_v7 : Ref sig .tc := ⟨.hbm, 331, rfl⟩
abbrev main_call12_c_0 : Ref sig .tc := ⟨.hbm, 332, rfl⟩
abbrev main_call12_v8 : Ref sig .tc := ⟨.hbm, 333, rfl⟩
abbrev main_v174 : Ref sig .tc := ⟨.hbm, 334, rfl⟩
abbrev main_c_28 : Ref sig .tc := ⟨.hbm, 335, rfl⟩
abbrev main_v175 : Ref sig .tc := ⟨.hbm, 336, rfl⟩
abbrev main_v176 : Ref sig .tc := ⟨.hbm, 337, rfl⟩
abbrev main_v177 : Ref sig .tc := ⟨.hbm, 338, rfl⟩
abbrev main_v178 : Ref sig .tc := ⟨.hbm, 339, rfl⟩
abbrev main_v179 : Ref sig .tc := ⟨.hbm, 340, rfl⟩
abbrev main_v180 : Ref sig .tc := ⟨.hbm, 341, rfl⟩
abbrev main_v181 : Ref sig .tc := ⟨.hbm, 342, rfl⟩
abbrev main_v182 : Ref sig .tc := ⟨.hbm, 343, rfl⟩
abbrev main_v183 : Ref sig .tc := ⟨.hbm, 344, rfl⟩
abbrev main_v184 : Ref sig .tc := ⟨.hbm, 345, rfl⟩
abbrev main_v185 : Ref sig .tc := ⟨.hbm, 346, rfl⟩
abbrev main_v186 : Ref sig .tc := ⟨.hbm, 347, rfl⟩
abbrev main_v187 : Ref sig .tc := ⟨.hbm, 348, rfl⟩
abbrev main_v188 : Ref sig .tc := ⟨.hbm, 349, rfl⟩
abbrev main_v189 : Ref sig .tc := ⟨.hbm, 350, rfl⟩
abbrev main_v190 : Ref sig .tc := ⟨.hbm, 351, rfl⟩
abbrev main_call13_v0 : Ref sig .tc := ⟨.hbm, 352, rfl⟩
abbrev main_call13_v1 : Ref sig .tc := ⟨.hbm, 353, rfl⟩
abbrev main_call13_cst : Ref sig .tc := ⟨.hbm, 354, rfl⟩
abbrev main_call13_v2 : Ref sig .tc := ⟨.hbm, 355, rfl⟩
abbrev main_call13_v3 : Ref sig .tc := ⟨.hbm, 356, rfl⟩
abbrev main_call13_cst_0 : Ref sig .tc := ⟨.hbm, 357, rfl⟩
abbrev main_call13_v4 : Ref sig .tc := ⟨.hbm, 358, rfl⟩
abbrev main_call13_v5 : Ref sig .tc := ⟨.hbm, 359, rfl⟩
abbrev main_v191 : Ref sig .tc := ⟨.hbm, 360, rfl⟩
abbrev main_v192 : Ref sig .tc := ⟨.hbm, 361, rfl⟩
abbrev main_v193 : Ref sig .tc := ⟨.hbm, 362, rfl⟩
abbrev main_v194 : Ref sig .tc := ⟨.hbm, 363, rfl⟩
abbrev main_v195 : Ref sig .tc := ⟨.hbm, 364, rfl⟩
abbrev main_v196 : Ref sig .tc := ⟨.hbm, 365, rfl⟩
abbrev main_v197 : Ref sig .tc := ⟨.hbm, 366, rfl⟩
abbrev main_v198 : Ref sig .tc := ⟨.hbm, 367, rfl⟩
abbrev main_v199 : Ref sig .tc := ⟨.hbm, 368, rfl⟩
abbrev main_c_29 : Ref sig .tc := ⟨.hbm, 369, rfl⟩
abbrev main_v200 : Ref sig .tc := ⟨.hbm, 370, rfl⟩
abbrev main_c_30 : Ref sig .tc := ⟨.hbm, 371, rfl⟩
abbrev main_v201 : Ref sig .tc := ⟨.hbm, 372, rfl⟩
abbrev main_c_31 : Ref sig .tc := ⟨.hbm, 373, rfl⟩
abbrev main_call14_v0 : Ref sig .tc := ⟨.hbm, 374, rfl⟩
abbrev main_call14_v1 : Ref sig .tc := ⟨.hbm, 375, rfl⟩
abbrev main_call14_v2 : Ref sig .tc := ⟨.hbm, 376, rfl⟩
abbrev main_call14_v3 : Ref sig .tc := ⟨.hbm, 377, rfl⟩
abbrev main_call14_v4 : Ref sig .tc := ⟨.hbm, 378, rfl⟩
abbrev main_call14_v5 : Ref sig .tc := ⟨.hbm, 379, rfl⟩
abbrev main_call14_c : Ref sig .tc := ⟨.hbm, 380, rfl⟩
abbrev main_call14_v6 : Ref sig .tc := ⟨.hbm, 381, rfl⟩
abbrev main_call14_v7 : Ref sig .tc := ⟨.hbm, 382, rfl⟩
abbrev main_call14_c_0 : Ref sig .tc := ⟨.hbm, 383, rfl⟩
abbrev main_call14_v8 : Ref sig .tc := ⟨.hbm, 384, rfl⟩
abbrev main_v202 : Ref sig .tc := ⟨.hbm, 385, rfl⟩
abbrev main_c_32 : Ref sig .tc := ⟨.hbm, 386, rfl⟩
abbrev main_v203 : Ref sig .tc := ⟨.hbm, 387, rfl⟩
abbrev main_v204 : Ref sig .tc := ⟨.hbm, 388, rfl⟩
abbrev main_v205 : Ref sig .tc := ⟨.hbm, 389, rfl⟩
abbrev main_v206 : Ref sig .tc := ⟨.hbm, 390, rfl⟩
abbrev main_v207 : Ref sig .tc := ⟨.hbm, 391, rfl⟩
abbrev main_v208 : Ref sig .tc := ⟨.hbm, 392, rfl⟩
abbrev main_v209 : Ref sig .tc := ⟨.hbm, 393, rfl⟩
abbrev main_v210 : Ref sig .tc := ⟨.hbm, 394, rfl⟩
abbrev main_v211 : Ref sig .tc := ⟨.hbm, 395, rfl⟩
abbrev main_v212 : Ref sig .tc := ⟨.hbm, 396, rfl⟩
abbrev main_v213 : Ref sig .tc := ⟨.hbm, 397, rfl⟩
abbrev main_v214 : Ref sig .tc := ⟨.hbm, 398, rfl⟩
abbrev main_v215 : Ref sig .tc := ⟨.hbm, 399, rfl⟩
abbrev main_v216 : Ref sig .tc := ⟨.hbm, 400, rfl⟩
abbrev main_v217 : Ref sig .tc := ⟨.hbm, 401, rfl⟩
abbrev main_v218 : Ref sig .tc := ⟨.hbm, 402, rfl⟩
abbrev main_call15_v0 : Ref sig .tc := ⟨.hbm, 403, rfl⟩
abbrev main_call15_v1 : Ref sig .tc := ⟨.hbm, 404, rfl⟩
abbrev main_call15_cst : Ref sig .tc := ⟨.hbm, 405, rfl⟩
abbrev main_call15_v2 : Ref sig .tc := ⟨.hbm, 406, rfl⟩
abbrev main_call15_v3 : Ref sig .tc := ⟨.hbm, 407, rfl⟩
abbrev main_call15_cst_0 : Ref sig .tc := ⟨.hbm, 408, rfl⟩
abbrev main_call15_v4 : Ref sig .tc := ⟨.hbm, 409, rfl⟩
abbrev main_call15_v5 : Ref sig .tc := ⟨.hbm, 410, rfl⟩
abbrev main_v219 : Ref sig .tc := ⟨.hbm, 411, rfl⟩
abbrev main_v220 : Ref sig .tc := ⟨.hbm, 412, rfl⟩
abbrev main_v221 : Ref sig .tc := ⟨.hbm, 413, rfl⟩
abbrev main_v222 : Ref sig .tc := ⟨.hbm, 414, rfl⟩
abbrev main_v223 : Ref sig .tc := ⟨.hbm, 415, rfl⟩
abbrev main_v224 : Ref sig .tc := ⟨.hbm, 416, rfl⟩
abbrev main_v225 : Ref sig .tc := ⟨.hbm, 417, rfl⟩

abbrev nD : Nat := 1
abbrev τ : Topo := Topo.v7x

variable {F : FTy → Type} [FloatOps F]
-- ==== Proof.Softmax.lean ====
/- One softmax row over the extended reals: the probabilities of all keys applied to their values, and the same row
   with only a window of the latent keys, the division left to the end. -/
module

public import Idealize.ShloMosaic.PureOps.Ideal
public import Idealize.ShloMosaic.Lib.FinSumWindow
public import Idealize.ShloMosaic.Lib.Pointwise.Sums

@[expose] public section

set_option maxRecDepth 16384

noncomputable section

namespace Cert.Softmax

open Idealize.ShloMosaic
open scoped BigOperators

/-- The greatest of finitely many scores (−∞ when there is none). -/
def top {n : ℕ} (f : Fin n → EReal) : EReal := Finset.univ.fold max ⊥ f

theorem top_eq {n : ℕ} (f : Fin n → EReal) : top f = Finset.univ.sup f := rfl

theorem le_top' {n : ℕ} (f : Fin n → EReal) (i : Fin n) : f i ≤ top f := by
  rw [top_eq]; exact Finset.le_sup (Finset.mem_univ i)

theorem top_le {n : ℕ} (f : Fin n → EReal) (a : EReal) (h : ∀ i, f i ≤ a) : top f ≤ a := by
  rw [top_eq]; exact Finset.sup_le fun i _ => h i

theorem top_ne_top {n : ℕ} (f : Fin n → EReal) (h : ∀ i, f i ≠ ⊤) : top f ≠ ⊤ := by
  rw [top_eq]
  exact ne_of_lt ((Finset.sup_lt_iff bot_lt_top).2 fun i _ => lt_top_iff_ne_top.2 (h i))

/-- A row's scores side by side: `n` latent keys, `c` context keys, one sink. -/
def row {n c N : ℕ} (sl : Fin n → EReal) (sc : Fin c → EReal) (sk : EReal) (k : Fin N) : EReal :=
  if h : k.val < n then sl ⟨k.val, h⟩ else if h2 : k.val - n < c then sc ⟨k.val - n, h2⟩ else sk

theorem top_row {n c : ℕ} (sl : Fin n → EReal) (sc : Fin c → EReal) (sk : EReal) :
    top (row (N := n + c + 1) sl sc sk) = max (max (top sc) sk) (top sl) := by
  apply le_antisymm
  · refine top_le _ _ fun k => ?_
    unfold row
    split
    · exact (le_top' sl _).trans (le_max_right _ _)
    · split
      · exact (le_top' sc _).trans ((le_max_left _ _).trans (le_max_left _ _))
      · exact (le_max_right _ _).trans (le_max_left _ _)
  · refine max_le (max_le (top_le _ _ fun i => ?_) ?_) (top_le _ _ fun i => ?_)
    · have := le_top' (row (N := n + c + 1) sl sc sk) ⟨n + i.val, by omega⟩
      simpa [row] using this
    · have := le_top' (row (N := n + c + 1) sl sc sk) ⟨n + c, by omega⟩
      simpa [row] using this
    · have := le_top' (row (N := n + c + 1) sl sc sk) ⟨i.val, by omega⟩
      simpa [row] using this

/-- The sum over a row of a function of the scores, cut into its three parts. -/
theorem sum_row {n c : ℕ} (sl : Fin n → EReal) (sc : Fin c → EReal) (sk : EReal) (φ : EReal → EReal) :
    ∑ k, φ (row (N := n + c + 1) sl sc sk k) = (∑ k, φ (sl k)) + (∑ k, φ (sc k)) + φ sk := by
  rw [Fin.sum_univ_castSucc, Fin.sum_univ_two_halves n c rfl]
  congr 1
  · congr 1
    · refine Finset.sum_congr rfl fun k _ => ?_
      simp [row]
    · refine Finset.sum_congr rfl fun k _ => ?_
      simp [row]
  · simp [row]

/-- The maximum over all latent keys is that over a window off which every score is −∞. -/
theorem top_window {N W : ℕ} (lo : ℕ) (hlo : lo + W ≤ N) (f : Fin N → EReal)
    (hf : ∀ P : Fin N, ¬(lo ≤ P.val ∧ P.val < lo + W) → f P = ⊥) :
    top f = top fun p : Fin W => f ⟨lo + p.val, by omega⟩ := by
  apply le_antisymm
  · refine top_le _ _ fun k => ?_
    by_cases h : lo ≤ k.val ∧ k.val < lo + W
    · have := le_top' (fun p : Fin W => f ⟨lo + p.val, by omega⟩) ⟨k.val - lo, by omega⟩
      have e : (⟨lo + (k.val - lo), by omega⟩ : Fin N) = k := Fin.ext (by show lo + (k.val - lo) = k.val; omega)
      simpa only [e] using this
    · rw [hf k h]; exact bot_le
  · exact top_le _ _ fun p => le_top' f _

theorem exp_nonneg (x : EReal) : 0 ≤ Ideal.exp x := by
  induction x with
  | bot => simp
  | top => simp
  | coe r => rw [Ideal.exp_coe]; exact_mod_cast (Real.exp_pos r).le

theorem exp_ne_top (x : EReal) (h : x ≠ ⊤) : Ideal.exp x ≠ ⊤ := by
  induction x with
  | bot => simp
  | top => exact absurd rfl h
  | coe r => rw [Ideal.exp_coe]; exact EReal.coe_ne_top _

theorem exp_pos (r : ℝ) : 0 < Ideal.exp (r : EReal) := by
  rw [Ideal.exp_coe]; exact_mod_cast Real.exp_pos r

theorem sub_ne_top (x : EReal) (M : ℝ) (h : x ≠ ⊤) : x - (M : EReal) ≠ ⊤ := by
  induction x with
  | bot => simp
  | top => exact absurd rfl h
  | coe r => rw [← EReal.coe_sub]; exact EReal.coe_ne_top _

theorem sum_ne_top {n : ℕ} (f : Fin n → EReal) (h : ∀ i, f i ≠ ⊤) : ∑ i, f i ≠ ⊤ := by
  refine Finset.sum_induction f (fun x => x ≠ ⊤) (fun a b ha hb => ?_) (by simp) fun i _ => h i
  exact EReal.add_ne_top ha hb

/-- A factor that is a nonnegative real comes out of a finite sum. -/
theorem sum_mul_coe {n : ℕ} (f : Fin n → EReal) (r : ℝ) (hr : 0 ≤ r) :
    (∑ i, f i) * (r : EReal) = ∑ i, f i * (r : EReal) := by
  have h0 : (0 : EReal) ≤ (r : EReal) := by exact_mod_cast hr
  induction n with
  | zero => simp
  | succ n ih =>
    rw [Fin.sum_univ_castSucc, Fin.sum_univ_castSucc,
      EReal.right_distrib_of_nonneg_of_ne_top h0 (EReal.coe_ne_top r), ih]

/-- The row's value with every key: each probability is an exponential over the row's sum. -/
def full {n c N : ℕ} (sl : Fin n → EReal) (sc : Fin c → EReal) (sk : EReal) (vl : Fin n → EReal) (vc : Fin c → EReal) : EReal :=
  let M := top (row (N := N) sl sc sk)
  let D := ∑ k, Ideal.exp (row (N := N) sl sc sk k - M)
  (∑ k, vl k * Ideal.div (Ideal.exp (sl k - M)) D) + ∑ k, vc k * Ideal.div (Ideal.exp (sc k - M)) D

/-- The row's value from a window of the latent keys, the context keys and the sink, divided once at the end. -/
def banded {w c : ℕ} (sb : Fin w → EReal) (sc : Fin c → EReal) (sk : EReal) (vb : Fin w → EReal) (vc : Fin c → EReal) : EReal :=
  let m := max (max (top sc) sk) (top sb)
  Ideal.div ((∑ k, Ideal.exp (sc k - m) * vc k) + ∑ k, Ideal.exp (sb k - m) * vb k)
    ((∑ k, Ideal.exp (sc k - m)) + Ideal.exp (sk - m) + ∑ k, Ideal.exp (sb k - m))

/-- The two rows agree: off the window the scores are −∞, the sink is a real number and no score is +∞. -/
theorem banded_eq_full {n c w : ℕ} (lo : ℕ) (hlo : lo + w ≤ n) (sl : Fin n → EReal) (sc : Fin c → EReal) (sk : ℝ)
    (vl : Fin n → EReal) (vc : Fin c → EReal)
    (hl : ∀ k, sl k ≠ ⊤) (hc : ∀ k, sc k ≠ ⊤)
    (hw : ∀ P : Fin n, ¬(lo ≤ P.val ∧ P.val < lo + w) → sl P = ⊥) :
    banded (fun p : Fin w => sl ⟨lo + p.val, by omega⟩) sc sk (fun p : Fin w => vl ⟨lo + p.val, by omega⟩) vc
      = full (N := n + c + 1) sl sc sk vl vc := by
  unfold banded full
  rw [← top_window lo hlo sl hw, ← top_row]
  obtain ⟨M, hM⟩ : ∃ M : ℝ, top (row (N := n + c + 1) sl sc (sk : EReal)) = (M : EReal) := by
    have h1 : top (row (N := n + c + 1) sl sc (sk : EReal)) ≠ ⊤ := by
      refine top_ne_top _ fun k => ?_
      unfold row
      split
      · exact hl _
      · split
        · exact hc _
        · exact EReal.coe_ne_top _
    have h2 : top (row (N := n + c + 1) sl sc (sk : EReal)) ≠ ⊥ := by
      rw [top_row]
      exact ne_of_gt (lt_of_lt_of_le (EReal.bot_lt_coe sk) ((le_max_right _ _).trans (le_max_left _ _)))
    exact ⟨_, (EReal.coe_toReal h1 h2).symm⟩
  rw [hM]
  have hz : ∀ P : Fin n, ¬(lo ≤ P.val ∧ P.val < lo + w) → Ideal.exp (sl P - (M : EReal)) = 0 := fun P hP => by
    rw [hw P hP]; simp
  have e1 : ∑ k, Ideal.exp (sl k - (M : EReal)) = ∑ p : Fin w, Ideal.exp (sl ⟨lo + p.val, by omega⟩ - (M : EReal)) :=
    FinSumWindow.sum_window lo hlo _ hz
  dsimp only
  rw [sum_row (φ := fun x => Ideal.exp (x - (M : EReal))), ← e1]
  have eD : (∑ k, Ideal.exp (sl k - (M : EReal))) + (∑ k, Ideal.exp (sc k - (M : EReal))) + Ideal.exp ((sk : EReal) - (M : EReal))
      = (∑ k, Ideal.exp (sc k - (M : EReal))) + Ideal.exp ((sk : EReal) - (M : EReal)) + ∑ k, Ideal.exp (sl k - (M : EReal)) := by
    rw [add_assoc, add_comm]
  rw [eD]
  obtain ⟨D, hD, hDpos⟩ : ∃ D : ℝ, (∑ k, Ideal.exp (sc k - (M : EReal))) + Ideal.exp ((sk : EReal) - (M : EReal))
      + ∑ k, Ideal.exp (sl k - (M : EReal)) = (D : EReal) ∧ 0 < D := by
    have hnt : (∑ k, Ideal.exp (sc k - (M : EReal))) + Ideal.exp ((sk : EReal) - (M : EReal))
        + ∑ k, Ideal.exp (sl k - (M : EReal)) ≠ ⊤ := by
      refine EReal.add_ne_top (EReal.add_ne_top (sum_ne_top _ fun k => ?_) ?_) (sum_ne_top _ fun k => ?_)
      · exact exp_ne_top _ (sub_ne_top _ _ (hc k))
      · exact exp_ne_top _ (sub_ne_top _ _ (EReal.coe_ne_top _))
      · exact exp_ne_top _ (sub_ne_top _ _ (hl k))
    have hpos : 0 < (∑ k, Ideal.exp (sc k - (M : EReal))) + Ideal.exp ((sk : EReal) - (M : EReal))
        + ∑ k, Ideal.exp (sl k - (M : EReal)) := by
      have h1 : (0 : EReal) ≤ ∑ k, Ideal.exp (sc k - (M : EReal)) := Finset.sum_nonneg fun k _ => exp_nonneg _
      have h2 : (0 : EReal) ≤ ∑ k, Ideal.exp (sl k - (M : EReal)) := Finset.sum_nonneg fun k _ => exp_nonneg _
      have h3 : 0 < Ideal.exp ((sk : EReal) - (M : EReal)) := by rw [← EReal.coe_sub]; exact exp_pos _
      calc (0 : EReal) < Ideal.exp ((sk : EReal) - (M : EReal)) := h3
        _ ≤ (∑ k, Ideal.exp (sc k - (M : EReal))) + Ideal.exp ((sk : EReal) - (M : EReal)) := le_add_of_nonneg_left h1
        _ ≤ _ := le_add_of_nonneg_right h2
    have hb := ne_of_gt (lt_of_le_of_lt bot_le hpos)
    refine ⟨_, (EReal.coe_toReal hnt hb).symm, ?_⟩
    exact EReal.toReal_pos hpos hnt
  rw [hD, Ideal.div_coe hDpos.ne']
  have hr : 0 ≤ 1 / D := by positivity
  have hr' : (0 : EReal) ≤ ((1 / D : ℝ) : EReal) := by exact_mod_cast hr
  have eL : ∑ p : Fin w, Ideal.exp (sl ⟨lo + p.val, by omega⟩ - (M : EReal)) * vl ⟨lo + p.val, by omega⟩
      = ∑ k, Ideal.exp (sl k - (M : EReal)) * vl k :=
    (FinSumWindow.sum_window lo hlo (fun k => Ideal.exp (sl k - (M : EReal)) * vl k) fun P hP => by rw [hz P hP, zero_mul]).symm
  rw [eL, EReal.right_distrib_of_nonneg_of_ne_top hr' (EReal.coe_ne_top _), sum_mul_coe _ _ hr, sum_mul_coe _ _ hr, add_comm]
  congr 1
  · refine Finset.sum_congr rfl fun k _ => ?_
    rw [Ideal.div_coe hDpos.ne', mul_comm (Ideal.exp _), mul_assoc]
  · refine Finset.sum_congr rfl fun k _ => ?_
    rw [Ideal.div_coe hDpos.ne', mul_comm (Ideal.exp _), mul_assoc]

end Cert.Softmax

end
-- ==== Proof.Spec.lean ====
/- The scores of one query head and the softmax row of one output element, as functions of the four arrays. -/
module

public import proofs.«01_k».proof.Proof.Softmax
public import Idealize.ShloMosaic.Lib.Pointwise

@[expose] public section

set_option maxRecDepth 16384

noncomputable section

namespace Cert.Spec

open Idealize.ShloMosaic Cert.Softmax
open scoped BigOperators

abbrev SinkArr := (⟨1, ![8]⟩ : Shape).Idx → EReal
abbrev QArr := (⟨3, ![8, 73728, 64]⟩ : Shape).Idx → EReal
abbrev KArr := (⟨3, ![2, 64, 73728]⟩ : Shape).Idx → EReal
abbrev VArr := (⟨3, ![2, 73728, 64]⟩ : Shape).Idx → EReal

/-- Head `g` of key/value group `h`. -/
def head (h : Fin 2) (g : Fin 4) : Fin 8 := ⟨h.val * 4 + g.val, by omega⟩

/-- Latent token `s` of batch `b` among all tokens. -/
def lat (b : Fin 32) (s : Fin 2048) : Fin 73728 := ⟨b.val * 2048 + s.val, by omega⟩

/-- Context token `j` of batch `b` among all tokens. -/
def ctx (b : Fin 32) (j : Fin 256) : Fin 73728 := ⟨65536 + (b.val * 256 + j.val), by omega⟩

/-- The score of query token `t` against key token `u` in head `g` of group `h`. -/
def score (q : QArr) (k : KArr) (h : Fin 2) (g : Fin 4) (t u : Fin 73728) : EReal :=
  ∑ x : Fin 64, q (ix3 (head h g) t x) * k (ix3 h x u)

/-- A latent query's scores against all latent keys: −∞ more than 128 positions away. -/
def locRow (q : QArr) (k : KArr) (b : Fin 32) (h : Fin 2) (g : Fin 4) (s : Fin 2048) (j : Fin 2048) : EReal :=
  if |(j.val : ℤ) - s.val| ≤ 128 then score q k h g (lat b s) (lat b j) else ⊥

/-- A latent query's scores against the context keys. -/
def ctxRow (q : QArr) (k : KArr) (b : Fin 32) (h : Fin 2) (g : Fin 4) (s : Fin 2048) (j : Fin 256) : EReal :=
  score q k h g (lat b s) (ctx b j)

/-- The attention's value for token `s` of batch `b`, head `g` of group `h`, coordinate `d`. -/
def attn (a0 : SinkArr) (q : QArr) (k : KArr) (v : VArr) (b : Fin 32) (h : Fin 2) (g : Fin 4) (s : Fin 2048) (d : Fin 64) : EReal :=
  full (N := 2305) (locRow q k b h g s) (ctxRow q k b h g s) (a0 (ix1 (head h g)))
    (fun j => v (ix3 h (lat b j) d)) (fun j => v (ix3 h (ctx b j) d))

/-- A product of real numbers summed is a real number: here only that it is neither infinity. -/
theorem score_ne_top (q : QArr) (k : KArr) (hq : ∀ i, ∃ r : ℝ, q i = r) (hk : ∀ i, ∃ r : ℝ, k i = r)
    (h : Fin 2) (g : Fin 4) (t u : Fin 73728) : score q k h g t u ≠ ⊤ := by
  refine sum_ne_top _ fun x => ?_
  obtain ⟨r, hr⟩ := hq (ix3 (head h g) t x)
  obtain ⟨r', hr'⟩ := hk (ix3 h x u)
  rw [hr, hr', ← EReal.coe_mul]
  exact EReal.coe_ne_top _

/-- The whole result, row by row: batch, token, then group, head and coordinate. -/
def result (a0 : SinkArr) (q : QArr) (k : KArr) (v : VArr) : (⟨2, ![65536, 512]⟩ : Shape).Idx → EReal := fun y =>
  attn a0 q k v ⟨(y 0).val / 2048, by have : (y 0).val < 65536 := (y 0).isLt; omega⟩
    ⟨(y 1).val / 256, by have : (y 1).val < 512 := (y 1).isLt; omega⟩ ⟨(y 1).val / 64 % 4, by omega⟩
    ⟨(y 0).val % 2048, by omega⟩ ⟨(y 1).val % 64, by omega⟩

end Cert.Spec

end
-- ==== Proof.KTile.lean ====
/- One tile of the kernel: 128 query tokens of four heads against 384 latent keys and 256 context keys, read at an
   element. -/
module

public import proofs.«01_k».proof.Proof.Gen.KernelIdeal.Skeleton
public import proofs.«01_k».proof.Proof.Spec

@[expose] public section

set_option maxRecDepth 16384

noncomputable section

namespace Cert.KernelIdeal.Tile

open Cert.Softmax Cert.KernelIdeal Cert.KernelIdeal.Gen Idealize.ShloMosaic Idealize.SL.Sem
open scoped BigOperators

/-- Each row's maximum over the latent keys and what came before. -/
def mx (v266 : FVec Ideal S512x1 .f32) (v282 : FVec Ideal S512x384 .f32) : FVec Ideal S512x1 .f32 :=
  maximumf v266 (shapeCast S512x1 (multiReduction .maximumf [1] S512 v282 0xFF800000#32 reduces_S512x384_S512 (.inl rfl) rfl) shapeCasts_S512_S512x1)

/-- The context keys' exponentials. -/
def ec (m : FVec Ideal S512x1 .f32) (v263 : FVec Ideal S512x256 .f32) : FVec Ideal S512x256 .f32 :=
  exp (subf v263 (broadcastTo S512x256 m broadcasts_S512x1_S512x256))

/-- The latent keys' exponentials. -/
def el (m : FVec Ideal S512x1 .f32) (v282 : FVec Ideal S512x384 .f32) : FVec Ideal S512x384 .f32 :=
  exp (subf v282 (broadcastTo S512x384 m broadcasts_S512x1_S512x384))

/-- The rows' normalizers. -/
def den (snk m : FVec Ideal S512x1 .f32) (c : FVec Ideal S512x256 .f32) (l : FVec Ideal S512x384 .f32) : FVec Ideal S512x1 .f32 :=
  addf (addf (shapeCast S512x1 (multiReduction .add [1] S512 c 0x00000000#32 reduces_S512x256_S512 (.inl rfl) rfl) shapeCasts_S512_S512x1) (exp (subf snk m)))
    (shapeCast S512x1 (multiReduction .add [1] S512 l 0x00000000#32 reduces_S512x384_S512 (.inl rfl) rfl) shapeCasts_S512_S512x1)

/-- The rows' values, divided by their normalizers. -/
def quot (d : FVec Ideal S512x1 .f32) (c : FVec Ideal S512x256 .f32) (l : FVec Ideal S512x384 .f32)
    (vc : FVec Ideal S256x64 .bf16) (vb : FVec Ideal S1x384x64 .bf16) : FVec Ideal S512x64 .f32 :=
  divf (addf (matmul dot_S512x256_S256x64_S512x64_1_0_0_1_n_n none (truncf .bf16 c bitsLt_bf16_f32) vc (constant S512x64 .f32 0x00000000#32))
      (matmul dot_S512x384_S384x64_S512x64_1_0_0_1_n_n none (truncf .bf16 l bitsLt_bf16_f32) (shapeCast S384x64 vb shapeCasts_S1x384x64_S384x64) (constant S512x64 .f32 0x00000000#32)))
    (broadcastTo S512x64 d broadcasts_S512x1_S512x64)

/-- A tile's result from its scores, its running maximum, its sinks and its values. -/
def tile (snk : FVec Ideal S512x1 .f32) (vc : FVec Ideal S256x64 .bf16) (v263 : FVec Ideal S512x256 .f32)
    (v266 : FVec Ideal S512x1 .f32) (v282 : FVec Ideal S512x384 .f32) (vb : FVec Ideal S1x384x64 .bf16) : FVec Ideal S512x64 .f32 :=
  quot (den snk (mx v266 v282) (ec (mx v266 v282) v263) (el (mx v266 v282) v282)) (ec (mx v266 v282) v263) (el (mx v266 v282) v282) vc vb

/-- The first loop's tile. -/
theorem pay29_eq (v0 : IVec S512x1 32) (v7 : FVec Ideal S256x64 .bf16) (v66 : FVec Ideal S512x1 .f32) (v68 : IVec S512x1 32) (v82 : IVec S512x1 1) (v84 : IVec S512x1 32) (c0 : BitVec 32) (v93 : Elt Ideal .f32) (v122 : Elt Ideal .f32) (v263 : FVec Ideal S512x256 .f32) (v266 : FVec Ideal S512x1 .f32) (v282 : FVec Ideal S512x384 .f32) (v304 : Vec Ideal S1x384x64 .bf16) :
    k0_pay29 (F := Ideal) v0 v7 v66 v68 v82 v84 c0 v93 v122 v263 v266 v282 v304
      = tile (k0_pay28 v0 v66 v68 v82 v84 c0 v93 v122) v7 v263 v266 v282 v304 := rfl

/-- The second loop's tile. -/
theorem pay2_eq (v0 : IVec S512x1 32) (v129 : FVec Ideal S256x64 .bf16) (v188 : FVec Ideal S512x1 .f32) (v214 : IVec S512x1 1) (v215 : Elt Ideal .f32) (v244 : Elt Ideal .f32) (v263 : FVec Ideal S512x256 .f32) (v266 : FVec Ideal S512x1 .f32) (v282 : FVec Ideal S512x384 .f32) (v304 : Vec Ideal S1x384x64 .bf16) :
    k0_pay2 (F := Ideal) v0 v129 v188 v214 v215 v244 v263 v266 v282 v304
      = tile (k0_pay1 v0 v188 v214 v215 v244) v129 v263 v266 v282 v304 := rfl

theorem ofBits_bot : Ideal.ofBits .f32 0xFF800000#32 = ⊥ := by simp [Ideal.ofBits, Ideal.ieee]

/-- A row's maximum at an index. -/
theorem mx_at (v266 : FVec Ideal S512x1 .f32) (v282 : FVec Ideal S512x384 .f32) (R : Fin 512) (z : Fin 1) :
    mx v266 v282 (ix2 R z) = max (v266 (ix2 R 0)) (top fun p => v282 (ix2 R p)) := by
  obtain rfl : z = 0 := Subsingleton.elim _ _
  pointwise [mx]
  rw [ofBits_bot]
  rfl

/-- A context exponential at an index. -/
theorem ec_at (m : FVec Ideal S512x1 .f32) (v263 : FVec Ideal S512x256 .f32) (R : Fin 512) (k : Fin 256) :
    ec m v263 (ix2 R k) = Ideal.exp (v263 (ix2 R k) - m (ix2 R 0)) := by
  pointwise [ec]

/-- A latent exponential at an index. -/
theorem el_at (m : FVec Ideal S512x1 .f32) (v282 : FVec Ideal S512x384 .f32) (R : Fin 512) (k : Fin 384) :
    el m v282 (ix2 R k) = Ideal.exp (v282 (ix2 R k) - m (ix2 R 0)) := by
  pointwise [el]

/-- A normalizer at an index. -/
theorem den_at (snk m : FVec Ideal S512x1 .f32) (c : FVec Ideal S512x256 .f32) (l : FVec Ideal S512x384 .f32) (R : Fin 512) (z : Fin 1) :
    den snk m c l (ix2 R z)
      = (∑ k, c (ix2 R k)) + Ideal.exp (snk (ix2 R 0) - m (ix2 R 0)) + ∑ k, l (ix2 R k) := by
  obtain rfl : z = 0 := Subsingleton.elim _ _
  pointwise [den]
  try rfl

/-- A quotient at an index. -/
theorem quot_at (d : FVec Ideal S512x1 .f32) (c : FVec Ideal S512x256 .f32) (l : FVec Ideal S512x384 .f32)
    (vc : FVec Ideal S256x64 .bf16) (vb : FVec Ideal S1x384x64 .bf16) (R : Fin 512) (x : Fin 64) :
    quot d c l vc vb (ix2 R x)
      = Ideal.div ((∑ k, c (ix2 R k) * vc (ix2 k x)) + ∑ k, l (ix2 R k) * vb (ix3 0 k x)) (d (ix2 R 0)) := by
  pointwise [quot]

/-- The four heads' queries of a tile. -/
theorem pay10_at (q0 q1 q2 q3 : FVec Ideal S1x128x64 .bf16) (g : Fin 4) (r : Fin 128) (x : Fin 64) :
    k0_pay10 (F := Ideal) q0 q1 q2 q3 (ix2 ⟨g.val * 128 + r.val, by omega⟩ x)
      = (![q0, q1, q2, q3] g) (ix3 0 r x) := by
  pointwise [k0_pay10]
  have hr := r.isLt
  fin_cases g
  · simp
  · simp
  · simp
    rw [dif_neg (by omega), dif_neg (by omega), dif_pos (by omega)]
    congr 2
    exact Fin.ext (by simp only; omega)
  · simp
    rw [dif_neg (by omega), dif_neg (by omega), dif_neg (by omega)]
    congr 2
    exact Fin.ext (by simp only; omega)

theorem pay11_at (v5 : FVec Ideal S64x256 .bf16) (q0 q1 q2 q3 : FVec Ideal S1x128x64 .bf16) (R : Fin 512) (k : Fin 256) :
    k0_pay11 (F := Ideal) v5 q0 q1 q2 q3 (ix2 R k) = ∑ x, k0_pay10 (F := Ideal) q0 q1 q2 q3 (ix2 R x) * v5 (ix2 x k) := by
  unfold k0_pay11
  generalize k0_pay10 (F := Ideal) q0 q1 q2 q3 = Q
  pointwise

theorem pay12_at (v5 : FVec Ideal S64x256 .bf16) (snk : FVec Ideal S512x1 .f32) (q0 q1 q2 q3 : FVec Ideal S1x128x64 .bf16) (R : Fin 512) (z : Fin 1) :
    k0_pay12 (F := Ideal) v5 snk q0 q1 q2 q3 (ix2 R z) = max (top fun k => k0_pay11 (F := Ideal) v5 q0 q1 q2 q3 (ix2 R k)) (snk (ix2 R 0)) := by
  obtain rfl : z = 0 := Subsingleton.elim _ _
  unfold k0_pay12
  generalize k0_pay11 (F := Ideal) v5 q0 q1 q2 q3 = Q
  pointwise
  rw [ofBits_bot]
  rfl

theorem pay13_at (q0 q1 q2 q3 : FVec Ideal S1x128x64 .bf16) (kb : FVec Ideal S1x64x384 .bf16) (bias : FVec Ideal S1x512x384 .f32) (R : Fin 512) (k : Fin 384) :
    k0_pay13 (F := Ideal) q0 q1 q2 q3 kb bias (ix2 R k)
      = (∑ x, k0_pay10 (F := Ideal) q0 q1 q2 q3 (ix2 R x) * kb (ix3 0 x k)) + bias (ix3 0 R k) := by
  unfold k0_pay13
  generalize k0_pay10 (F := Ideal) q0 q1 q2 q3 = Q
  pointwise

/-- A tile's element is a banded softmax row weighted by the values. -/
theorem tile_at (snk : FVec Ideal S512x1 .f32) (vc : FVec Ideal S256x64 .bf16) (v263 : FVec Ideal S512x256 .f32)
    (v266 : FVec Ideal S512x1 .f32) (v282 : FVec Ideal S512x384 .f32) (vb : FVec Ideal S1x384x64 .bf16) (R : Fin 512) (x : Fin 64)
    (h : v266 (ix2 R 0) = max (top fun k => v263 (ix2 R k)) (snk (ix2 R 0))) :
    tile snk vc v263 v266 v282 vb (ix2 R x)
      = banded (fun p => v282 (ix2 R p)) (fun k => v263 (ix2 R k)) (snk (ix2 R 0)) (fun p => vb (ix3 0 p x)) (fun k => vc (ix2 k x)) := by
  unfold tile
  rw [quot_at, den_at]
  simp only [ec_at, el_at, mx_at, h]
  rfl

end Cert.KernelIdeal.Tile

end
-- ==== Proof.Mask.lean ====
/- The mask of positions at most 128 apart, on 32-bit words. -/
module

public import Idealize.ShloMosaic.Lib.Pointwise

@[expose] public section

set_option maxRecDepth 16384

noncomputable section

namespace Cert.Mask

open Idealize.ShloMosaic

/-- The absolute value of a word other than the least, as an integer. -/
theorem toInt_absi (w : BitVec 32) (h : -2 ^ 31 < w.toInt) : (IntOp.absi w).toInt = |w.toInt| := by
  unfold IntOp.absi
  split
  · rename_i hm
    have hneg : w.toInt < 0 := by rw [BitVec.toInt_neg_iff]; rw [BitVec.msb_eq_decide] at hm; simp at hm; omega
    rw [BitVec.toInt_neg, abs_of_neg hneg]
    rw [Int.bmod_eq_of_le] <;> omega
  · rename_i hm
    have hpos : 0 ≤ w.toInt := by
      rw [BitVec.msb_eq_toInt] at hm; simpa using hm
    rw [abs_of_nonneg hpos]

/-- The comparison of a distance with 128. -/
theorem cmp_absi (w : BitVec 32) (d : ℤ) (h : w.toInt = d) (hd : -2 ^ 31 < d) :
    IntOp.cmpi .sle (IntOp.absi w) 128#32 = if |d| ≤ 128 then 1#1 else 0#1 := by
  have e := toInt_absi w (by omega)
  rw [h] at e
  have e2 : (128#32 : BitVec 32).toInt = 128 := by decide
  unfold IntOp.cmpi
  simp only [BitVec.sle, e, e2]
  by_cases hh : |d| ≤ 128 <;> simp [hh]

/-- The difference of two small numbers' words. -/
theorem toInt_sub (a b : ℕ) (ha : a < 2 ^ 20) (hb : b < 2 ^ 20) :
    (IntOp.subi (BitVec.ofNat 32 a) (BitVec.ofNat 32 b)).toInt = (a : ℤ) - b := by
  unfold IntOp.subi
  rw [BitVec.toInt_sub, BitVec.toInt_ofNat', BitVec.toInt_ofNat']
  simp only [Int.bmod_def]
  omega

end Cert.Mask

end
-- ==== Proof.KConst.lean ====
/- The kernel's constants: the additive band masks it keeps in scratch, and the sink logit of each row of a tile. -/
module

public import proofs.«01_k».proof.Proof.KTile
public import proofs.«01_k».proof.Proof.Mask

@[expose] public section

set_option maxRecDepth 16384

noncomputable section

namespace Cert.KernelIdeal.Const

open Cert.Softmax Cert.KernelIdeal Cert.KernelIdeal.Gen Idealize.ShloMosaic Idealize.SL.Sem

/-- The three band masks: mask `v` is 0 where the column is at most 128 from the row's token plus `128 v`, −∞ elsewhere. -/
def band (v : Fin 3) (R : Fin 512) (p : Fin 384) : EReal :=
  if |(p.val : ℤ) - (R.val % 128 : ℕ) - (128 * v.val : ℕ)| ≤ 128 then 0 else ⊥

/-- The row's token within its tile, as the kernel's word arithmetic computes it. -/
def rowWord (w : BitVec 32) : BitVec 32 :=
  Scalar.select
        (IntOp.andi
          (IntOp.xori
            (IntOp.cmpi CmpIPredicate.slt
              (IntOp.remsi ArithUnit.vector w
                (Scalar.select (Scalar.cmpi CmpIPredicate.eq 128#32 0#32) 1#32 128#32))
              0#32)
            (Scalar.cmpi CmpIPredicate.slt (Scalar.select (Scalar.cmpi CmpIPredicate.eq 128#32 0#32) 1#32 128#32) 0#32))
          (IntOp.cmpi CmpIPredicate.ne
            (IntOp.remsi ArithUnit.vector w
              (Scalar.select (Scalar.cmpi CmpIPredicate.eq 128#32 0#32) 1#32 128#32))
            0#32))
        (IntOp.addi
          (IntOp.remsi ArithUnit.vector w
            (Scalar.select (Scalar.cmpi CmpIPredicate.eq 128#32 0#32) 1#32 128#32))
          (Scalar.select (Scalar.cmpi CmpIPredicate.eq 128#32 0#32) 1#32 128#32))
        (IntOp.remsi ArithUnit.vector w
          (Scalar.select (Scalar.cmpi CmpIPredicate.eq 128#32 0#32) 1#32 128#32))

theorem rowWord_eq : ∀ R : Fin 512, rowWord (BitVec.ofNat 32 R.val) = BitVec.ofNat 32 (R.val % 128) := by decide +kernel

/-- The head of a row, as the kernel's word arithmetic computes it. -/
def headWord (w : BitVec 32) : BitVec 32 :=
  Scalar.select
          (IntOp.andi
            (IntOp.cmpi CmpIPredicate.ne
              (IntOp.subi (BitVec.setWidth 32 (IntOp.cmpi CmpIPredicate.sgt w 0#32))
                (BitVec.setWidth 32 (IntOp.cmpi CmpIPredicate.slt w 0#32)))
              (Scalar.subi (Scalar.extui (Scalar.cmpi CmpIPredicate.sgt 128#32 0#32))
                (Scalar.extui (Scalar.cmpi CmpIPredicate.slt 128#32 0#32))))
            (IntOp.cmpi CmpIPredicate.ne (IntOp.remsi ArithUnit.vector w 128#32) 0#32))
          (IntOp.subi (IntOp.divsi ArithUnit.vector w 128#32) 1#32)
          (IntOp.divsi ArithUnit.vector w 128#32)

theorem headWord_eq : ∀ R : Fin 512, headWord (BitVec.ofNat 32 R.val) = BitVec.ofNat 32 (R.val / 128) := by decide +kernel

/-- The distance word of the band masks. -/
theorem pay7_at (R : Fin 512) (p : Fin 384) :
    k0_pay7 (ix2 R p) = IntOp.subi (BitVec.ofNat 32 p.val) (BitVec.ofNat 32 (R.val % 128)) := by
  have h : k0_pay7 (ix2 R p) = IntOp.subi (BitVec.ofNat 32 p.val) (rowWord (BitVec.ofNat 32 R.val)) := by
    pointwise [k0_pay7]
    rfl
  rw [h, rowWord_eq]

/-- The distance word less a multiple of 128. -/
theorem dist (R : Fin 512) (p : Fin 384) (v : Fin 3) :
    (IntOp.subi (k0_pay7 (ix2 R p)) (BitVec.ofNat 32 (128 * v.val))).toInt
      = (p.val : ℤ) - (R.val % 128 : ℕ) - (128 * v.val : ℕ) := by
  rw [pay7_at]
  have e := Mask.toInt_sub p.val (R.val % 128) (by omega) (by omega)
  have hv := v.isLt
  have hp := p.isLt
  unfold IntOp.subi at e ⊢
  rw [BitVec.toInt_sub, e, BitVec.toInt_ofNat']
  simp only [Int.bmod_def]
  omega

theorem mask_at (R : Fin 512) (p : Fin 384) (v : Fin 3) :
    Scalar.select (IntOp.cmpi .sle (IntOp.absi (IntOp.subi (k0_pay7 (ix2 R p)) (BitVec.ofNat 32 (128 * v.val)))) 128#32) (0 : EReal)
      (Ideal.ofBits .f32 0xFF800000#32) = band v R p := by
  have hv := v.isLt
  rw [Mask.cmp_absi _ _ (dist R p v) (by omega), Tile.ofBits_bot]
  unfold band
  split <;> rfl

/-- The first mask's tile. -/
theorem pay8_at (R : Fin 512) (p : Fin 384) : k0_pay8 (F := Ideal) (ix3 0 R p) = band 0 R p := by
  rw [← mask_at]
  unfold k0_pay8
  generalize k0_pay7 = w
  pointwise

/-- The second mask's tile. -/
theorem pay9_at (R : Fin 512) (p : Fin 384) : k0_pay18 (F := Ideal) k0_pay9 (ix3 0 R p) = band 1 R p := by
  rw [← mask_at]
  unfold k0_pay18 k0_pay9
  generalize k0_pay7 = w
  pointwise

/-- The third mask's tile. -/
theorem pay19_at (R : Fin 512) (p : Fin 384) : k0_pay19 (F := Ideal) k0_pay7 (ix3 0 R p) = band 2 R p := by
  rw [← mask_at]
  unfold k0_pay19
  generalize k0_pay7 = w
  pointwise

/-- The row number of each row of a tile. -/
abbrev rows : IVec S512x1 32 := iota Kind.tc S512x1 32 [0] iota_S512x1_d0_w32

/-- Four selections by the head's number pick that head's entry. -/
theorem pick_head {α : Type} (g : Fin 4) (a b c d z : α) :
    Scalar.select (IntOp.cmpi .eq (BitVec.ofNat 32 g.val) 3#32) d
      (Scalar.select (IntOp.cmpi .eq (BitVec.ofNat 32 g.val) 2#32) c
        (Scalar.select (IntOp.cmpi .eq (BitVec.ofNat 32 g.val) 1#32) b
          (Scalar.select (IntOp.cmpi .eq (BitVec.ofNat 32 g.val) 0#32) a z)))
      = (![a, b, c, d] : Fin 4 → α) g := by
  fin_cases g <;> rfl

theorem pick {α : Type} (R : Fin 512) (a b c d z : α) :
    Scalar.select (IntOp.cmpi .eq (headWord (BitVec.ofNat 32 R.val)) 3#32) d
      (Scalar.select (IntOp.cmpi .eq (headWord (BitVec.ofNat 32 R.val)) 2#32) c
        (Scalar.select (IntOp.cmpi .eq (headWord (BitVec.ofNat 32 R.val)) 1#32) b
          (Scalar.select (IntOp.cmpi .eq (headWord (BitVec.ofNat 32 R.val)) 0#32) a z)))
      = (![a, b, c, d] : Fin 4 → α) ⟨R.val / 128, by omega⟩ := by
  rw [headWord_eq]
  exact pick_head ⟨R.val / 128, by omega⟩ a b c d z

/-- The first group's sinks: row `R` has its own head's. -/
theorem snk1_at (a b c d : Elt Ideal .f32) (R : Fin 512) :
    k0_pay28 (F := Ideal) rows (k0_pay24 rows (k0_pay22 a) 128#32 k0_pay23 b) (k0_pay25 rows) (k0_pay26 rows) (k0_pay27 rows) 0#32 c d (ix2 R 0)
      = (![a, b, c, d] : Fin 4 → Elt Ideal .f32) ⟨R.val / 128, by omega⟩ := by
  rw [← pick R a b c d 0]
  pointwise [k0_pay28, k0_pay24, k0_pay22, k0_pay23, k0_pay25, k0_pay26, k0_pay27]
  rfl

/-- The second group's sinks. -/
theorem snk2_at (a b c d : Elt Ideal .f32) (R : Fin 512) :
    k0_pay1 (F := Ideal) rows (k0_pay39 rows (k0_pay36 rows a) 128#32 (k0_pay37 rows) (k0_pay38 rows) b) (k0_pay40 rows) c d (ix2 R 0)
      = (![a, b, c, d] : Fin 4 → Elt Ideal .f32) ⟨R.val / 128, by omega⟩ := by
  rw [← pick R a b c d 0]
  pointwise [k0_pay1, k0_pay39, k0_pay36, k0_pay37, k0_pay38, k0_pay40]
  rfl

end Cert.KernelIdeal.Const

end
-- ==== Proof.KBlock.lean ====
/- One grid point of the kernel: what its output block is, as a function of the six blocks it reads, and that a tile's
   element is the block's. -/
module

public import proofs.«01_k».proof.Proof.KConst

@[expose] public section

set_option maxRecDepth 16384

noncomputable section

namespace Cert.KernelIdeal.Block

open Cert.Softmax Cert.Spec Cert.KernelIdeal Cert.KernelIdeal.Gen Cert.KernelIdeal.Const Idealize.ShloMosaic Idealize.SL.Sem
open scoped BigOperators

/-- A latent score of the block. -/
def sLoc (x1 : FVec Ideal S8x2048x64 .bf16) (x2 : FVec Ideal S2x64x2048 .bf16) (h : Fin 2) (g : Fin 4) (s j : Fin 2048) : EReal :=
  if |(j.val : ℤ) - s.val| ≤ 128 then ∑ x : Fin 64, x1 (ix3 (head h g) s x) * x2 (ix3 h x j) else ⊥

/-- A context score of the block. -/
def sCtx (x1 : FVec Ideal S8x2048x64 .bf16) (x4 : FVec Ideal S2x64x256 .bf16) (h : Fin 2) (g : Fin 4) (s : Fin 2048) (j : Fin 256) : EReal :=
  ∑ x : Fin 64, x1 (ix3 (head h g) s x) * x4 (ix3 h x j)

/-- An element of the block's attention. -/
def val (x0 : FVec Ideal S8 .f32) (x1 : FVec Ideal S8x2048x64 .bf16) (x2 : FVec Ideal S2x64x2048 .bf16) (x3 : FVec Ideal S2x2048x64 .bf16)
    (x4 : FVec Ideal S2x64x256 .bf16) (x5 : FVec Ideal S2x256x64 .bf16) (h : Fin 2) (g : Fin 4) (s : Fin 2048) (d : Fin 64) : EReal :=
  full (N := 2305) (sLoc x1 x2 h g s) (sCtx x1 x4 h g s) (x0 (ix1 (head h g))) (fun j => x3 (ix3 h j d)) (fun j => x5 (ix3 h j d))

/-- The whole output block. -/
def out (x0 : FVec Ideal S8 .f32) (x1 : FVec Ideal S8x2048x64 .bf16) (x2 : FVec Ideal S2x64x2048 .bf16) (x3 : FVec Ideal S2x2048x64 .bf16)
    (x4 : FVec Ideal S2x64x256 .bf16) (x5 : FVec Ideal S2x256x64 .bf16) : FVec Ideal S2048x512 .f32 := fun y =>
  val x0 x1 x2 x3 x4 x5 ⟨(y 1).val / 256, by have : (y 1).val < 512 := (y 1).isLt; omega⟩ ⟨(y 1).val / 64 % 4, by omega⟩
    ⟨(y 0).val, (y 0).isLt⟩ ⟨(y 1).val % 64, by omega⟩

/-- The first latent key of a tile's window. -/
def lo (k : ℕ) : ℕ := min 1664 (128 * k - 128)

/-- The tile's mask: the first tile's, the last tile's, or any other's. -/
def var (k : ℕ) : Fin 3 := if k = 0 then 0 else if k = 15 then 2 else 1

/-- A tile's element is the block's, when its operands are the block's entries of head `g` of group `h` at token `128 k + r`. -/
theorem tile_eq (x0 : FVec Ideal S8 .f32) (x1 : FVec Ideal S8x2048x64 .bf16) (x2 : FVec Ideal S2x64x2048 .bf16) (x3 : FVec Ideal S2x2048x64 .bf16)
    (x4 : FVec Ideal S2x64x256 .bf16) (x5 : FVec Ideal S2x256x64 .bf16)
    (h0 : ∀ i, ∃ r : ℝ, x0 i = r) (h1 : ∀ i, ∃ r : ℝ, x1 i = r) (h2 : ∀ i, ∃ r : ℝ, x2 i = r) (h4 : ∀ i, ∃ r : ℝ, x4 i = r)
    (h : Fin 2) (g : Fin 4) (k : ℕ) (hk : k < 16) (r : Fin 128) (d : Fin 64)
    (snk : FVec Ideal S512x1 .f32) (v5 : FVec Ideal S64x256 .bf16) (vc : FVec Ideal S256x64 .bf16)
    (q0 q1 q2 q3 : FVec Ideal S1x128x64 .bf16) (kb : FVec Ideal S1x64x384 .bf16) (bias : FVec Ideal S1x512x384 .f32) (vb : FVec Ideal S1x384x64 .bf16)
    (esnk : ∀ R : Fin 512, snk (ix2 R 0) = x0 (ix1 (head h ⟨R.val / 128, by omega⟩)))
    (ev5 : ∀ x j, v5 (ix2 x j) = x4 (ix3 h x j)) (evc : ∀ j x, vc (ix2 j x) = x5 (ix3 h j x))
    (eq : ∀ (g : Fin 4) (r : Fin 128) (x : Fin 64), (![q0, q1, q2, q3] g) (ix3 0 r x) = x1 (ix3 (head h g) ⟨128 * k + r.val, by omega⟩ x))
    (ekb : ∀ (x : Fin 64) (p : Fin 384), kb (ix3 0 x p) = x2 (ix3 h x ⟨lo k + p.val, by unfold lo; omega⟩))
    (evb : ∀ (p : Fin 384) (x : Fin 64), vb (ix3 0 p x) = x3 (ix3 h ⟨lo k + p.val, by unfold lo; omega⟩ x))
    (ebias : ∀ (R : Fin 512) (p : Fin 384), bias (ix3 0 R p) = band (var k) R p) :
    Tile.tile snk vc (k0_pay11 (F := Ideal) v5 q0 q1 q2 q3) (k0_pay12 (F := Ideal) v5 snk q0 q1 q2 q3)
        (k0_pay13 (F := Ideal) q0 q1 q2 q3 kb bias) vb (ix2 ⟨g.val * 128 + r.val, by omega⟩ d)
      = val x0 x1 x2 x3 x4 x5 h g ⟨128 * k + r.val, by omega⟩ d := by
  have hg := g.isLt
  have hr := r.isLt
  have hlo : lo k + 384 ≤ 2048 := by unfold lo; omega
  have en : ∀ (j : Fin 2048), (∑ x : Fin 64, x1 (ix3 (head h g) ⟨128 * k + r.val, by omega⟩ x) * x2 (ix3 h x j)) ≠ ⊤ := fun j =>
    sum_ne_top _ fun x => by
      obtain ⟨a, ha⟩ := h1 (ix3 (head h g) ⟨128 * k + r.val, by omega⟩ x)
      obtain ⟨b, hb⟩ := h2 (ix3 h x j)
      rw [ha, hb, ← EReal.coe_mul]
      exact EReal.coe_ne_top _
  have ec : ∀ (j : Fin 256), sCtx x1 x4 h g ⟨128 * k + r.val, by omega⟩ j ≠ ⊤ := fun j =>
    sum_ne_top _ fun x => by
      obtain ⟨a, ha⟩ := h1 (ix3 (head h g) ⟨128 * k + r.val, by omega⟩ x)
      obtain ⟨b, hb⟩ := h4 (ix3 h x j)
      rw [ha, hb, ← EReal.coe_mul]
      exact EReal.coe_ne_top _
  obtain ⟨sk, hsk⟩ := h0 (ix1 (head h g))
  have e11 : ∀ j, k0_pay11 (F := Ideal) v5 q0 q1 q2 q3 (ix2 ⟨g.val * 128 + r.val, by omega⟩ j)
      = sCtx x1 x4 h g ⟨128 * k + r.val, by omega⟩ j := fun j => by
    rw [Tile.pay11_at]
    exact Finset.sum_congr rfl fun x _ => by rw [Tile.pay10_at, eq, ev5]
  have e13 : ∀ p : Fin 384, k0_pay13 (F := Ideal) q0 q1 q2 q3 kb bias (ix2 ⟨g.val * 128 + r.val, by omega⟩ p)
      = sLoc x1 x2 h g ⟨128 * k + r.val, by omega⟩ ⟨lo k + p.val, by omega⟩ := fun p => by
    rw [Tile.pay13_at, ebias]
    have es : (∑ x, k0_pay10 (F := Ideal) q0 q1 q2 q3 (ix2 ⟨g.val * 128 + r.val, by omega⟩ x) * kb (ix3 0 x p))
        = ∑ x : Fin 64, x1 (ix3 (head h g) ⟨128 * k + r.val, by omega⟩ x) * x2 (ix3 h x ⟨lo k + p.val, by omega⟩) :=
      Finset.sum_congr rfl fun x _ => by rw [Tile.pay10_at, eq, ekb]
    rw [es]
    unfold sLoc band
    have hd : ((p.val : ℤ) - ((g.val * 128 + r.val) % 128 : ℕ) - (128 * (var k).val : ℕ)) = ((lo k + p.val : ℕ) : ℤ) - (128 * k + r.val : ℕ) := by
      have : (g.val * 128 + r.val) % 128 = r.val := by omega
      rw [this]
      unfold lo var
      split
      · subst_vars; simp
      · split
        · subst_vars; simp; omega
        · have : min 1664 (128 * k - 128) = 128 * k - 128 := by omega
          rw [this]; simp; omega
    rw [hd]
    split
    · rw [add_zero]
    · rw [EReal.add_bot]
  have eR : (⟨(⟨g.val * 128 + r.val, by omega⟩ : Fin 512).val / 128, by omega⟩ : Fin 4) = g := Fin.ext (by simp only; omega)
  have esk : snk (ix2 ⟨g.val * 128 + r.val, by omega⟩ 0) = (sk : EReal) := by rw [esnk, eR, hsk]
  rw [Tile.tile_at _ _ _ _ _ _ _ _ (Tile.pay12_at _ _ _ _ _ _ _ _), esk]
  simp only [e11, e13, evb, evc]
  unfold val
  rw [hsk]
  refine banded_eq_full (n := 2048) (c := 256) (w := 384) (lo k) hlo (sLoc x1 x2 h g ⟨128 * k + r.val, by omega⟩) (sCtx x1 x4 h g ⟨128 * k + r.val, by omega⟩) sk
    (fun j => x3 (ix3 h j d)) (fun j => x5 (ix3 h j d)) (fun j => ?_) ec (fun P hP => ?_)
  · unfold sLoc
    split
    · exact en j
    · exact bot_ne_top
  · unfold sLoc
    rw [if_neg]
    have hPl := P.isLt
    unfold lo at hP
    intro hc
    rw [abs_le] at hc
    simp only at hc
    push_cast at hc
    apply hP
    by_cases hk0 : k = 0
    · subst hk0; omega
    · by_cases hk15 : k = 15
      · subst hk15; omega
      · omega

end Cert.KernelIdeal.Block

end
-- ==== Proof.KLoad.lean ====
/- Loads from a buffer whose contents are known, and the tiles' row slices, read at an element. -/
module

public import proofs.«01_k».proof.Proof.KBlock
public import proofs.«01_k».proof.Proof.Gen.KernelIdeal.Frame

@[expose] public section

set_option maxRecDepth 16384

noncomputable section

namespace Cert.KernelIdeal.Load

open Cert.KernelIdeal Cert.KernelIdeal.Gen Idealize.ShloMosaic Idealize.ShloMosaic.TcCoe Idealize.SL.Sem

/-- A load through a whole buffer reads the contents at the rectangle's offset. -/
theorem load_at {sp : Space} {s : Shape} {e : EltTy} {κ : Kind} (m : Memref sig κ sp s e) (h : m.IsWhole) (X : s.Idx → Elt Ideal e)
    {off size : Fin s.rank → ℕ} (inb : ∀ a, off a + size a ≤ s.size a) (y : (Rect.unit (s := s) off size inb).toLoadRect.shape.Idx) (j : s.Idx)
    {o : Fin s.rank → ℕ} (ho : off = o) (hj : ∀ a, (j a).val = o a + (y a).val) :
    View.readAt (Elt Ideal) m.view (Rect.unit (s := s) off size inb).toLoadRect (h.unread X) y = X j := by
  rw [View.readAt_apply, h.read_unread]
  refine congrArg X (funext fun a => Fin.ext ?_)
  rw [hj a, ← ho]
  exact Rect.emb_apply (Rect.unit (s := s) off size inb) y a |>.trans (by simp [Rect.unit])

/-- The same, of contents known only through the view. -/
theorem load_at' {sp : Space} {s : Shape} {e : EltTy} {κ : Kind} (m : Memref sig κ sp s e) (f : m.view.ty.Contents (Elt Ideal)) (X : s.Idx → Elt Ideal e)
    (h : m.view.read (Elt Ideal) f = X)
    {off size : Fin s.rank → ℕ} (inb : ∀ a, off a + size a ≤ s.size a) (y : (Rect.unit (s := s) off size inb).toLoadRect.shape.Idx) (j : s.Idx)
    {o : Fin s.rank → ℕ} (ho : off = o) (hj : ∀ a, (j a).val = o a + (y a).val) :
    View.readAt (Elt Ideal) m.view (Rect.unit (s := s) off size inb).toLoadRect f y = X j := by
  rw [View.readAt_apply, h]
  refine congrArg X (funext fun a => Fin.ext ?_)
  rw [hj a, ← ho]
  exact Rect.emb_apply (Rect.unit (s := s) off size inb) y a |>.trans (by simp [Rect.unit])

theorem off5_eq : ∀ k : Fin k0_t1_loop.trips, k0_off5 k = ![0, 0, Block.lo k.val] := by decide +kernel
theorem off7_eq : ∀ k : Fin k0_t1_loop.trips, k0_off7 k = ![0, Block.lo k.val, 0] := by decide +kernel
theorem off6_eq : ∀ k : Fin k0_t1_loop.trips, k0_off6 k = ![(Block.var k.val).val, 0, 0] := by decide +kernel
theorem off16_eq : ∀ k : Fin k0_t2_loop.trips, k0_off16 k = ![1, 0, Block.lo k.val] := by decide +kernel
theorem off18_eq : ∀ k : Fin k0_t2_loop.trips, k0_off18 k = ![1, Block.lo k.val, 0] := by decide +kernel
theorem off17_eq : ∀ k : Fin k0_t2_loop.trips, k0_off17 k = ![(Block.var k.val).val, 0, 0] := by decide +kernel

/-- The four row slices of a tile. -/
theorem slice0 (T : FVec Ideal S512x64 .f32) (r : Fin 128) (d : Fin 64) :
    extractStridedSlice S128x64 ![0, 0] T slices_S512x64_o0_0_S128x64 (ix2 r d) = T (ix2 ⟨(0 : Fin 4).val * 128 + r.val, by omega⟩ d) := by
  pointwise
theorem slice1 (T : FVec Ideal S512x64 .f32) (r : Fin 128) (d : Fin 64) :
    extractStridedSlice S128x64 ![128, 0] T slices_S512x64_o128_0_S128x64 (ix2 r d) = T (ix2 ⟨(1 : Fin 4).val * 128 + r.val, by omega⟩ d) := by
  pointwise
theorem slice2 (T : FVec Ideal S512x64 .f32) (r : Fin 128) (d : Fin 64) :
    extractStridedSlice S128x64 ![256, 0] T slices_S512x64_o256_0_S128x64 (ix2 r d) = T (ix2 ⟨(2 : Fin 4).val * 128 + r.val, by omega⟩ d) := by
  pointwise
theorem slice3 (T : FVec Ideal S512x64 .f32) (r : Fin 128) (d : Fin 64) :
    extractStridedSlice S128x64 ![384, 0] T slices_S512x64_o384_0_S128x64 (ix2 r d) = T (ix2 ⟨(3 : Fin 4).val * 128 + r.val, by omega⟩ d) := by
  pointwise

/-- A stored slice is a block of the output: head `g` of group `h`, the trip's 128 tokens. -/
theorem piece (x0 : FVec Ideal S8 .f32) (x1 : FVec Ideal S8x2048x64 .bf16) (x2 : FVec Ideal S2x64x2048 .bf16) (x3 : FVec Ideal S2x2048x64 .bf16)
    (x4 : FVec Ideal S2x64x256 .bf16) (x5 : FVec Ideal S2x256x64 .bf16) (h : Fin 2) (g : Fin 4) (k : ℕ) (hk : k < 16)
    (w : FVec Ideal S128x64 .f32)
    (hw : ∀ (r : Fin 128) (d : Fin 64), w (ix2 r d) = Block.val x0 x1 x2 x3 x4 x5 h g ⟨128 * k + r.val, by omega⟩ d)
    {off : Fin 2 → ℕ} (inb : ∀ a, off a + S128x64.size a ≤ S2048x512.size a) (ho : off = ![128 * k, 256 * h.val + 64 * g.val])
    (x : S128x64.Idx) :
    w x = Block.out x0 x1 x2 x3 x4 x5 ((Rect.unit (s := S2048x512) off S128x64.size inb).emb x) := by
  subst ho
  obtain ⟨r, d, rfl⟩ : ∃ (r : Fin 128) (d : Fin 64), x = ix2 r d := ⟨x 0, x 1, eq_ix2 x⟩
  have hg := g.isLt
  have hh := h.isLt
  have hd := d.isLt
  rw [hw]
  have e0 : (((Rect.unit (s := S2048x512) ![128 * k, 256 * h.val + 64 * g.val] S128x64.size inb).emb (ix2 r d)) 0).val = 128 * k + r.val := by
    rw [Rect.emb_apply]; simp [Rect.unit, ix2]
  have e1 : (((Rect.unit (s := S2048x512) ![128 * k, 256 * h.val + 64 * g.val] S128x64.size inb).emb (ix2 r d)) 1).val = 256 * h.val + 64 * g.val + d.val := by
    rw [Rect.emb_apply]; simp [Rect.unit, ix2]
  unfold Block.out
  congr 1
  · exact Fin.ext (by simp only [e1]; omega)
  · exact Fin.ext (by simp only [e1]; omega)
  · exact Fin.ext (by simp only [e0])
  · exact Fin.ext (by simp only [e1]; omega)

end Cert.KernelIdeal.Load

end
-- ==== Proof.KPieces.lean ====
/- The two loops' stores: every piece either loop writes is a block of the output. -/
module

public import proofs.«01_k».proof.Proof.KLoad
public import Idealize.ShloMosaic.Lib.Pipeline.ReadBack

@[expose] public section

set_option maxRecDepth 16384

noncomputable section

namespace Cert.KernelIdeal.Pieces

open Cert.Spec Cert.KernelIdeal Cert.KernelIdeal.Gen Cert.KernelIdeal.Load Idealize.ShloMosaic Idealize.ShloMosaic.TcCoe Idealize.SL.Sem

/-- The three band masks, as the scratch holds them. -/
def masks : FVec Ideal S3x512x384 .f32 := fun y => Const.band ⟨(y 0).val, (y 0).isLt⟩ ⟨(y 1).val, (y 1).isLt⟩ ⟨(y 2).val, (y 2).isLt⟩

variable (x0 : FVec Ideal S8 .f32) (x1 : FVec Ideal S8x2048x64 .bf16) (x2 : FVec Ideal S2x64x2048 .bf16) (x3 : FVec Ideal S2x2048x64 .bf16)
    (x4 : FVec Ideal S2x64x256 .bf16) (x5 : FVec Ideal S2x256x64 .bf16)

/-- Every store of one trip of group 0's loop is a block of the output. -/
theorem trip1 (c : Dev nD) (i : grid0.Coords) (arg1 : Memref sig .tc .smem S8 .f32) (harg1 : arg1.IsWhole) (arg2 : Memref sig .tc .vmem S8x2048x64 .bf16) (harg2 : arg2.IsWhole) (arg3 : Memref sig .tc .vmem S2x64x2048 .bf16) (harg3 : arg3.IsWhole) (arg4 : Memref sig .tc .vmem S2x2048x64 .bf16) (harg4 : arg4.IsWhole) (arg5 : Memref sig .tc .vmem S2x64x256 .bf16) (harg5 : arg5.IsWhole) (arg6 : Memref sig .tc .vmem S2x256x64 .bf16) (harg6 : arg6.IsWhole) (arg7 : Memref sig .tc .vmem S2048x512 .f32) (harg7 : arg7.IsWhole) (arg8 : Memref sig .tc .vmem S3x512x384 .f32) (harg8 : arg8.IsWhole)
    (v0 : IVec S512x1 32) (v5 : FVec Ideal S64x256 .bf16) (v7 : FVec Ideal S256x64 .bf16) (v66 : FVec Ideal S512x1 .f32) (v68 : IVec S512x1 32) (v82 : IVec S512x1 1) (v84 : IVec S512x1 32) (c0 : BitVec 32) (v93 : Elt Ideal .f32) (v122 : Elt Ideal .f32)
    (h0 : ∀ i, ∃ r : ℝ, x0 i = r) (h1 : ∀ i, ∃ r : ℝ, x1 i = r) (h2 : ∀ i, ∃ r : ℝ, x2 i = r) (h4 : ∀ i, ∃ r : ℝ, x4 i = r)
    (X8 : arg8.view.ty.Contents (Elt Ideal)) (hX8 : arg8.view.read (Elt Ideal) X8 = masks)
    (esnk : ∀ R : Fin 512, (k0_pay28 (F := Ideal) v0 v66 v68 v82 v84 c0 v93 v122) (ix2 R 0) = x0 (ix1 (head 0 ⟨R.val / 128, by omega⟩)))
    (ev5 : ∀ x j, v5 (ix2 x j) = x4 (ix3 0 x j)) (evc : ∀ j x, v7 (ix2 j x) = x5 (ix3 0 j x))
    (k : Fin k0_t1_loop.trips) :
    View.PiecesOf (Block.out x0 x1 x2 x3 x4 x5) (tripL_k0_t1 (F := Ideal) Variants.none c none i arg1 harg1 arg2 harg2 arg3 harg3 arg4 harg4 arg5 harg5 arg6 harg6 arg7 harg7 arg8 harg8 v0 v5 v7 v66 v68 v82 v84 c0 v93 v122 (harg2.unread x1) (harg3.unread x2) (harg4.unread x3) X8 k) := by
  have hk : k.val < 16 := Nat.lt_of_lt_of_le k.isLt k0_t1_abs.2.1
  have key : ∀ (g : Fin 4) (r : Fin 128) (d : Fin 64),
      Tile.tile (k0_pay28 (F := Ideal) v0 v66 v68 v82 v84 c0 v93 v122) v7
        (k0_pay11 (F := Ideal) v5
      (View.readAt (Elt Ideal) arg2.view (Rect.unit (s := S8x2048x64) (k0_off1 k) S1x128x64.size (k0_off1_inb k)).toLoadRect (harg2.unread x1))
      (View.readAt (Elt Ideal) arg2.view (Rect.unit (s := S8x2048x64) (k0_off2 k) S1x128x64.size (k0_off2_inb k)).toLoadRect (harg2.unread x1))
      (View.readAt (Elt Ideal) arg2.view (Rect.unit (s := S8x2048x64) (k0_off3 k) S1x128x64.size (k0_off3_inb k)).toLoadRect (harg2.unread x1))
      (View.readAt (Elt Ideal) arg2.view (Rect.unit (s := S8x2048x64) (k0_off4 k) S1x128x64.size (k0_off4_inb k)).toLoadRect (harg2.unread x1)))
        (k0_pay12 (F := Ideal) v5 (k0_pay28 (F := Ideal) v0 v66 v68 v82 v84 c0 v93 v122)
      (View.readAt (Elt Ideal) arg2.view (Rect.unit (s := S8x2048x64) (k0_off1 k) S1x128x64.size (k0_off1_inb k)).toLoadRect (harg2.unread x1))
      (View.readAt (Elt Ideal) arg2.view (Rect.unit (s := S8x2048x64) (k0_off2 k) S1x128x64.size (k0_off2_inb k)).toLoadRect (harg2.unread x1))
      (View.readAt (Elt Ideal) arg2.view (Rect.unit (s := S8x2048x64) (k0_off3 k) S1x128x64.size (k0_off3_inb k)).toLoadRect (harg2.unread x1))
      (View.readAt (Elt Ideal) arg2.view (Rect.unit (s := S8x2048x64) (k0_off4 k) S1x128x64.size (k0_off4_inb k)).toLoadRect (harg2.unread x1)))
        (k0_pay13 (F := Ideal)
      (View.readAt (Elt Ideal) arg2.view (Rect.unit (s := S8x2048x64) (k0_off1 k) S1x128x64.size (k0_off1_inb k)).toLoadRect (harg2.unread x1))
      (View.readAt (Elt Ideal) arg2.view (Rect.unit (s := S8x2048x64) (k0_off2 k) S1x128x64.size (k0_off2_inb k)).toLoadRect (harg2.unread x1))
      (View.readAt (Elt Ideal) arg2.view (Rect.unit (s := S8x2048x64) (k0_off3 k) S1x128x64.size (k0_off3_inb k)).toLoadRect (harg2.unread x1))
      (View.readAt (Elt Ideal) arg2.view (Rect.unit (s := S8x2048x64) (k0_off4 k) S1x128x64.size (k0_off4_inb k)).toLoadRect (harg2.unread x1))
      (View.readAt (Elt Ideal) arg3.view (Rect.unit (s := S2x64x2048) (k0_off5 k) S1x64x384.size (k0_off5_inb k)).toLoadRect (harg3.unread x2))
      (View.readAt (Elt Ideal) arg8.view (Rect.unit (s := S3x512x384) (k0_off6 k) S1x512x384.size (k0_off6_inb k)).toLoadRect X8))
      (View.readAt (Elt Ideal) arg4.view (Rect.unit (s := S2x2048x64) (k0_off7 k) S1x384x64.size (k0_off7_inb k)).toLoadRect (harg4.unread x3)) (ix2 ⟨g.val * 128 + r.val, by omega⟩ d)
      = Block.val x0 x1 x2 x3 x4 x5 0 g ⟨128 * k.val + r.val, by omega⟩ d := fun g r d => by
    refine Block.tile_eq x0 x1 x2 x3 x4 x5 h0 h1 h2 h4 0 g k.val hk r d _ _ _ _ _ _ _ _ _ _ esnk ev5 evc (fun g r x => ?_) (fun x p => ?_) (fun p x => ?_) (fun R p => ?_)
    · fin_cases g
      · exact load_at arg2 harg2 x1 _ _ _ (k0_off1_eq k) (by intro a; fin_cases a <;> simp [ix3, head])
      · exact load_at arg2 harg2 x1 _ _ _ (k0_off2_eq k) (by intro a; fin_cases a <;> simp [ix3, head])
      · exact load_at arg2 harg2 x1 _ _ _ (k0_off3_eq k) (by intro a; fin_cases a <;> simp [ix3, head])
      · exact load_at arg2 harg2 x1 _ _ _ (k0_off4_eq k) (by intro a; fin_cases a <;> simp [ix3, head])
    · exact load_at arg3 harg3 x2 _ _ _ (off5_eq k) (by intro a; fin_cases a <;> simp [ix3])
    · exact load_at arg4 harg4 x3 _ _ _ (off7_eq k) (by intro a; fin_cases a <;> simp [ix3])
    · exact load_at' arg8 X8 masks hX8 _ _ (ix3 (Block.var k.val) R p) (off6_eq k) (by intro a; fin_cases a <;> simp [ix3])
  unfold tripL_k0_t1 trip_k0_t1
  dsimp only
  refine ⟨fun x => ?_, fun x => ?_, fun x => ?_, fun x => ?_, trivial⟩
  · exact piece x0 x1 x2 x3 x4 x5 0 3 k.val hk _ (fun r d => (slice3 _ r d).trans (key 3 r d)) (k0_off11_inb k) (k0_off11_eq k) x
  · exact piece x0 x1 x2 x3 x4 x5 0 2 k.val hk _ (fun r d => (slice2 _ r d).trans (key 2 r d)) (k0_off10_inb k) (k0_off10_eq k) x
  · exact piece x0 x1 x2 x3 x4 x5 0 1 k.val hk _ (fun r d => (slice1 _ r d).trans (key 1 r d)) (k0_off9_inb k) (k0_off9_eq k) x
  · exact piece x0 x1 x2 x3 x4 x5 0 0 k.val hk _ (fun r d => (slice0 _ r d).trans (key 0 r d)) (k0_off8_inb k) (k0_off8_eq k) x

/-- Every store of one trip of group 1's loop is a block of the output. -/
theorem trip2 (c : Dev nD) (i : grid0.Coords) (arg1 : Memref sig .tc .smem S8 .f32) (harg1 : arg1.IsWhole) (arg2 : Memref sig .tc .vmem S8x2048x64 .bf16) (harg2 : arg2.IsWhole) (arg3 : Memref sig .tc .vmem S2x64x2048 .bf16) (harg3 : arg3.IsWhole) (arg4 : Memref sig .tc .vmem S2x2048x64 .bf16) (harg4 : arg4.IsWhole) (arg5 : Memref sig .tc .vmem S2x64x256 .bf16) (harg5 : arg5.IsWhole) (arg6 : Memref sig .tc .vmem S2x256x64 .bf16) (harg6 : arg6.IsWhole) (arg7 : Memref sig .tc .vmem S2048x512 .f32) (harg7 : arg7.IsWhole) (arg8 : Memref sig .tc .vmem S3x512x384 .f32) (harg8 : arg8.IsWhole)
    (v0 : IVec S512x1 32) (v127 : FVec Ideal S64x256 .bf16) (v129 : FVec Ideal S256x64 .bf16) (v188 : FVec Ideal S512x1 .f32) (v214 : IVec S512x1 1) (v215 : Elt Ideal .f32) (v244 : Elt Ideal .f32)
    (h0 : ∀ i, ∃ r : ℝ, x0 i = r) (h1 : ∀ i, ∃ r : ℝ, x1 i = r) (h2 : ∀ i, ∃ r : ℝ, x2 i = r) (h4 : ∀ i, ∃ r : ℝ, x4 i = r)
    (X8 : arg8.view.ty.Contents (Elt Ideal)) (hX8 : arg8.view.read (Elt Ideal) X8 = masks)
    (esnk : ∀ R : Fin 512, (k0_pay1 (F := Ideal) v0 v188 v214 v215 v244) (ix2 R 0) = x0 (ix1 (head 1 ⟨R.val / 128, by omega⟩)))
    (ev5 : ∀ x j, v127 (ix2 x j) = x4 (ix3 1 x j)) (evc : ∀ j x, v129 (ix2 j x) = x5 (ix3 1 j x))
    (k : Fin k0_t2_loop.trips) :
    View.PiecesOf (Block.out x0 x1 x2 x3 x4 x5) (tripL_k0_t2 (F := Ideal) Variants.none c none i arg1 harg1 arg2 harg2 arg3 harg3 arg4 harg4 arg5 harg5 arg6 harg6 arg7 harg7 arg8 harg8 v0 v127 v129 v188 v214 v215 v244 (harg2.unread x1) (harg3.unread x2) (harg4.unread x3) X8 k) := by
  have hk : k.val < 16 := Nat.lt_of_lt_of_le k.isLt k0_t2_abs.2.1
  have key : ∀ (g : Fin 4) (r : Fin 128) (d : Fin 64),
      Tile.tile (k0_pay1 (F := Ideal) v0 v188 v214 v215 v244) v129
        (k0_pay11 (F := Ideal) v127
      (View.readAt (Elt Ideal) arg2.view (Rect.unit (s := S8x2048x64) (k0_off12 k) S1x128x64.size (k0_off12_inb k)).toLoadRect (harg2.unread x1))
      (View.readAt (Elt Ideal) arg2.view (Rect.unit (s := S8x2048x64) (k0_off13 k) S1x128x64.size (k0_off13_inb k)).toLoadRect (harg2.unread x1))
      (View.readAt (Elt Ideal) arg2.view (Rect.unit (s := S8x2048x64) (k0_off14 k) S1x128x64.size (k0_off14_inb k)).toLoadRect (harg2.unread x1))
      (View.readAt (Elt Ideal) arg2.view (Rect.unit (s := S8x2048x64) (k0_off15 k) S1x128x64.size (k0_off15_inb k)).toLoadRect (harg2.unread x1)))
        (k0_pay12 (F := Ideal) v127 (k0_pay1 (F := Ideal) v0 v188 v214 v215 v244)
      (View.readAt (Elt Ideal) arg2.view (Rect.unit (s := S8x2048x64) (k0_off12 k) S1x128x64.size (k0_off12_inb k)).toLoadRect (harg2.unread x1))
      (View.readAt (Elt Ideal) arg2.view (Rect.unit (s := S8x2048x64) (k0_off13 k) S1x128x64.size (k0_off13_inb k)).toLoadRect (harg2.unread x1))
      (View.readAt (Elt Ideal) arg2.view (Rect.unit (s := S8x2048x64) (k0_off14 k) S1x128x64.size (k0_off14_inb k)).toLoadRect (harg2.unread x1))
      (View.readAt (Elt Ideal) arg2.view (Rect.unit (s := S8x2048x64) (k0_off15 k) S1x128x64.size (k0_off15_inb k)).toLoadRect (harg2.unread x1)))
        (k0_pay13 (F := Ideal)
      (View.readAt (Elt Ideal) arg2.view (Rect.unit (s := S8x2048x64) (k0_off12 k) S1x128x64.size (k0_off12_inb k)).toLoadRect (harg2.unread x1))
      (View.readAt (Elt Ideal) arg2.view (Rect.unit (s := S8x2048x64) (k0_off13 k) S1x128x64.size (k0_off13_inb k)).toLoadRect (harg2.unread x1))
      (View.readAt (Elt Ideal) arg2.view (Rect.unit (s := S8x2048x64) (k0_off14 k) S1x128x64.size (k0_off14_inb k)).toLoadRect (harg2.unread x1))
      (View.readAt (Elt Ideal) arg2.view (Rect.unit (s := S8x2048x64) (k0_off15 k) S1x128x64.size (k0_off15_inb k)).toLoadRect (harg2.unread x1))
      (View.readAt (Elt Ideal) arg3.view (Rect.unit (s := S2x64x2048) (k0_off16 k) S1x64x384.size (k0_off16_inb k)).toLoadRect (harg3.unread x2))
      (View.readAt (Elt Ideal) arg8.view (Rect.unit (s := S3x512x384) (k0_off17 k) S1x512x384.size (k0_off17_inb k)).toLoadRect X8))
      (View.readAt (Elt Ideal) arg4.view (Rect.unit (s := S2x2048x64) (k0_off18 k) S1x384x64.size (k0_off18_inb k)).toLoadRect (harg4.unread x3)) (ix2 ⟨g.val * 128 + r.val, by omega⟩ d)
      = Block.val x0 x1 x2 x3 x4 x5 1 g ⟨128 * k.val + r.val, by omega⟩ d := fun g r d => by
    refine Block.tile_eq x0 x1 x2 x3 x4 x5 h0 h1 h2 h4 1 g k.val hk r d _ _ _ _ _ _ _ _ _ _ esnk ev5 evc (fun g r x => ?_) (fun x p => ?_) (fun p x => ?_) (fun R p => ?_)
    · fin_cases g
      · exact load_at arg2 harg2 x1 _ _ _ (k0_off12_eq k) (by intro a; fin_cases a <;> simp [ix3, head])
      · exact load_at arg2 harg2 x1 _ _ _ (k0_off13_eq k) (by intro a; fin_cases a <;> simp [ix3, head])
      · exact load_at arg2 harg2 x1 _ _ _ (k0_off14_eq k) (by intro a; fin_cases a <;> simp [ix3, head])
      · exact load_at arg2 harg2 x1 _ _ _ (k0_off15_eq k) (by intro a; fin_cases a <;> simp [ix3, head])
    · exact load_at arg3 harg3 x2 _ _ _ (off16_eq k) (by intro a; fin_cases a <;> simp [ix3])
    · exact load_at arg4 harg4 x3 _ _ _ (off18_eq k) (by intro a; fin_cases a <;> simp [ix3])
    · exact load_at' arg8 X8 masks hX8 _ _ (ix3 (Block.var k.val) R p) (off17_eq k) (by intro a; fin_cases a <;> simp [ix3])
  unfold tripL_k0_t2 trip_k0_t2
  dsimp only
  refine ⟨fun x => ?_, fun x => ?_, fun x => ?_, fun x => ?_, trivial⟩
  · exact piece x0 x1 x2 x3 x4 x5 1 3 k.val hk _ (fun r d => (slice3 _ r d).trans (key 3 r d)) (k0_off22_inb k) (k0_off22_eq k) x
  · exact piece x0 x1 x2 x3 x4 x5 1 2 k.val hk _ (fun r d => (slice2 _ r d).trans (key 2 r d)) (k0_off21_inb k) (k0_off21_eq k) x
  · exact piece x0 x1 x2 x3 x4 x5 1 1 k.val hk _ (fun r d => (slice1 _ r d).trans (key 1 r d)) (k0_off20_inb k) (k0_off20_eq k) x
  · exact piece x0 x1 x2 x3 x4 x5 1 0 k.val hk _ (fun r d => (slice0 _ r d).trans (key 0 r d)) (k0_off19_inb k) (k0_off19_eq k) x

end Cert.KernelIdeal.Pieces

end
-- ==== Proof.KPoint.lean ====
/- What a grid point leaves in its output block and in the scratch it carries. -/
module

public import proofs.«01_k».proof.Proof.KPieces

@[expose] public section

set_option maxRecDepth 16384

noncomputable section

namespace Cert.KernelIdeal.Point

open Cert.Spec Cert.KernelIdeal Cert.KernelIdeal.Gen Cert.KernelIdeal.Load Cert.KernelIdeal.Pieces Idealize.ShloMosaic Idealize.ShloMosaic.TcCoe Idealize.SL.Sem

/-- Two lists of blocks of one array, one after the other. -/
theorem piecesOf_append {s : Shape} {e : EltTy} (G : s.Idx → Elt Ideal e) : ∀ (L L' : List (View.Piece (Elt Ideal) s e)),
    View.PiecesOf G L → View.PiecesOf G L' → View.PiecesOf G (L ++ L')
  | [], _, _, h' => h'
  | p :: L, L', h, h' => ⟨h.1, piecesOf_append G L L' h.2 h'⟩

variable (x0 : FVec Ideal S8 .f32) (x1 : FVec Ideal S8x2048x64 .bf16) (x2 : FVec Ideal S2x64x2048 .bf16) (x3 : FVec Ideal S2x2048x64 .bf16)
    (x4 : FVec Ideal S2x64x256 .bf16) (x5 : FVec Ideal S2x256x64 .bf16)

/-- Every store of group 0's loop, up to any trip, is a block of the output. -/
theorem loop1 (c : Dev nD) (i : grid0.Coords) (arg1 : Memref sig .tc .smem S8 .f32) (harg1 : arg1.IsWhole) (arg2 : Memref sig .tc .vmem S8x2048x64 .bf16) (harg2 : arg2.IsWhole) (arg3 : Memref sig .tc .vmem S2x64x2048 .bf16) (harg3 : arg3.IsWhole) (arg4 : Memref sig .tc .vmem S2x2048x64 .bf16) (harg4 : arg4.IsWhole) (arg5 : Memref sig .tc .vmem S2x64x256 .bf16) (harg5 : arg5.IsWhole) (arg6 : Memref sig .tc .vmem S2x256x64 .bf16) (harg6 : arg6.IsWhole) (arg7 : Memref sig .tc .vmem S2048x512 .f32) (harg7 : arg7.IsWhole) (arg8 : Memref sig .tc .vmem S3x512x384 .f32) (harg8 : arg8.IsWhole)
    (v0 : IVec S512x1 32) (v5 : FVec Ideal S64x256 .bf16) (v7 : FVec Ideal S256x64 .bf16) (v66 : FVec Ideal S512x1 .f32) (v68 : IVec S512x1 32) (v82 : IVec S512x1 1) (v84 : IVec S512x1 32) (c0 : BitVec 32) (v93 : Elt Ideal .f32) (v122 : Elt Ideal .f32)
    (h0 : ∀ i, ∃ r : ℝ, x0 i = r) (h1 : ∀ i, ∃ r : ℝ, x1 i = r) (h2 : ∀ i, ∃ r : ℝ, x2 i = r) (h4 : ∀ i, ∃ r : ℝ, x4 i = r)
    (X8 : arg8.view.ty.Contents (Elt Ideal)) (hX8 : arg8.view.read (Elt Ideal) X8 = masks)
    (esnk : ∀ R : Fin 512, (k0_pay28 (F := Ideal) v0 v66 v68 v82 v84 c0 v93 v122) (ix2 R 0) = x0 (ix1 (head 0 ⟨R.val / 128, by omega⟩)))
    (ev5 : ∀ x j, v5 (ix2 x j) = x4 (ix3 0 x j)) (evc : ∀ j x, v7 (ix2 j x) = x5 (ix3 0 j x)) :
    ∀ (n : ℕ) (hn : n ≤ k0_t1_loop.trips), View.PiecesOf (Block.out x0 x1 x2 x3 x4 x5)
      (pb_k0_t1 (F := Ideal) Variants.none c none i arg1 harg1 arg2 harg2 arg3 harg3 arg4 harg4 arg5 harg5 arg6 harg6 arg7 harg7 arg8 harg8 v0 v5 v7 v66 v68 v82 v84 c0 v93 v122 (harg2.unread x1) (harg3.unread x2) (harg4.unread x3) X8 n)
  | 0, _ => trivial
  | n + 1, hn => by
    rw [pb_k0_t1_succ Variants.none c none i arg1 harg1 arg2 harg2 arg3 harg3 arg4 harg4 arg5 harg5 arg6 harg6 arg7 harg7 arg8 harg8 v0 v5 v7 v66 v68 v82 v84 c0 v93 v122 (harg2.unread x1) (harg3.unread x2) (harg4.unread x3) X8 ⟨n, hn⟩]
    exact piecesOf_append _ _ _
      (trip1 x0 x1 x2 x3 x4 x5 c i arg1 harg1 arg2 harg2 arg3 harg3 arg4 harg4 arg5 harg5 arg6 harg6 arg7 harg7 arg8 harg8 v0 v5 v7 v66 v68 v82 v84 c0 v93 v122 h0 h1 h2 h4 X8 hX8 esnk ev5 evc ⟨n, hn⟩)
      (loop1 c i arg1 harg1 arg2 harg2 arg3 harg3 arg4 harg4 arg5 harg5 arg6 harg6 arg7 harg7 arg8 harg8 v0 v5 v7 v66 v68 v82 v84 c0 v93 v122 h0 h1 h2 h4 X8 hX8 esnk ev5 evc n (Nat.le_of_succ_le hn))

/-- Every store of group 1's loop, up to any trip, is a block of the output. -/
theorem loop2 (c : Dev nD) (i : grid0.Coords) (arg1 : Memref sig .tc .smem S8 .f32) (harg1 : arg1.IsWhole) (arg2 : Memref sig .tc .vmem S8x2048x64 .bf16) (harg2 : arg2.IsWhole) (arg3 : Memref sig .tc .vmem S2x64x2048 .bf16) (harg3 : arg3.IsWhole) (arg4 : Memref sig .tc .vmem S2x2048x64 .bf16) (harg4 : arg4.IsWhole) (arg5 : Memref sig .tc .vmem S2x64x256 .bf16) (harg5 : arg5.IsWhole) (arg6 : Memref sig .tc .vmem S2x256x64 .bf16) (harg6 : arg6.IsWhole) (arg7 : Memref sig .tc .vmem S2048x512 .f32) (harg7 : arg7.IsWhole) (arg8 : Memref sig .tc .vmem S3x512x384 .f32) (harg8 : arg8.IsWhole)
    (v0 : IVec S512x1 32) (v127 : FVec Ideal S64x256 .bf16) (v129 : FVec Ideal S256x64 .bf16) (v188 : FVec Ideal S512x1 .f32) (v214 : IVec S512x1 1) (v215 : Elt Ideal .f32) (v244 : Elt Ideal .f32)
    (h0 : ∀ i, ∃ r : ℝ, x0 i = r) (h1 : ∀ i, ∃ r : ℝ, x1 i = r) (h2 : ∀ i, ∃ r : ℝ, x2 i = r) (h4 : ∀ i, ∃ r : ℝ, x4 i = r)
    (X8 : arg8.view.ty.Contents (Elt Ideal)) (hX8 : arg8.view.read (Elt Ideal) X8 = masks)
    (esnk : ∀ R : Fin 512, (k0_pay1 (F := Ideal) v0 v188 v214 v215 v244) (ix2 R 0) = x0 (ix1 (head 1 ⟨R.val / 128, by omega⟩)))
    (ev5 : ∀ x j, v127 (ix2 x j) = x4 (ix3 1 x j)) (evc : ∀ j x, v129 (ix2 j x) = x5 (ix3 1 j x)) :
    ∀ (n : ℕ) (hn : n ≤ k0_t2_loop.trips), View.PiecesOf (Block.out x0 x1 x2 x3 x4 x5)
      (pb_k0_t2 (F := Ideal) Variants.none c none i arg1 harg1 arg2 harg2 arg3 harg3 arg4 harg4 arg5 harg5 arg6 harg6 arg7 harg7 arg8 harg8 v0 v127 v129 v188 v214 v215 v244 (harg2.unread x1) (harg3.unread x2) (harg4.unread x3) X8 n)
  | 0, _ => trivial
  | n + 1, hn => by
    rw [pb_k0_t2_succ Variants.none c none i arg1 harg1 arg2 harg2 arg3 harg3 arg4 harg4 arg5 harg5 arg6 harg6 arg7 harg7 arg8 harg8 v0 v127 v129 v188 v214 v215 v244 (harg2.unread x1) (harg3.unread x2) (harg4.unread x3) X8 ⟨n, hn⟩]
    exact piecesOf_append _ _ _
      (trip2 x0 x1 x2 x3 x4 x5 c i arg1 harg1 arg2 harg2 arg3 harg3 arg4 harg4 arg5 harg5 arg6 harg6 arg7 harg7 arg8 harg8 v0 v127 v129 v188 v214 v215 v244 h0 h1 h2 h4 X8 hX8 esnk ev5 evc ⟨n, hn⟩)
      (loop2 c i arg1 harg1 arg2 harg2 arg3 harg3 arg4 harg4 arg5 harg5 arg6 harg6 arg7 harg7 arg8 harg8 v0 v127 v129 v188 v214 v215 v244 h0 h1 h2 h4 X8 hX8 esnk ev5 evc n (Nat.le_of_succ_le hn))

/-- A group's context keys, read from the block. -/
theorem keys0 (arg5 : Memref sig .tc .vmem S2x64x256 .bf16) (harg5 : arg5.IsWhole) (x : Fin 64) (j : Fin 256) :
    k0_pay20 (F := Ideal) (View.readAt (Elt Ideal) arg5.view (Rect.unit (s := S2x64x256) ![0, 0, 0] S1x64x256.size inb_S2x64x256_S1x64x256_0_0_0).toLoadRect (harg5.unread x4)) (ix2 x j)
      = x4 (ix3 0 x j) := by
  refine Eq.trans ?_ (load_at arg5 harg5 x4 inb_S2x64x256_S1x64x256_0_0_0 (ix3 0 x j) (ix3 0 x j) rfl (by intro a; fin_cases a <;> simp [ix3]))
  unfold k0_pay20
  generalize View.readAt (Elt Ideal) arg5.view _ _ = w
  pointwise

theorem keys1 (arg5 : Memref sig .tc .vmem S2x64x256 .bf16) (harg5 : arg5.IsWhole) (x : Fin 64) (j : Fin 256) :
    k0_pay34 (F := Ideal) (View.readAt (Elt Ideal) arg5.view (Rect.unit (s := S2x64x256) ![1, 0, 0] S1x64x256.size inb_S2x64x256_S1x64x256_1_0_0).toLoadRect (harg5.unread x4)) (ix2 x j)
      = x4 (ix3 1 x j) := by
  refine Eq.trans ?_ (load_at arg5 harg5 x4 inb_S2x64x256_S1x64x256_1_0_0 (ix3 0 x j) (ix3 1 x j) rfl (by intro a; fin_cases a <;> simp [ix3]))
  unfold k0_pay34
  generalize View.readAt (Elt Ideal) arg5.view _ _ = w
  pointwise

/-- A group's context values, read from the block. -/
theorem vals0 (arg6 : Memref sig .tc .vmem S2x256x64 .bf16) (harg6 : arg6.IsWhole) (j : Fin 256) (x : Fin 64) :
    k0_pay21 (F := Ideal) (View.readAt (Elt Ideal) arg6.view (Rect.unit (s := S2x256x64) ![0, 0, 0] S1x256x64.size inb_S2x256x64_S1x256x64_0_0_0).toLoadRect (harg6.unread x5)) (ix2 j x)
      = x5 (ix3 0 j x) := by
  refine Eq.trans ?_ (load_at arg6 harg6 x5 inb_S2x256x64_S1x256x64_0_0_0 (ix3 0 j x) (ix3 0 j x) rfl (by intro a; fin_cases a <;> simp [ix3]))
  unfold k0_pay21
  generalize View.readAt (Elt Ideal) arg6.view _ _ = w
  pointwise

theorem vals1 (arg6 : Memref sig .tc .vmem S2x256x64 .bf16) (harg6 : arg6.IsWhole) (j : Fin 256) (x : Fin 64) :
    k0_pay35 (F := Ideal) (View.readAt (Elt Ideal) arg6.view (Rect.unit (s := S2x256x64) ![1, 0, 0] S1x256x64.size inb_S2x256x64_S1x256x64_1_0_0).toLoadRect (harg6.unread x5)) (ix2 j x)
      = x5 (ix3 1 j x) := by
  refine Eq.trans ?_ (load_at arg6 harg6 x5 inb_S2x256x64_S1x256x64_1_0_0 (ix3 0 j x) (ix3 1 j x) rfl (by intro a; fin_cases a <;> simp [ix3]))
  unfold k0_pay35
  generalize View.readAt (Elt Ideal) arg6.view _ _ = w
  pointwise

/-- A sink logit, read from the block. -/
theorem word (arg1 : Memref sig .tc .smem S8 .f32) (harg1 : arg1.IsWhole) (g : Fin 8) {off : Fin 1 → ℕ} (inb : ∀ a, off a + S1.size a ≤ S8.size a) (ho : off = ![g.val])
    (h : 0 < (Rect.unit (s := S8) off S1.size inb).toLoadRect.shape.numel) :
    View.readAt (Elt Ideal) arg1.view (Rect.unit (s := S8) off S1.size inb).toLoadRect (harg1.unread x0) (Shape.Idx.first h) = x0 (ix1 g) :=
  load_at arg1 harg1 x0 inb _ (ix1 g) ho (by intro a; fin_cases a; simp [ix1, Shape.Idx.first])

/-- Group 0's sinks: each row has its head's. -/
theorem sinks0 (arg1 : Memref sig .tc .smem S8 .f32) (harg1 : arg1.IsWhole) (R : Fin 512) :
    k0_pay28 (F := Ideal) Const.rows (k0_pay24 Const.rows (k0_pay22
      (View.readAt (Elt Ideal) arg1.view (Rect.unit (s := S8) ![0] S1.size inb_S8_S1_0).toLoadRect (harg1.unread x0) (Shape.Idx.first (by decide)))) 128#32 k0_pay23
      (View.readAt (Elt Ideal) arg1.view (Rect.unit (s := S8) ![1] S1.size inb_S8_S1_1).toLoadRect (harg1.unread x0) (Shape.Idx.first (by decide))))
      (k0_pay25 Const.rows) (k0_pay26 Const.rows) (k0_pay27 Const.rows) 0#32
      (View.readAt (Elt Ideal) arg1.view (Rect.unit (s := S8) ![2] S1.size inb_S8_S1_2).toLoadRect (harg1.unread x0) (Shape.Idx.first (by decide)))
      (View.readAt (Elt Ideal) arg1.view (Rect.unit (s := S8) ![3] S1.size inb_S8_S1_3).toLoadRect (harg1.unread x0) (Shape.Idx.first (by decide))) (ix2 R 0)
      = x0 (ix1 (head 0 ⟨R.val / 128, by omega⟩)) := by
  refine (Const.snk1_at _ _ _ _ R).trans ?_
  have h : R.val / 128 < 4 := by omega
  generalize (⟨R.val / 128, by omega⟩ : Fin 4) = g
  fin_cases g
  · exact word x0 arg1 harg1 0 inb_S8_S1_0 rfl (by decide)
  · exact word x0 arg1 harg1 1 inb_S8_S1_1 rfl (by decide)
  · exact word x0 arg1 harg1 2 inb_S8_S1_2 rfl (by decide)
  · exact word x0 arg1 harg1 3 inb_S8_S1_3 rfl (by decide)

/-- Group 1's sinks: each row has its head's. -/
theorem sinks1 (arg1 : Memref sig .tc .smem S8 .f32) (harg1 : arg1.IsWhole) (R : Fin 512) :
    k0_pay1 (F := Ideal) Const.rows (k0_pay39 Const.rows (k0_pay36 Const.rows
      (View.readAt (Elt Ideal) arg1.view (Rect.unit (s := S8) ![4] S1.size inb_S8_S1_4).toLoadRect (harg1.unread x0) (Shape.Idx.first (by decide)))) 128#32 (k0_pay37 Const.rows) (k0_pay38 Const.rows)
      (View.readAt (Elt Ideal) arg1.view (Rect.unit (s := S8) ![5] S1.size inb_S8_S1_5).toLoadRect (harg1.unread x0) (Shape.Idx.first (by decide)))) (k0_pay40 Const.rows)
      (View.readAt (Elt Ideal) arg1.view (Rect.unit (s := S8) ![6] S1.size inb_S8_S1_6).toLoadRect (harg1.unread x0) (Shape.Idx.first (by decide)))
      (View.readAt (Elt Ideal) arg1.view (Rect.unit (s := S8) ![7] S1.size inb_S8_S1_7).toLoadRect (harg1.unread x0) (Shape.Idx.first (by decide))) (ix2 R 0)
      = x0 (ix1 (head 1 ⟨R.val / 128, by omega⟩)) := by
  refine (Const.snk2_at _ _ _ _ R).trans ?_
  have h : R.val / 128 < 4 := by omega
  generalize (⟨R.val / 128, by omega⟩ : Fin 4) = g
  fin_cases g
  · exact word x0 arg1 harg1 4 inb_S8_S1_4 rfl (by decide)
  · exact word x0 arg1 harg1 5 inb_S8_S1_5 rfl (by decide)
  · exact word x0 arg1 harg1 6 inb_S8_S1_6 rfl (by decide)
  · exact word x0 arg1 harg1 7 inb_S8_S1_7 rfl (by decide)

/-- A point other than the first: every store of its two loops is a block of the output, when its scratch holds the masks. -/
theorem piecesB (c : Dev nD) (i : grid0.Coords) (arg1 : Memref sig .tc .smem S8 .f32) (harg1 : arg1.IsWhole) (arg2 : Memref sig .tc .vmem S8x2048x64 .bf16) (harg2 : arg2.IsWhole) (arg3 : Memref sig .tc .vmem S2x64x2048 .bf16) (harg3 : arg3.IsWhole) (arg4 : Memref sig .tc .vmem S2x2048x64 .bf16) (harg4 : arg4.IsWhole) (arg5 : Memref sig .tc .vmem S2x64x256 .bf16) (harg5 : arg5.IsWhole) (arg6 : Memref sig .tc .vmem S2x256x64 .bf16) (harg6 : arg6.IsWhole) (arg7 : Memref sig .tc .vmem S2048x512 .f32) (harg7 : arg7.IsWhole) (arg8 : Memref sig .tc .vmem S3x512x384 .f32) (harg8 : arg8.IsWhole) (hc0 : ¬cond0_0 i)
    (h0 : ∀ i, ∃ r : ℝ, x0 i = r) (h1 : ∀ i, ∃ r : ℝ, x1 i = r) (h2 : ∀ i, ∃ r : ℝ, x2 i = r) (h4 : ∀ i, ∃ r : ℝ, x4 i = r) (xs0 : FVec Ideal S3x512x384 .f32) (hxs : xs0 = masks) :
    View.PiecesOf (Block.out x0 x1 x2 x3 x4 x5) (kernelRun0_B (F := Ideal) c i arg1 harg1 arg2 harg2 arg3 harg3 arg4 harg4 arg5 harg5 arg6 harg6 arg7 harg7 arg8 harg8 hc0 x0 x1 x2 x3 x4 x5 xs0).1 := by
  unfold kernelRun0_B
  dsimp only
  refine piecesOf_append _ _ _ ?_ ?_
  · refine loop2 x0 x1 x2 x3 x4 x5 c i arg1 harg1 arg2 harg2 arg3 harg3 arg4 harg4 arg5 harg5 arg6 harg6 arg7 harg7 arg8 harg8 _ _ _ _ _ _ _ h0 h1 h2 h4 _ ((harg8.read_unread xs0).trans hxs)
      (sinks1 x0 arg1 harg1) (keys1 x4 arg5 harg5) (vals1 x5 arg6 harg6) _ ?_
    decide
  · refine loop1 x0 x1 x2 x3 x4 x5 c i arg1 harg1 arg2 harg2 arg3 harg3 arg4 harg4 arg5 harg5 arg6 harg6 arg7 harg7 arg8 harg8 _ _ _ _ _ _ _ _ _ _ h0 h1 h2 h4 _ ((harg8.read_unread xs0).trans hxs)
      (sinks0 x0 arg1 harg1) (keys0 x4 arg5 harg5) (vals0 x5 arg6 harg6) _ ?_
    decide

end Cert.KernelIdeal.Point

end
-- ==== Proof.KFinal.lean ====
/- The output array after the whole grid: the attention of the launched arrays. -/
module

public import proofs.«01_k».proof.Proof.KPoint
public import proofs.«01_k».proof.Proof.Gen.KernelIdeal.Value
public import Idealize.ShloMosaic.Lib.Pipeline.ValueKit

@[expose] public section

set_option maxRecDepth 16384

noncomputable section

namespace Cert.KernelIdeal.Final

open Cert.Softmax Cert.Spec Cert.KernelIdeal Cert.KernelIdeal.Gen Cert.KernelIdeal.Load Cert.KernelIdeal.Pieces Cert.KernelIdeal.Point Idealize.ShloMosaic Idealize.ShloMosaic.TcCoe Idealize.SL.Sem
open Idealize.ShloMosaic.Pipeline (Dat)

section
variable (x0 : FVec Ideal S8 .f32) (x1 : FVec Ideal S8x2048x64 .bf16) (x2 : FVec Ideal S2x64x2048 .bf16) (x3 : FVec Ideal S2x2048x64 .bf16)
    (x4 : FVec Ideal S2x64x256 .bf16) (x5 : FVec Ideal S2x256x64 .bf16)

/-- A mask's tile is its part of the masks. -/
theorem maskPiece (v : Fin 3) (w : FVec Ideal S1x512x384 .f32) (hw : ∀ R p, w (ix3 0 R p) = Const.band v R p)
    {off : Fin 3 → ℕ} (inb : ∀ a, off a + S1x512x384.size a ≤ S3x512x384.size a) (ho : off = ![v.val, 0, 0]) (x : S1x512x384.Idx) :
    w x = masks ((Rect.unit (s := S3x512x384) off S1x512x384.size inb).emb x) := by
  subst ho
  obtain ⟨z, R, p, rfl⟩ : ∃ (z : Fin 1) (R : Fin 512) (p : Fin 384), x = ix3 z R p := ⟨x 0, x 1, x 2, eq_ix3 x⟩
  obtain rfl : z = 0 := Subsingleton.elim _ _
  rw [hw]
  unfold masks
  congr 1
  all_goals exact Fin.ext (by simp only [Rect.emb_apply]; simp [Rect.unit, ix3])

/-- What stores that are blocks of one array leave, once they cover it: that array. -/
theorem readPieces {κ : Kind} {sp : Space} {s : Shape} {e : EltTy} (v : View sig κ sp s e) (G : s.Idx → Elt Ideal e) (L : List (View.Piece (Elt Ideal) s e)) (h : View.PiecesOf G L)
    (hc : ∀ y : s.Idx, ∃ p ∈ L, y ∈ p.1.set) : v.read (Elt Ideal) (v.writes (Elt Ideal) v.junk L) = G := by
  rw [View.read_writes_junk_eq_canon]
  funext y
  exact View.canon_apply_of_pieces G L h.mem y (hc y)

/-- The first point's stores to the scratch are the three masks. -/
theorem maskPieces : View.PiecesOf masks (kernelRun0_A.sl.HS0_3 (F := Ideal)) :=
  ⟨maskPiece 2 _ Const.pay19_at inb_S3x512x384_S1x512x384_2_0_0 rfl, maskPiece 1 _ Const.pay9_at inb_S3x512x384_S1x512x384_1_0_0 rfl,
    maskPiece 0 _ Const.pay8_at inb_S3x512x384_S1x512x384_0_0_0 rfl, trivial⟩

/-- They cover it. -/
theorem maskCover (y : S3x512x384.Idx) : ∃ p ∈ kernelRun0_A.sl.HS0_3 (F := Ideal), y ∈ p.1.set :=
  View.cover_of_tiledL (s := S3x512x384) (kernelRun0_A.sl.HS0_3 (F := Ideal)) S1x512x384.size (by sl_kernel_rfl) y

/-- The first point: every store of its two loops is a block of the output. -/
theorem piecesA (c : Dev nD) (i : grid0.Coords) (arg1 : Memref sig .tc .smem S8 .f32) (harg1 : arg1.IsWhole) (arg2 : Memref sig .tc .vmem S8x2048x64 .bf16) (harg2 : arg2.IsWhole) (arg3 : Memref sig .tc .vmem S2x64x2048 .bf16) (harg3 : arg3.IsWhole) (arg4 : Memref sig .tc .vmem S2x2048x64 .bf16) (harg4 : arg4.IsWhole) (arg5 : Memref sig .tc .vmem S2x64x256 .bf16) (harg5 : arg5.IsWhole) (arg6 : Memref sig .tc .vmem S2x256x64 .bf16) (harg6 : arg6.IsWhole) (arg7 : Memref sig .tc .vmem S2048x512 .f32) (harg7 : arg7.IsWhole) (arg8 : Memref sig .tc .vmem S3x512x384 .f32) (harg8 : arg8.IsWhole) (hc0 : cond0_0 i)
    (h0 : ∀ i, ∃ r : ℝ, x0 i = r) (h1 : ∀ i, ∃ r : ℝ, x1 i = r) (h2 : ∀ i, ∃ r : ℝ, x2 i = r) (h4 : ∀ i, ∃ r : ℝ, x4 i = r) :
    View.PiecesOf (Block.out x0 x1 x2 x3 x4 x5) (kernelRun0_A (F := Ideal) c i arg1 harg1 arg2 harg2 arg3 harg3 arg4 harg4 arg5 harg5 arg6 harg6 arg7 harg7 arg8 harg8 hc0 x0 x1 x2 x3 x4 x5).1 := by
  have hX8 : arg8.view.read (Elt Ideal) (arg8.view.writes (Elt Ideal) arg8.view.junk kernelRun0_A.sl.HS0_3) = masks :=
    readPieces arg8.view masks _ maskPieces maskCover
  unfold kernelRun0_A
  dsimp only
  refine piecesOf_append _ _ _ ?_ ?_
  · refine loop2 x0 x1 x2 x3 x4 x5 c i arg1 harg1 arg2 harg2 arg3 harg3 arg4 harg4 arg5 harg5 arg6 harg6 arg7 harg7 arg8 harg8 _ _ _ _ _ _ _ h0 h1 h2 h4 _ hX8
      (sinks1 x0 arg1 harg1) (keys1 x4 arg5 harg5) (vals1 x5 arg6 harg6) _ ?_
    decide
  · refine loop1 x0 x1 x2 x3 x4 x5 c i arg1 harg1 arg2 harg2 arg3 harg3 arg4 harg4 arg5 harg5 arg6 harg6 arg7 harg7 arg8 harg8 _ _ _ _ _ _ _ _ _ _ h0 h1 h2 h4 _ hX8
      (sinks0 x0 arg1 harg1) (keys0 x4 arg5 harg5) (vals0 x5 arg6 harg6) _ ?_
    decide

/-- What the first point leaves in the output's buffer. -/
theorem outA (c : Dev nD) (i : grid0.Coords) (arg1 : Memref sig .tc .smem S8 .f32) (harg1 : arg1.IsWhole) (arg2 : Memref sig .tc .vmem S8x2048x64 .bf16) (harg2 : arg2.IsWhole) (arg3 : Memref sig .tc .vmem S2x64x2048 .bf16) (harg3 : arg3.IsWhole) (arg4 : Memref sig .tc .vmem S2x2048x64 .bf16) (harg4 : arg4.IsWhole) (arg5 : Memref sig .tc .vmem S2x64x256 .bf16) (harg5 : arg5.IsWhole) (arg6 : Memref sig .tc .vmem S2x256x64 .bf16) (harg6 : arg6.IsWhole) (arg7 : Memref sig .tc .vmem S2048x512 .f32) (harg7 : arg7.IsWhole) (arg8 : Memref sig .tc .vmem S3x512x384 .f32) (harg8 : arg8.IsWhole) (hc0 : cond0_0 i)
    (h0 : ∀ i, ∃ r : ℝ, x0 i = r) (h1 : ∀ i, ∃ r : ℝ, x1 i = r) (h2 : ∀ i, ∃ r : ℝ, x2 i = r) (h4 : ∀ i, ∃ r : ℝ, x4 i = r) :
    out0_A_6 (F := Ideal) c i arg1 harg1 arg2 harg2 arg3 harg3 arg4 harg4 arg5 harg5 arg6 harg6 arg7 harg7 arg8 harg8 hc0 x0 x1 x2 x3 x4 x5 = Block.out x0 x1 x2 x3 x4 x5 :=
  readPieces VO0_6 (Block.out x0 x1 x2 x3 x4 x5) _ (piecesA x0 x1 x2 x3 x4 x5 c i arg1 harg1 arg2 harg2 arg3 harg3 arg4 harg4 arg5 harg5 arg6 harg6 arg7 harg7 arg8 harg8 hc0 h0 h1 h2 h4)
    (cover0_A_6 (F := Ideal) c i arg1 harg1 arg2 harg2 arg3 harg3 arg4 harg4 arg5 harg5 arg6 harg6 arg7 harg7 arg8 harg8 hc0 x0 x1 x2 x3 x4 x5)

/-- What the first point leaves in the scratch. -/
theorem scratchA (c : Dev nD) (i : grid0.Coords) (arg1 : Memref sig .tc .smem S8 .f32) (harg1 : arg1.IsWhole) (arg2 : Memref sig .tc .vmem S8x2048x64 .bf16) (harg2 : arg2.IsWhole) (arg3 : Memref sig .tc .vmem S2x64x2048 .bf16) (harg3 : arg3.IsWhole) (arg4 : Memref sig .tc .vmem S2x2048x64 .bf16) (harg4 : arg4.IsWhole) (arg5 : Memref sig .tc .vmem S2x64x256 .bf16) (harg5 : arg5.IsWhole) (arg6 : Memref sig .tc .vmem S2x256x64 .bf16) (harg6 : arg6.IsWhole) (arg7 : Memref sig .tc .vmem S2048x512 .f32) (harg7 : arg7.IsWhole) (arg8 : Memref sig .tc .vmem S3x512x384 .f32) (harg8 : arg8.IsWhole) (hc0 : cond0_0 i) :
    sout0_A_0 (F := Ideal) c i arg1 harg1 arg2 harg2 arg3 harg3 arg4 harg4 arg5 harg5 arg6 harg6 arg7 harg7 arg8 harg8 hc0 x0 x1 x2 x3 x4 x5 = masks :=
  readPieces VS0_0 masks kernelRun0_A.sl.HS0_3 maskPieces maskCover

/-- What any other point leaves in the output's buffer. -/
theorem outB (c : Dev nD) (i : grid0.Coords) (arg1 : Memref sig .tc .smem S8 .f32) (harg1 : arg1.IsWhole) (arg2 : Memref sig .tc .vmem S8x2048x64 .bf16) (harg2 : arg2.IsWhole) (arg3 : Memref sig .tc .vmem S2x64x2048 .bf16) (harg3 : arg3.IsWhole) (arg4 : Memref sig .tc .vmem S2x2048x64 .bf16) (harg4 : arg4.IsWhole) (arg5 : Memref sig .tc .vmem S2x64x256 .bf16) (harg5 : arg5.IsWhole) (arg6 : Memref sig .tc .vmem S2x256x64 .bf16) (harg6 : arg6.IsWhole) (arg7 : Memref sig .tc .vmem S2048x512 .f32) (harg7 : arg7.IsWhole) (arg8 : Memref sig .tc .vmem S3x512x384 .f32) (harg8 : arg8.IsWhole) (hc0 : ¬cond0_0 i)
    (h0 : ∀ i, ∃ r : ℝ, x0 i = r) (h1 : ∀ i, ∃ r : ℝ, x1 i = r) (h2 : ∀ i, ∃ r : ℝ, x2 i = r) (h4 : ∀ i, ∃ r : ℝ, x4 i = r) (xs0 : FVec Ideal S3x512x384 .f32) (hxs : xs0 = masks) :
    out0_B_6 (F := Ideal) c i arg1 harg1 arg2 harg2 arg3 harg3 arg4 harg4 arg5 harg5 arg6 harg6 arg7 harg7 arg8 harg8 hc0 x0 x1 x2 x3 x4 x5 xs0 = Block.out x0 x1 x2 x3 x4 x5 :=
  readPieces VO0_6 (Block.out x0 x1 x2 x3 x4 x5) _ (piecesB x0 x1 x2 x3 x4 x5 c i arg1 harg1 arg2 harg2 arg3 harg3 arg4 harg4 arg5 harg5 arg6 harg6 arg7 harg7 arg8 harg8 hc0 h0 h1 h2 h4 xs0 hxs)
    (cover0_B_6 (F := Ideal) c i arg1 harg1 arg2 harg2 arg3 harg3 arg4 harg4 arg5 harg5 arg6 harg6 arg7 harg7 arg8 harg8 hc0 x0 x1 x2 x3 x4 x5 xs0)

end

variable (m : (ℓ : Loc nD τ sig) → Buf (Elt Ideal) ℓ)

/-- The scratch holds the masks after every point. -/
theorem scratch (c : Dev nD) : ∀ (n : ℕ) (hn : n < cfg0.N), (outsAt0 (F := Ideal) m c n hn).2 = masks
  | 0, hn =>
    (congrArg Prod.snd (outsAt0_A (F := Ideal) m c ⟨0, hn⟩ (Nat.zero_mod 32))).trans (by exact scratchA (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod 32)))
  | n + 1, hn =>
    have hN : n + 1 < 32 := lt_of_lt_of_eq hn N_0
    have h0 : ¬(n + 1) % 32 = 0 := by omega
    (congrArg Prod.snd (outsAt0_B (F := Ideal) m c ⟨n + 1, hn⟩ h0)).trans (scratch c n (Nat.lt_of_succ_lt hn))

/-- The batch a point of the grid works on. -/
def batch (t : Fin cfg0.N) : Fin 32 := ⟨t.val, lt_of_lt_of_eq t.isLt N_0⟩

/-- Where each window's block lies: the whole of the sinks, the batch's latent queries, keys and values, its context keys and values, its rows of the output. -/
theorem idx : ∀ t : Fin cfg0.N, win0_0.index t = ![0] ∧ win0_1.index t = ![0, t.val, 0] ∧ win0_2.index t = ![0, 0, t.val] ∧ win0_3.index t = ![0, t.val, 0]
    ∧ win0_4.index t = ![0, 0, 256 + t.val] ∧ win0_5.index t = ![0, 256 + t.val, 0] ∧ win0_6.index t = ![t.val, 0] :=
  (by decide +kernel : ∀ t : Fin grid0.N, _)

/-- The blocks, read off the launched arrays. -/
theorem blk0 (c : Dev nD) (t : Fin cfg0.N) (g : Fin 8) : iblk (F := Ideal) m c 0 t (ix1 g) = m ((c : Thread nD τ).loc main_arg0) (ix1 g) := by
  blk_ext [iblk, V, idx t]

theorem blk1 (c : Dev nD) (t : Fin cfg0.N) (g : Fin 8) (s : Fin 2048) (x : Fin 64) :
    iblk (F := Ideal) m c 1 t (ix3 g s x) = m ((c : Thread nD τ).loc main_arg1) (ix3 g (lat (batch t) s) x) := by
  blk_ext [iblk, V, idx t, lat, batch]

theorem blk2 (c : Dev nD) (t : Fin cfg0.N) (h : Fin 2) (x : Fin 64) (s : Fin 2048) :
    iblk (F := Ideal) m c 2 t (ix3 h x s) = m ((c : Thread nD τ).loc main_arg2) (ix3 h x (lat (batch t) s)) := by
  blk_ext [iblk, V, idx t, lat, batch]

theorem blk3 (c : Dev nD) (t : Fin cfg0.N) (h : Fin 2) (s : Fin 2048) (x : Fin 64) :
    iblk (F := Ideal) m c 3 t (ix3 h s x) = m ((c : Thread nD τ).loc main_arg3) (ix3 h (lat (batch t) s) x) := by
  blk_ext [iblk, V, idx t, lat, batch]

theorem blk4 (c : Dev nD) (t : Fin cfg0.N) (h : Fin 2) (x : Fin 64) (j : Fin 256) :
    iblk (F := Ideal) m c 4 t (ix3 h x j) = m ((c : Thread nD τ).loc main_arg2) (ix3 h x (ctx (batch t) j)) := by
  blk_ext [iblk, V, idx t, ctx, batch]

theorem blk5 (c : Dev nD) (t : Fin cfg0.N) (h : Fin 2) (j : Fin 256) (x : Fin 64) :
    iblk (F := Ideal) m c 5 t (ix3 h j x) = m ((c : Thread nD τ).loc main_arg3) (ix3 h (ctx (batch t) j) x) := by
  blk_ext [iblk, V, idx t, ctx, batch]

/-- The sinks, the queries and the keys are real numbers. -/
structure Finite (c : Dev nD) : Prop where
  sinks : ∀ i : S8.Idx, ∃ r : ℝ, (m ((c : Thread nD τ).loc main_arg0) : FVec Ideal S8 .f32) i = (r : EReal)
  queries : ∀ i : S8x73728x64.Idx, ∃ r : ℝ, (m ((c : Thread nD τ).loc main_arg1) : FVec Ideal S8x73728x64 .bf16) i = (r : EReal)
  keys : ∀ i : S2x64x73728.Idx, ∃ r : ℝ, (m ((c : Thread nD τ).loc main_arg2) : FVec Ideal S2x64x73728 .bf16) i = (r : EReal)

variable {m} in
theorem real0 {c : Dev nD} (hf : Finite m c) (t : Fin cfg0.N) (i : S8.Idx) : ∃ r : ℝ, (iblk (F := Ideal) m c 0 t : FVec Ideal S8 .f32) i = (r : EReal) := by
  obtain ⟨g, rfl⟩ : ∃ g : Fin 8, i = ix1 g := ⟨i 0, eq_ix1 i⟩
  obtain ⟨r, hr⟩ := hf.sinks (ix1 g)
  exact ⟨r, (blk0 m c t g).trans hr⟩

variable {m} in
theorem real1 {c : Dev nD} (hf : Finite m c) (t : Fin cfg0.N) (i : S8x2048x64.Idx) : ∃ r : ℝ, (iblk (F := Ideal) m c 1 t : FVec Ideal S8x2048x64 .bf16) i = (r : EReal) := by
  obtain ⟨g, s, x, rfl⟩ : ∃ (g : Fin 8) (s : Fin 2048) (x : Fin 64), i = ix3 g s x := ⟨i 0, i 1, i 2, eq_ix3 i⟩
  obtain ⟨r, hr⟩ := hf.queries (ix3 g (lat (batch t) s) x)
  exact ⟨r, (blk1 m c t g s x).trans hr⟩

variable {m} in
theorem real2 {c : Dev nD} (hf : Finite m c) (t : Fin cfg0.N) (i : S2x64x2048.Idx) : ∃ r : ℝ, (iblk (F := Ideal) m c 2 t : FVec Ideal S2x64x2048 .bf16) i = (r : EReal) := by
  obtain ⟨h, x, s, rfl⟩ : ∃ (h : Fin 2) (x : Fin 64) (s : Fin 2048), i = ix3 h x s := ⟨i 0, i 1, i 2, eq_ix3 i⟩
  obtain ⟨r, hr⟩ := hf.keys (ix3 h x (lat (batch t) s))
  exact ⟨r, (blk2 m c t h x s).trans hr⟩

variable {m} in
theorem real4 {c : Dev nD} (hf : Finite m c) (t : Fin cfg0.N) (i : S2x64x256.Idx) : ∃ r : ℝ, (iblk (F := Ideal) m c 4 t : FVec Ideal S2x64x256 .bf16) i = (r : EReal) := by
  obtain ⟨h, x, j, rfl⟩ : ∃ (h : Fin 2) (x : Fin 64) (j : Fin 256), i = ix3 h x j := ⟨i 0, i 1, i 2, eq_ix3 i⟩
  obtain ⟨r, hr⟩ := hf.keys (ix3 h x (ctx (batch t) j))
  exact ⟨r, (blk4 m c t h x j).trans hr⟩

variable {m} in
/-- What every point leaves in the output's buffer. -/
theorem outs {c : Dev nD} (hf : Finite m c) (t : Fin cfg0.N) :
    (outsAt0 (F := Ideal) m c t.val t.isLt).1 = Block.out (iblk m c 0 t) (iblk m c 1 t) (iblk m c 2 t) (iblk m c 3 t) (iblk m c 4 t) (iblk m c 5 t) := by
  by_cases h0 : t.val % 32 = 0
  · exact (congrArg Prod.fst (outsAt0_A (F := Ideal) m c t h0)).trans (by
      exact outA (iblk m c 0 t) (iblk m c 1 t) (iblk m c 2 t) (iblk m c 3 t) (iblk m c 4 t) (iblk m c 5 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
        ((hcond0_0 t).mpr h0) (real0 hf t) (real1 hf t) (real2 hf t) (real4 hf t))
  · exact (congrArg Prod.fst (outsAt0_B (F := Ideal) m c t h0)).trans (by
      exact outB (iblk m c 0 t) (iblk m c 1 t) (iblk m c 2 t) (iblk m c 3 t) (iblk m c 4 t) (iblk m c 5 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
        (fun h => h0 ((hcond0_0 t).mp h)) (real0 hf t) (real1 hf t) (real2 hf t) (real4 hf t) _ (scratch m c _ _))

/-- A block's attention, from the launched arrays. -/
theorem valEq (c : Dev nD) (t : Fin cfg0.N) (h : Fin 2) (g : Fin 4) (s : Fin 2048) (d : Fin 64) :
    Block.val (iblk m c 0 t) (iblk m c 1 t) (iblk m c 2 t) (iblk m c 3 t) (iblk m c 4 t) (iblk m c 5 t) h g s d
      = attn (m ((c : Thread nD τ).loc main_arg0)) (m ((c : Thread nD τ).loc main_arg1)) (m ((c : Thread nD τ).loc main_arg2)) (m ((c : Thread nD τ).loc main_arg3)) (batch t) h g s d := by
  unfold Block.val attn
  congr 1
  · funext j
    unfold Block.sLoc locRow score
    congr 1
    exact Finset.sum_congr rfl fun x _ => congrArg₂ (· * ·) (blk1 m c t _ s x) (blk2 m c t h x j)
  · funext j
    unfold Block.sCtx ctxRow score
    exact Finset.sum_congr rfl fun x _ => congrArg₂ (· * ·) (blk1 m c t _ s x) (blk4 m c t h x j)
  · exact blk0 m c t _
  · funext j
    exact blk3 m c t h j d
  · funext j
    exact blk5 m c t h j d

variable {m} in
/-- The output array after the grid is the attention of the launched arrays. -/
theorem final {c : Dev nD} (hf : Finite m c) : (dats (F := Ideal) m 0 c).arrAt 6 (cfgs 0).N
    = result (m ((c : Thread nD τ).loc main_arg0)) (m ((c : Thread nD τ).loc main_arg1)) (m ((c : Thread nD τ).loc main_arg2)) (m ((c : Thread nD τ).loc main_arg3)) := by
  refine (dats (F := Ideal) m 0 c).arrAt_eq_of_covers 6 _ (by decide +kernel) fun t _ y => ?_
  blk_simp
  rw [after0_6, outs hf t]
  have e0 : ((((cfg0.win 6).blk t).view.emb y) 0 : ℕ) = t.val * 2048 + (y 0).val := by
    blk_simp
    simp [idx t]
  have e1 : ((((cfg0.win 6).blk t).view.emb y) 1 : ℕ) = (y 1).val := by
    blk_simp
    simp [idx t]
  have hy : (y 0).val < 2048 := (y 0).isLt
  unfold Block.out result
  rw [valEq]
  congr 1
  all_goals exact Fin.ext (by simp only [batch, e0, e1] <;> omega)

end Cert.KernelIdeal.Final

end
-- ==== Proof.Last.lean ====
/- The host's reductions along the last of five axes, at any extents. -/
module

public import Idealize.ShloMosaic.Lib.Pointwise
public import Idealize.ShloMosaic.Lib.IdealHost

@[expose] public section

set_option maxRecDepth 16384

noncomputable section

namespace Cert.Last

open Idealize.ShloMosaic
open scoped BigOperators

variable {n0 n1 n2 n3 n4 : ℕ}

/-- A maximum along the last axis is the fold of `max` over it. -/
theorem max5 {u : Shape} (h : (⟨5, ![n0, n1, n2, n3, n4]⟩ : Shape).ReducesTo [4] ⟨4, ![n0, n1, n2, n3]⟩)
    (x : FVec Ideal ⟨5, ![n0, n1, n2, n3, n4]⟩ .f32) (init : FVec Ideal u .f32) (hu : 0 < u.numel)
    (a : Fin n0) (b : Fin n1) (c : Fin n2) (d : Fin n3) :
    Host.reduce FloatOps.maximumf x init h hu (ix4 a b c d)
      = Finset.univ.fold max (init (Shape.Idx.first hu)) fun k => x (ix5 a b c d k) := by
  pointwise

/-- A sum along the last axis. -/
theorem sum5 {u : Shape} (h : (⟨5, ![n0, n1, n2, n3, n4]⟩ : Shape).ReducesTo [4] ⟨4, ![n0, n1, n2, n3]⟩)
    (x : FVec Ideal ⟨5, ![n0, n1, n2, n3, n4]⟩ .f32) (init : FVec Ideal u .f32) (hu : 0 < u.numel)
    (a : Fin n0) (b : Fin n1) (c : Fin n2) (d : Fin n3) :
    Host.reduceAdd x init h hu (ix4 a b c d) = init (Shape.Idx.first hu) + ∑ k, x (ix5 a b c d k) := by
  pointwise

end Cert.Last

end
-- ==== Proof.RefAt.lean ====
/- The reference read at one element: its scores, its softmax, its two products. -/
module

public import proofs.«01_k».proof.Proof.Gen.ReferenceIdeal.Run
public import proofs.«01_k».proof.Proof.Spec
public import proofs.«01_k».proof.Proof.Mask
public import proofs.«01_k».proof.Proof.Last
public import Idealize.ShloMosaic.Lib.IdealHost

@[expose] public section

set_option maxRecDepth 16384

noncomputable section

namespace Cert.ReferenceIdeal.At

open Cert.Softmax Cert.ReferenceIdeal Cert.ReferenceIdeal.Gen Idealize.ShloMosaic Idealize.ShloMosaic.TcCoe Idealize.SL.Sem

/-- Which latent keys a latent query sees: those at most 128 positions away. -/
def near : IVec S2048x2048 1 :=
  cmpi .sle (absi (subi (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (broadcastInDim S2048x2048 ![] bcast_S_S2048x2048 (constantI S_ 32 128#32))

/-- The masked scores of the latent queries against the latent keys. -/
def locScores (a1 : FVec Ideal S8x73728x64 .bf16) (a2 : FVec Ideal S2x64x73728 .bf16) : FVec Ideal S32x2x4x2048x2048 .f32 :=
  select (broadcastInDim S32x2x4x2048x2048 ![3, 4] bcast_S2048x2048_S32x2x4x2048x2048_3_4 near)
    (extf .f32 (truncf .bf16 (Host.dotGeneral dot_S2x4x32x2048x64_S2x64x32x2048_S32x2x4x2048x2048_4_1_13_3_20_20 none (shapeCast _ (extractStridedSlice S8x65536x64 ![0, 0, 0] a1 slices_S8x73728x64_S8x65536x64_0_0_0) shapeCasts_S8x65536x64_S2x4x32x2048x64) (shapeCast _ (extractStridedSlice S2x64x65536 ![0, 0, 0] a2 slices_S2x64x73728_S2x64x65536_0_0_0) shapeCasts_S2x64x65536_S2x64x32x2048)) bitsLt_bf16_f32) bitsLt_bf16_f32)
    (broadcastInDim S32x2x4x2048x2048 ![] bcast_S_S32x2x4x2048x2048 (id (constant S_ .f32 0xFF800000#32)))

/-- The scores of the latent queries against the context keys. -/
def ctxScores (a1 : FVec Ideal S8x73728x64 .bf16) (a2 : FVec Ideal S2x64x73728 .bf16) : FVec Ideal S32x2x4x2048x256 .f32 :=
  extf .f32 (truncf .bf16 (Host.dotGeneral dot_S2x4x32x2048x64_S2x64x32x256_S32x2x4x2048x256_4_1_13_3_20_20 none (shapeCast _ (extractStridedSlice S8x65536x64 ![0, 0, 0] a1 slices_S8x73728x64_S8x65536x64_0_0_0) shapeCasts_S8x65536x64_S2x4x32x2048x64) (shapeCast _ (extractStridedSlice S2x64x8192 ![0, 0, 65536] a2 slices_S2x64x73728_S2x64x8192_0_0_65536) shapeCasts_S2x64x8192_S2x64x32x256)) bitsLt_bf16_f32) bitsLt_bf16_f32

/-- The sinks, one score per query. -/
def snkScores (a0 : FVec Ideal S8 .f32) : FVec Ideal S32x2x4x2048x1 .f32 :=
  broadcastInDim S32x2x4x2048x1 ![0, 1, 2, 3, 4] bcast_S1x2x4x1x1_S32x2x4x2048x1_0_1_2_3_4 (broadcastInDim S1x2x4x1x1 ![1, 2] bcast_S2x4_S1x2x4x1x1_1_2 (shapeCast _ a0 shapeCasts_S8_S2x4))

/-- A row's 2305 scores: 2048 latent keys, 256 context keys, the sink. -/
def scores (l : FVec Ideal S32x2x4x2048x2048 .f32) (x : FVec Ideal S32x2x4x2048x256 .f32) (s : FVec Ideal S32x2x4x2048x1 .f32) : FVec Ideal S32x2x4x2048x2305 .f32 :=
  Value.fn_main_v29 (F := Ideal) l x s

/-- Each row's maximum. -/
def rowMax (SC : FVec Ideal S32x2x4x2048x2305 .f32) : FVec Ideal S32x2x4x2048 .f32 :=
  Host.reduce FloatOps.maximumf SC (constant S_ .f32 0xFF800000#32) reducesTo_S32x2x4x2048x2305_S32x2x4x2048_d4 h_S_

/-- The exponentials of the scores less their row's maximum. -/
def expo (SC : FVec Ideal S32x2x4x2048x2305 .f32) : FVec Ideal S32x2x4x2048x2305 .f32 :=
  Host.exp (subf SC (broadcastInDim S32x2x4x2048x2305 ![0, 1, 2, 3, 4] bcast_S32x2x4x2048x1_S32x2x4x2048x2305_0_1_2_3_4 (broadcastInDim S32x2x4x2048x1 ![0, 1, 2, 3] bcast_S32x2x4x2048_S32x2x4x2048x1_0_1_2_3 (maximumf (broadcastInDim S32x2x4x2048 ![] bcast_S_S32x2x4x2048 (constant S_ .f32 0xFF800000#32)) (rowMax SC)))))

/-- Each row's sum. -/
def rowSum (E : FVec Ideal S32x2x4x2048x2305 .f32) : FVec Ideal S32x2x4x2048 .f32 :=
  Host.reduceAdd E (constant S_ .f32 0x00000000#32) reducesTo_S32x2x4x2048x2305_S32x2x4x2048_d4 h_S_

/-- The probabilities: the exponentials over their row's sum. -/
def prob (E : FVec Ideal S32x2x4x2048x2305 .f32) : FVec Ideal S32x2x4x2048x2305 .bf16 :=
  truncf .bf16 (Host.divf E (broadcastInDim S32x2x4x2048x2305 ![0, 1, 2, 3, 4] bcast_S32x2x4x2048x1_S32x2x4x2048x2305_0_1_2_3_4 (broadcastInDim S32x2x4x2048x1 ![0, 1, 2, 3] bcast_S32x2x4x2048_S32x2x4x2048x1_0_1_2_3 (rowSum E)))) bitsLt_bf16_f32

/-- The two value products and their sum, laid out token by token. -/
def mix (P : FVec Ideal S32x2x4x2048x2305 .bf16) (a3 : FVec Ideal S2x73728x64 .bf16) : FVec Ideal S65536x512 .f32 :=
  extf .f32 (shapeCast _ (addf
    (truncf .bf16 (transpose S32x2048x2x4x64 [0, 4, 1, 3, 2] (Host.dotGeneral dot_S2x32x2048x64_S32x2x4x2048x2048_S32x2x64x4x2048_2_4_3_23_10_01 none (shapeCast _ (extractStridedSlice S2x65536x64 ![0, 0, 0] a3 slices_S2x73728x64_S2x65536x64_0_0_0) shapeCasts_S2x65536x64_S2x32x2048x64) (extractStridedSlice S32x2x4x2048x2048 ![0, 0, 0, 0, 0] P slices_S32x2x4x2048x2305_S32x2x4x2048x2048_0_0_0_0_0)) transposes_S32x2x64x4x2048_S32x2048x2x4x64_0_4_1_3_2) bitsLt_bf16_f32)
    (truncf .bf16 (transpose S32x2048x2x4x64 [0, 4, 1, 3, 2] (Host.dotGeneral dot_S2x32x256x64_S32x2x4x2048x256_S32x2x64x4x2048_2_4_3_23_10_01 none (shapeCast _ (extractStridedSlice S2x8192x64 ![0, 65536, 0] a3 slices_S2x73728x64_S2x8192x64_0_65536_0) shapeCasts_S2x8192x64_S2x32x256x64) (extractStridedSlice S32x2x4x2048x256 ![0, 0, 0, 0, 2048] P slices_S32x2x4x2048x2305_S32x2x4x2048x256_0_0_0_0_2048)) transposes_S32x2x64x4x2048_S32x2048x2x4x64_0_4_1_3_2) bitsLt_bf16_f32)) shapeCasts_S32x2048x2x4x64_S65536x512) bitsLt_bf16_f32

/-- The reference's result is these stages one after the other. -/
theorem res_eq (m : (ℓ : Loc nD τ sig) → Buf (Elt Ideal) ℓ) (c : Dev nD) :
    Value.res_out0 (F := Ideal) m c
      = mix (prob (expo (scores
          (locScores (m ((c.tc : Thread nD τ).loc main_arg1)) (m ((c.tc : Thread nD τ).loc main_arg2)))
          (ctxScores (m ((c.tc : Thread nD τ).loc main_arg1)) (m ((c.tc : Thread nD τ).loc main_arg2)))
          (snkScores (m ((c.tc : Thread nD τ).loc main_arg0))))))
        (m ((c.tc : Thread nD τ).loc main_arg3)) := rfl

/-- The mask at a pair of positions, its words read as integers. -/
theorem near_at (s k : Fin 2048) : near (ix2 s k) = if |(k.val : ℤ) - s.val| ≤ 128 then 1#1 else 0#1 := by
  pointwise [near]
  exact Mask.cmp_absi _ _ (Mask.toInt_sub _ _ (by omega) (by omega)) (by omega)

/-- A latent score at an index. -/
theorem loc_at (a1 : FVec Ideal S8x73728x64 .bf16) (a2 : FVec Ideal S2x64x73728 .bf16)
    (b : Fin 32) (h : Fin 2) (g : Fin 4) (s k : Fin 2048) :
    locScores a1 a2 (ix5 b h g s k) = Spec.locRow a1 a2 b h g s k := by
  pointwise [locScores]
  rw [near_at]
  unfold Spec.locRow
  split
  · rfl
  · show Ideal.ofBits FTy.f32 4286578688#32 = ⊥
    simp [Ideal.ofBits, Ideal.ieee]

/-- A context score at an index. -/
theorem ctx_at (a1 : FVec Ideal S8x73728x64 .bf16) (a2 : FVec Ideal S2x64x73728 .bf16)
    (b : Fin 32) (h : Fin 2) (g : Fin 4) (s : Fin 2048) (k : Fin 256) :
    ctxScores a1 a2 (ix5 b h g s k) = Spec.ctxRow a1 a2 b h g s k := by
  pointwise [ctxScores]
  rfl

/-- A sink at an index. -/
theorem snk_at (a0 : FVec Ideal S8 .f32)
    (b : Fin 32) (h : Fin 2) (g : Fin 4) (s : Fin 2048) (k : Fin 1) :
    snkScores a0 (ix5 b h g s k) = a0 (ix1 (Spec.head h g)) := by
  pointwise [snkScores]
  rfl

/-- The scores of a row side by side. -/
theorem scores_at (a0 : FVec Ideal S8 .f32) (a1 : FVec Ideal S8x73728x64 .bf16) (a2 : FVec Ideal S2x64x73728 .bf16)
    (b : Fin 32) (h : Fin 2) (g : Fin 4) (i : Fin 2048) (k : Fin 2305) :
    scores (locScores a1 a2) (ctxScores a1 a2) (snkScores a0) (ix5 b h g i k)
      = row (Spec.locRow a1 a2 b h g i) (Spec.ctxRow a1 a2 b h g i) (a0 (ix1 (Spec.head h g))) k := by
  pointwise [scores, Value.fn_main_v29]
  unfold row
  simp only [loc_at, ctx_at, snk_at]

/-- The pattern of −∞ read as an extended real. -/
theorem ofBits_bot : Ideal.ofBits .f32 0xFF800000#32 = ⊥ := by simp [Ideal.ofBits, Ideal.ieee]

/-- A row's maximum at an index. -/
theorem rowMax_at (SC : FVec Ideal S32x2x4x2048x2305 .f32) (b : Fin 32) (h : Fin 2) (g : Fin 4) (i : Fin 2048) :
    rowMax SC (ix4 b h g i) = top fun x => SC (ix5 b h g i x) := by
  unfold rowMax top
  exact (Last.max5 _ SC _ _ b h g i).trans (congrArg (fun z => Finset.univ.fold max z fun x => SC (ix5 b h g i x)) ofBits_bot)

/-- A number per row, spread over the row. -/
theorem spread_at (M : FVec Ideal S32x2x4x2048 .f32) (b : Fin 32) (h : Fin 2) (g : Fin 4) (i : Fin 2048) (k : Fin 2305) :
    broadcastInDim S32x2x4x2048x2305 ![0, 1, 2, 3, 4] bcast_S32x2x4x2048x1_S32x2x4x2048x2305_0_1_2_3_4 (broadcastInDim S32x2x4x2048x1 ![0, 1, 2, 3] bcast_S32x2x4x2048_S32x2x4x2048x1_0_1_2_3 M) (ix5 b h g i k)
      = M (ix4 b h g i) := by
  pointwise

/-- A maximum with −∞ changes nothing. -/
theorem max_bot_at (M : FVec Ideal S32x2x4x2048 .f32) (j : S32x2x4x2048.Idx) :
    maximumf (broadcastInDim S32x2x4x2048 ![] bcast_S_S32x2x4x2048 (constant S_ .f32 0xFF800000#32)) M j = M j :=
  (congrArg (fun z => max z (M j)) ofBits_bot).trans (bot_sup_eq _)

/-- The exponential of a difference at an index. -/
theorem exp_sub_at (SC X : FVec Ideal S32x2x4x2048x2305 .f32) (j : S32x2x4x2048x2305.Idx) : Host.exp (subf SC X) j = Ideal.exp (SC j - X j) := rfl

/-- An exponential at an index. -/
theorem expo_at (SC : FVec Ideal S32x2x4x2048x2305 .f32)
    (b : Fin 32) (h : Fin 2) (g : Fin 4) (i : Fin 2048) (k : Fin 2305) :
    expo SC (ix5 b h g i k) = Ideal.exp (SC (ix5 b h g i k) - top fun x => SC (ix5 b h g i x)) := by
  unfold expo
  rw [exp_sub_at, spread_at, max_bot_at, rowMax_at]

/-- A row's sum at an index. -/
theorem rowSum_at (E : FVec Ideal S32x2x4x2048x2305 .f32) (b : Fin 32) (h : Fin 2) (g : Fin 4) (i : Fin 2048) :
    rowSum E (ix4 b h g i) = ∑ k, E (ix5 b h g i k) := by
  unfold rowSum
  rw [Last.sum5]
  refine (congrArg (· + _) (Ideal.ofBits_zero_f32)).trans ?_
  rw [zero_add]

/-- A quotient at an index. -/
theorem quot_at (E X : FVec Ideal S32x2x4x2048x2305 .f32) (j : S32x2x4x2048x2305.Idx) :
    truncf .bf16 (Host.divf E X) bitsLt_bf16_f32 j = Ideal.div (E j) (X j) := rfl

/-- A probability at an index. -/
theorem prob_at (E : FVec Ideal S32x2x4x2048x2305 .f32)
    (b : Fin 32) (h : Fin 2) (g : Fin 4) (i : Fin 2048) (k : Fin 2305) :
    prob E (ix5 b h g i k) = Ideal.div (E (ix5 b h g i k)) (∑ k, E (ix5 b h g i k)) := by
  unfold prob
  rw [quot_at, spread_at, rowSum_at]

/-- The two products at an index. -/
theorem mix_at (P : FVec Ideal S32x2x4x2048x2305 .bf16) (a3 : FVec Ideal S2x73728x64 .bf16)
    (t : Fin 65536) (x : Fin 512) :
    mix P a3 (ix2 t x)
      = (∑ j : Fin 2048, a3 (ix3 ⟨x.val / 256, by omega⟩ (Spec.lat ⟨t.val / 2048, by omega⟩ j) ⟨x.val % 64, by omega⟩)
          * P (ix5 ⟨t.val / 2048, by omega⟩ ⟨x.val / 256, by omega⟩ ⟨x.val / 64 % 4, by omega⟩ ⟨t.val % 2048, by omega⟩ ⟨j.val, by omega⟩))
        + ∑ j : Fin 256, a3 (ix3 ⟨x.val / 256, by omega⟩ (Spec.ctx ⟨t.val / 2048, by omega⟩ j) ⟨x.val % 64, by omega⟩)
          * P (ix5 ⟨t.val / 2048, by omega⟩ ⟨x.val / 256, by omega⟩ ⟨x.val / 64 % 4, by omega⟩ ⟨t.val % 2048, by omega⟩ ⟨2048 + j.val, by omega⟩) := by
  pointwise [mix]
  rfl

end Cert.ReferenceIdeal.At

end
-- ==== Proof.RefValue.lean ====
/- The reference's result is the attention of the specification. -/
module

public import proofs.«01_k».proof.Proof.RefAt

@[expose] public section

set_option maxRecDepth 16384

noncomputable section

namespace Cert.ReferenceIdeal.At

open Cert.Softmax Cert.ReferenceIdeal Cert.ReferenceIdeal.Gen Idealize.ShloMosaic Idealize.ShloMosaic.TcCoe Idealize.SL.Sem

/-- The value products over a row's probabilities are the row's softmax value. -/
theorem stages_at (a0 : FVec Ideal S8 .f32) (a1 : FVec Ideal S8x73728x64 .bf16) (a2 : FVec Ideal S2x64x73728 .bf16)
    (b : Fin 32) (h : Fin 2) (g : Fin 4) (i : Fin 2048) (k : Fin 2305) :
    prob (expo (scores (locScores a1 a2) (ctxScores a1 a2) (snkScores a0))) (ix5 b h g i k)
      = Ideal.div (Ideal.exp (row (Spec.locRow a1 a2 b h g i) (Spec.ctxRow a1 a2 b h g i) (a0 (ix1 (Spec.head h g))) k
            - top (row (N := 2305) (Spec.locRow a1 a2 b h g i) (Spec.ctxRow a1 a2 b h g i) (a0 (ix1 (Spec.head h g))))))
          (∑ k, Ideal.exp (row (N := 2305) (Spec.locRow a1 a2 b h g i) (Spec.ctxRow a1 a2 b h g i) (a0 (ix1 (Spec.head h g))) k
            - top (row (N := 2305) (Spec.locRow a1 a2 b h g i) (Spec.ctxRow a1 a2 b h g i) (a0 (ix1 (Spec.head h g)))))) := by
  rw [prob_at]
  simp only [expo_at, scores_at]

/-- A row's latent score. -/
theorem row_lat (l : Fin 2048 → EReal) (x : Fin 256 → EReal) (s : EReal) (j : Fin 2048) :
    row (N := 2305) l x s ⟨j.val, by omega⟩ = l j := by simp [row]

/-- A row's context score. -/
theorem row_ctx (l : Fin 2048 → EReal) (x : Fin 256 → EReal) (s : EReal) (j : Fin 256) :
    row (N := 2305) l x s ⟨2048 + j.val, by omega⟩ = x j := by simp [row]

/-- The stages' result at an index is the specification's. -/
theorem mix_eq (a0 : FVec Ideal S8 .f32) (a1 : FVec Ideal S8x73728x64 .bf16) (a2 : FVec Ideal S2x64x73728 .bf16)
    (a3 : FVec Ideal S2x73728x64 .bf16) (t : Fin 65536) (x : Fin 512) :
    mix (prob (expo (scores (locScores a1 a2) (ctxScores a1 a2) (snkScores a0)))) a3 (ix2 t x)
      = Spec.attn a0 a1 a2 a3 ⟨t.val / 2048, by omega⟩ ⟨x.val / 256, by omega⟩ ⟨x.val / 64 % 4, by omega⟩
          ⟨t.val % 2048, by omega⟩ ⟨x.val % 64, by omega⟩ := by
  rw [mix_at]
  unfold Spec.attn full
  dsimp only
  refine congrArg₂ (· + ·) (Finset.sum_congr rfl fun j _ => ?_) (Finset.sum_congr rfl fun j _ => ?_)
  · rw [stages_at, row_lat]
  · rw [stages_at, row_ctx]

/-- The reference's result is the attention, element by element. -/
theorem res_eq_result (m : (ℓ : Loc nD τ sig) → Buf (Elt Ideal) ℓ) (c : Dev nD) :
    Value.res_out0 (F := Ideal) m c
      = Spec.result (m ((c.tc : Thread nD τ).loc main_arg0)) (m ((c.tc : Thread nD τ).loc main_arg1))
          (m ((c.tc : Thread nD τ).loc main_arg2)) (m ((c.tc : Thread nD τ).loc main_arg3)) := by
  refine (res_eq m c).trans (funext fun y => ?_)
  obtain ⟨t, x, rfl⟩ : ∃ (t : Fin 65536) (x : Fin 512), y = ix2 t x := ⟨y 0, y 1, eq_ix2 y⟩
  exact mix_eq _ _ _ _ t x

end Cert.ReferenceIdeal.At

end
-- ==== Proof.FSpec.lean ====
/- One token of the dense feed-forward part over the extended reals: its modulated norm, its gated hidden units, its
   residual; and the sum over the hidden units cut into eleven chunks. -/
module

public import Idealize.ShloMosaic.PureOps.Ideal
public import Idealize.ShloMosaic.Lib.IdealHost
public import Idealize.ShloMosaic.Lib.Pointwise.Sums

@[expose] public section

set_option maxRecDepth 16384

noncomputable section

namespace Cert.Ffn

open Idealize.ShloMosaic
open scoped BigOperators

/-- A token's root mean square norm with its weight, scaled and shifted. -/
def norm (x g sc sh : Fin 1024 → EReal) (k : Fin 1024) : EReal :=
  x k * Ideal.rsqrt (Ideal.div (∑ j, x j * x j) (Ideal.ofBits .f32 0x44800000#32) + Ideal.ofBits .f32 0x358637BD#32) * g k * (1 + sc k) + sh k

/-- A gated unit: the gate's product through x ↦ x / (1 + e⁻ˣ), times the other product. -/
def glu (v u : EReal) : EReal := Ideal.div v (1 + Ideal.exp (-v)) * u

/-- A hidden unit of a token. -/
def unit (h : Fin 1024 → EReal) (wg wu : Fin 1024 → Fin 2816 → EReal) (f : Fin 2816) : EReal :=
  glu (∑ k, h k * wg k f) (∑ k, h k * wu k f)

/-- The token's result: the residual plus the gated sum of its hidden units. -/
def token (x g sc sh gate : Fin 1024 → EReal) (wg wu : Fin 1024 → Fin 2816 → EReal) (wd : Fin 2816 → Fin 1024 → EReal) (d : Fin 1024) : EReal :=
  x d + gate d * ∑ f, unit (norm x g sc sh) wg wu f * wd f d

theorem exp_nonneg (x : EReal) : 0 ≤ Ideal.exp x := by
  induction x with
  | bot => exact le_refl _
  | top => exact le_top
  | coe r => exact EReal.coe_nonneg.2 (Real.exp_pos r).le

/-- The product with one plus an exponential's reciprocal is the quotient. -/
theorem mul_sigmoid (v : EReal) : v * Ideal.div 1 (1 + Ideal.exp (-v)) = Ideal.div v (1 + Ideal.exp (-v)) := by
  refine Ideal.mul_one_div fun e => ?_
  have h0 : (0 : EReal) ≤ Ideal.exp (-v) := exp_nonneg _
  have h1 : (1 : EReal) ≤ 1 + Ideal.exp (-v) := le_add_of_nonneg_right h0
  rw [e] at h1
  exact absurd h1 (by simp)

/-- The hidden unit number `j` of chunk `c`. -/
def at256 (c : Fin 11) (j : Fin 256) : Fin 2816 := ⟨256 * c.val + j.val, by omega⟩

/-- The sum over the hidden units, chunk by chunk. -/
theorem sum_chunks (F : Fin 2816 → EReal) : ∑ f, F f = ∑ c : Fin 11, ∑ j : Fin 256, F (at256 c j) := by
  rw [← Fintype.sum_prod_type' (f := fun c j => F (at256 c j))]
  refine (Fintype.sum_bijective (fun q : Fin 11 × Fin 256 => at256 q.1 q.2) ⟨?_, ?_⟩ _ _ fun _ => rfl).symm
  · rintro ⟨a, b⟩ ⟨a', b'⟩ h
    have h' : 256 * a.val + b.val = 256 * a'.val + b'.val := congrArg Fin.val h
    exact Prod.ext (Fin.ext (by simp only; omega)) (Fin.ext (by simp only; omega))
  · intro f
    exact ⟨(⟨f.val / 256, by omega⟩, ⟨f.val % 256, by omega⟩), Fin.ext (by simp only [at256]; omega)⟩

/-- Eleven chunk sums one after the other. -/
theorem sum_eleven (P : Fin 11 → EReal) :
    P 0 + P 1 + P 2 + P 3 + P 4 + P 5 + P 6 + P 7 + P 8 + P 9 + P 10 = ∑ c, P c := by
  simp only [Fin.sum_univ_succ, Fin.sum_univ_zero, add_zero, add_assoc]
  rfl

/-- The modulation's row of a token: its batch for a latent token, the last row for a context token. -/
def modRow (r : Fin 73728) : Fin 33 := ⟨min (r.val / 2048) 32, by omega⟩

/-- The whole result, token by token. -/
def result (X : (⟨2, ![73728, 1024]⟩ : Shape).Idx → EReal) (M : (⟨3, ![33, 6, 1024]⟩ : Shape).Idx → EReal) (g : (⟨1, ![1024]⟩ : Shape).Idx → EReal)
    (wg wu : (⟨2, ![1024, 2816]⟩ : Shape).Idx → EReal) (wd : (⟨2, ![2816, 1024]⟩ : Shape).Idx → EReal) (r : Fin 73728) (d : Fin 1024) : EReal :=
  token (fun j => X (ix2 r j)) (fun j => g (ix1 j)) (fun j => M (ix3 (modRow r) 4 j)) (fun j => M (ix3 (modRow r) 3 j)) (fun j => M (ix3 (modRow r) 5 j))
    (fun k f => wg (ix2 k f)) (fun k f => wu (ix2 k f)) (fun f k => wd (ix2 f k)) d

end Cert.Ffn
-- ==== Proof.FKern.lean ====
/- The feed-forward kernel's block: 512 tokens, their hidden units chunk by chunk, read at an element. -/
module

public import proofs.«01_k».proof.Proof.Gen.Kernel2Ideal.Value
public import proofs.«01_k».proof.Proof.FSpec
public import Idealize.ShloMosaic.Lib.Pipeline.ValueKit

@[expose] public section

set_option maxRecDepth 16384

noncomputable section

namespace Cert.Kernel2Ideal.Kern

open Cert.Ffn Cert.Kernel2Ideal Cert.Kernel2Ideal.Gen Idealize.ShloMosaic Idealize.ShloMosaic.TcCoe Idealize.SL.Sem
open scoped BigOperators

/-- The normed and modulated tokens. -/
def hid (x : Vec Ideal S512x1024 .f32) (M : Vec Ideal S1x6x1024 .f32) (g : Vec Ideal S1x1024 .f32) : FVec Ideal S512x1024 .bf16 :=
  k0_pay3 x g (View.ld M (Rect.unit ![0, 4, 0] ![1, 1, 1024] inb_S1x6x1024_S1x1x1024_0_4_0)) (View.ld M (Rect.unit ![0, 3, 0] ![1, 1, 1024] inb_S1x6x1024_S1x1x1024_0_3_0))

/-- One more chunk on what the chunks before gave. -/
def step (h : FVec Ideal S512x1024 .bf16) (a b : Vec Ideal S1024x256 .bf16) (w : Vec Ideal S256x1024 .bf16) (acc : Vec Ideal S512x1024 .f32) : FVec Ideal S512x1024 .f32 :=
  k0_pay1 h a b w acc

/-- The first chunk. -/
def first (h : FVec Ideal S512x1024 .bf16) (a b : Vec Ideal S1024x256 .bf16) (w : Vec Ideal S256x1024 .bf16) : FVec Ideal S512x1024 .f32 :=
  k0_pay7 (k0_pay14 h a) (k0_pay15 h b) (k0_pay22 h a) w

/-- The block's result: eleven chunks, the gate, the residual. -/
def block (x : Vec Ideal S512x1024 .f32) (M : Vec Ideal S1x6x1024 .f32) (g : Vec Ideal S1x1024 .f32)
    (wg wu : Vec Ideal S1024x2816 .bf16) (wd : Vec Ideal S2816x1024 .bf16) : FVec Ideal S512x1024 .f32 :=
  k0_pay2 x (View.ld M (Rect.unit ![0, 5, 0] ![1, 1, 1024] inb_S1x6x1024_S1x1x1024_0_5_0))
    (step (hid x M g) (View.ld wg (Rect.unit ![0, 2560] ![1024, 256] inb_S1024x2816_S1024x256_0_2560)) (View.ld wu (Rect.unit ![0, 2560] ![1024, 256] inb_S1024x2816_S1024x256_0_2560)) (View.ld wd (Rect.unit ![2560, 0] ![256, 1024] inb_S2816x1024_S256x1024_2560_0))
    (step (hid x M g) (View.ld wg (Rect.unit ![0, 2304] ![1024, 256] inb_S1024x2816_S1024x256_0_2304)) (View.ld wu (Rect.unit ![0, 2304] ![1024, 256] inb_S1024x2816_S1024x256_0_2304)) (View.ld wd (Rect.unit ![2304, 0] ![256, 1024] inb_S2816x1024_S256x1024_2304_0))
    (step (hid x M g) (View.ld wg (Rect.unit ![0, 2048] ![1024, 256] inb_S1024x2816_S1024x256_0_2048)) (View.ld wu (Rect.unit ![0, 2048] ![1024, 256] inb_S1024x2816_S1024x256_0_2048)) (View.ld wd (Rect.unit ![2048, 0] ![256, 1024] inb_S2816x1024_S256x1024_2048_0))
    (step (hid x M g) (View.ld wg (Rect.unit ![0, 1792] ![1024, 256] inb_S1024x2816_S1024x256_0_1792)) (View.ld wu (Rect.unit ![0, 1792] ![1024, 256] inb_S1024x2816_S1024x256_0_1792)) (View.ld wd (Rect.unit ![1792, 0] ![256, 1024] inb_S2816x1024_S256x1024_1792_0))
    (step (hid x M g) (View.ld wg (Rect.unit ![0, 1536] ![1024, 256] inb_S1024x2816_S1024x256_0_1536)) (View.ld wu (Rect.unit ![0, 1536] ![1024, 256] inb_S1024x2816_S1024x256_0_1536)) (View.ld wd (Rect.unit ![1536, 0] ![256, 1024] inb_S2816x1024_S256x1024_1536_0))
    (step (hid x M g) (View.ld wg (Rect.unit ![0, 1280] ![1024, 256] inb_S1024x2816_S1024x256_0_1280)) (View.ld wu (Rect.unit ![0, 1280] ![1024, 256] inb_S1024x2816_S1024x256_0_1280)) (View.ld wd (Rect.unit ![1280, 0] ![256, 1024] inb_S2816x1024_S256x1024_1280_0))
    (step (hid x M g) (View.ld wg (Rect.unit ![0, 1024] ![1024, 256] inb_S1024x2816_S1024x256_0_1024)) (View.ld wu (Rect.unit ![0, 1024] ![1024, 256] inb_S1024x2816_S1024x256_0_1024)) (View.ld wd (Rect.unit ![1024, 0] ![256, 1024] inb_S2816x1024_S256x1024_1024_0))
    (step (hid x M g) (View.ld wg (Rect.unit ![0, 768] ![1024, 256] inb_S1024x2816_S1024x256_0_768)) (View.ld wu (Rect.unit ![0, 768] ![1024, 256] inb_S1024x2816_S1024x256_0_768)) (View.ld wd (Rect.unit ![768, 0] ![256, 1024] inb_S2816x1024_S256x1024_768_0))
    (step (hid x M g) (View.ld wg (Rect.unit ![0, 512] ![1024, 256] inb_S1024x2816_S1024x256_0_512)) (View.ld wu (Rect.unit ![0, 512] ![1024, 256] inb_S1024x2816_S1024x256_0_512)) (View.ld wd (Rect.unit ![512, 0] ![256, 1024] inb_S2816x1024_S256x1024_512_0))
    (step (hid x M g) (View.ld wg (Rect.unit ![0, 256] ![1024, 256] inb_S1024x2816_S1024x256_0_256)) (View.ld wu (Rect.unit ![0, 256] ![1024, 256] inb_S1024x2816_S1024x256_0_256)) (View.ld wd (Rect.unit ![256, 0] ![256, 1024] inb_S2816x1024_S256x1024_256_0))
    (first (hid x M g) (View.ld wg (Rect.unit ![0, 0] ![1024, 256] inb_S1024x2816_S1024x256_0_0)) (View.ld wu (Rect.unit ![0, 0] ![1024, 256] inb_S1024x2816_S1024x256_0_0)) (View.ld wd (Rect.unit ![0, 0] ![256, 1024] inb_S2816x1024_S256x1024_0_0)))))))))))))

/-- The block is the composed term of the kernel's stores. -/
theorem outs (m : (ℓ : Loc nD τ sig) → Buf (Elt Ideal) ℓ) (c : Dev nD) (t : Fin cfg0.N) :
    outsAt0 (F := Ideal) m c t = block (iblk m c 0 t) (iblk m c 1 t) (iblk m c 2 t) (iblk m c 3 t) (iblk m c 4 t) (iblk m c 5 t) := by
  unfold outsAt0
  frame_out
  rfl

/-- A chunk's step at an index. -/
theorem step_at (h : FVec Ideal S512x1024 .bf16) (a b : Vec Ideal S1024x256 .bf16) (w : Vec Ideal S256x1024 .bf16) (acc : Vec Ideal S512x1024 .f32) (p : Fin 512) (d : Fin 1024) :
    step h a b w acc (ix2 p d)
      = acc (ix2 p d) + ∑ j, glu (∑ k, h (ix2 p k) * a (ix2 k j)) (∑ k, h (ix2 p k) * b (ix2 k j)) * w (ix2 j d) := by
  pointwise [step, k0_pay1]
  simp only [glu, zero_sub]

/-- The first chunk at an index. -/
theorem first_at (h : FVec Ideal S512x1024 .bf16) (a b : Vec Ideal S1024x256 .bf16) (w : Vec Ideal S256x1024 .bf16) (p : Fin 512) (d : Fin 1024) :
    first h a b w (ix2 p d)
      = ∑ j, glu (∑ k, h (ix2 p k) * a (ix2 k j)) (∑ k, h (ix2 p k) * b (ix2 k j)) * w (ix2 j d) := by
  pointwise [first, k0_pay7, k0_pay14, k0_pay15, k0_pay20, k0_pay22]
  simp only [glu, zero_sub]

/-- A normed and modulated token at an index. -/
theorem hid_at (x : Vec Ideal S512x1024 .f32) (M : Vec Ideal S1x6x1024 .f32) (g : Vec Ideal S1x1024 .f32) (p : Fin 512) (k : Fin 1024) :
    hid x M g (ix2 p k)
      = norm (fun j => x (ix2 p j)) (fun j => g (ix2 0 j)) (fun j => M (ix3 0 4 j)) (fun j => M (ix3 0 3 j)) k := by
  pointwise [hid, k0_pay3]
  rfl

/-- Part of a block at an element. -/
theorem ld_at {s : Shape} {e : EltTy} (X : s.Idx → Elt Ideal e) {off size : Fin s.rank → ℕ} (inb : ∀ a, off a + size a ≤ s.size a)
    (y : (Rect.unit (s := s) off size inb).shape.Idx) (j : s.Idx) (hj : ∀ a, (j a).val = off a + (y a).val) :
    View.ld X (Rect.unit (s := s) off size inb) y = X j := by
  rw [View.ld_apply]
  refine congrArg X (funext fun a => Fin.ext ?_)
  rw [hj a]
  exact Rect.emb_apply (Rect.unit (s := s) off size inb) y a |>.trans (by simp [Rect.unit])

/-- A chunk's columns of a weight. -/
theorem cols_at (W : Vec Ideal S1024x2816 .bf16) (c : Fin 11) {o : Fin S1024x2816.rank → ℕ} (inb : ∀ a, o a + (![1024, 256] : Fin 2 → ℕ) a ≤ S1024x2816.size a)
    (ho : o = ![0, 256 * c.val]) (k : Fin 1024) (j : Fin 256) :
    View.ld W (Rect.unit (s := S1024x2816) o ![1024, 256] inb) (ix2 k j) = W (ix2 k (at256 c j)) := by
  subst ho
  refine ld_at W _ _ _ fun a => ?_
  fin_cases a
  · simp
  · simp [at256]

/-- A chunk's rows of the last weight. -/
theorem rows_at (W : Vec Ideal S2816x1024 .bf16) (c : Fin 11) {o : Fin S2816x1024.rank → ℕ} (inb : ∀ a, o a + (![256, 1024] : Fin 2 → ℕ) a ≤ S2816x1024.size a)
    (ho : o = ![256 * c.val, 0]) (j : Fin 256) (d : Fin 1024) :
    View.ld W (Rect.unit (s := S2816x1024) o ![256, 1024] inb) (ix2 j d) = W (ix2 (at256 c j) d) := by
  subst ho
  refine ld_at W _ _ _ fun a => ?_
  fin_cases a
  · simp [at256]
  · simp

/-- A chunk's sum. -/
def part (h : FVec Ideal S512x1024 .bf16) (wg wu : Vec Ideal S1024x2816 .bf16) (wd : Vec Ideal S2816x1024 .bf16) (p : Fin 512) (d : Fin 1024) (c : Fin 11) : EReal :=
  ∑ j, unit (fun k => h (ix2 p k)) (fun k f => wg (ix2 k f)) (fun k f => wu (ix2 k f)) (at256 c j) * wd (ix2 (at256 c j) d)

/-- A chunk's step of the full weights at an index. -/
theorem step_part (h : FVec Ideal S512x1024 .bf16) (wg wu : Vec Ideal S1024x2816 .bf16) (wd : Vec Ideal S2816x1024 .bf16) (c : Fin 11)
    {o : Fin S1024x2816.rank → ℕ} {q : Fin S2816x1024.rank → ℕ} (inb : ∀ a, o a + (![1024, 256] : Fin 2 → ℕ) a ≤ S1024x2816.size a)
    (inq : ∀ a, q a + (![256, 1024] : Fin 2 → ℕ) a ≤ S2816x1024.size a) (ho : o = ![0, 256 * c.val]) (hq : q = ![256 * c.val, 0])
    (acc : Vec Ideal S512x1024 .f32) (p : Fin 512) (d : Fin 1024) :
    step h (View.ld wg (Rect.unit (s := S1024x2816) o ![1024, 256] inb)) (View.ld wu (Rect.unit (s := S1024x2816) o ![1024, 256] inb))
      (View.ld wd (Rect.unit (s := S2816x1024) q ![256, 1024] inq)) acc (ix2 p d) = acc (ix2 p d) + part h wg wu wd p d c := by
  rw [step_at]
  simp only [cols_at wg c inb ho, cols_at wu c inb ho, rows_at wd c inq hq]
  rfl

/-- The first chunk of the full weights at an index. -/
theorem first_part (h : FVec Ideal S512x1024 .bf16) (wg wu : Vec Ideal S1024x2816 .bf16) (wd : Vec Ideal S2816x1024 .bf16)
    {o : Fin S1024x2816.rank → ℕ} {q : Fin S2816x1024.rank → ℕ} (inb : ∀ a, o a + (![1024, 256] : Fin 2 → ℕ) a ≤ S1024x2816.size a)
    (inq : ∀ a, q a + (![256, 1024] : Fin 2 → ℕ) a ≤ S2816x1024.size a) (ho : o = ![0, 0]) (hq : q = ![0, 0])
    (p : Fin 512) (d : Fin 1024) :
    first h (View.ld wg (Rect.unit (s := S1024x2816) o ![1024, 256] inb)) (View.ld wu (Rect.unit (s := S1024x2816) o ![1024, 256] inb))
      (View.ld wd (Rect.unit (s := S2816x1024) q ![256, 1024] inq)) (ix2 p d) = part h wg wu wd p d 0 := by
  rw [first_at]
  simp only [cols_at wg 0 inb ho, cols_at wu 0 inb ho, rows_at wd 0 inq hq]
  rfl

/-- The gate and the residual at an index. -/
theorem gate_at (x : Vec Ideal S512x1024 .f32) (M : Vec Ideal S1x6x1024 .f32) (acc : Vec Ideal S512x1024 .f32) (p : Fin 512) (d : Fin 1024) :
    k0_pay2 (F := Ideal) x (View.ld M (Rect.unit ![0, 5, 0] ![1, 1, 1024] inb_S1x6x1024_S1x1x1024_0_5_0)) acc (ix2 p d)
      = x (ix2 p d) + M (ix3 0 5 d) * acc (ix2 p d) := by
  pointwise [k0_pay2]

/-- The block at an element: the token's result. -/
theorem block_at (x : Vec Ideal S512x1024 .f32) (M : Vec Ideal S1x6x1024 .f32) (g : Vec Ideal S1x1024 .f32)
    (wg wu : Vec Ideal S1024x2816 .bf16) (wd : Vec Ideal S2816x1024 .bf16) (p : Fin 512) (d : Fin 1024) :
    block x M g wg wu wd (ix2 p d)
      = token (fun j => x (ix2 p j)) (fun j => g (ix2 0 j)) (fun j => M (ix3 0 4 j)) (fun j => M (ix3 0 3 j)) (fun j => M (ix3 0 5 j))
          (fun k f => wg (ix2 k f)) (fun k f => wu (ix2 k f)) (fun f k => wd (ix2 f k)) d := by
  unfold block
  rw [gate_at, step_part _ _ _ _ 10 (o := ![0, 2560]) (q := ![2560, 0]) _ _ rfl rfl, step_part _ _ _ _ 9 (o := ![0, 2304]) (q := ![2304, 0]) _ _ rfl rfl, step_part _ _ _ _ 8 (o := ![0, 2048]) (q := ![2048, 0]) _ _ rfl rfl,
    step_part _ _ _ _ 7 (o := ![0, 1792]) (q := ![1792, 0]) _ _ rfl rfl, step_part _ _ _ _ 6 (o := ![0, 1536]) (q := ![1536, 0]) _ _ rfl rfl, step_part _ _ _ _ 5 (o := ![0, 1280]) (q := ![1280, 0]) _ _ rfl rfl, step_part _ _ _ _ 4 (o := ![0, 1024]) (q := ![1024, 0]) _ _ rfl rfl,
    step_part _ _ _ _ 3 (o := ![0, 768]) (q := ![768, 0]) _ _ rfl rfl, step_part _ _ _ _ 2 (o := ![0, 512]) (q := ![512, 0]) _ _ rfl rfl, step_part _ _ _ _ 1 (o := ![0, 256]) (q := ![256, 0]) _ _ rfl rfl, first_part _ _ _ _ (o := ![0, 0]) (q := ![0, 0]) _ _ rfl rfl,
    sum_eleven (part (hid x M g) wg wu wd p d)]
  unfold token part
  rw [sum_chunks]
  simp only [hid_at]

end Cert.Kernel2Ideal.Kern
-- ==== Proof.FFinal.lean ====
/- The feed-forward kernel's output array after the whole grid: every token's result, from the launched arrays. -/
module

public import proofs.«01_k».proof.Proof.FKern
public import Idealize.ShloMosaic.Lib.Claim

@[expose] public section

set_option maxRecDepth 16384

noncomputable section

namespace Cert.Kernel2Ideal.Final

open Cert.Ffn Cert.Kernel2Ideal Cert.Kernel2Ideal.Gen Cert.Kernel2Ideal.Kern Idealize.ShloMosaic Idealize.ShloMosaic.TcCoe Idealize.SL.Sem
open Idealize.ShloMosaic.Pipeline (Dat)

variable (m : (ℓ : Loc nD τ sig) → Buf (Elt Ideal) ℓ)

/-- Where each window's block lies. -/
theorem idx : ∀ t : Fin cfg0.N, win0_0.index t = ![t.val, 0] ∧ win0_1.index t = ![min (t.val / 4) 32, 0, 0] ∧ win0_2.index t = ![0, 0] ∧ win0_3.index t = ![0, 0]
    ∧ win0_4.index t = ![0, 0] ∧ win0_5.index t = ![0, 0] ∧ win0_6.index t = ![t.val, 0] :=
  (by decide +kernel : ∀ t : Fin grid0.N, _)

/-- The token a row of a point's block is. -/
def tok (t : Fin cfg0.N) (p : Fin 512) : Fin 73728 :=
  ⟨t.val * 512 + p.val, by have : t.val < 144 := lt_of_lt_of_eq t.isLt N_0; omega⟩

/-- The blocks, read off the launched arrays. -/
theorem blk0 (c : Dev nD) (t : Fin cfg0.N) (p : Fin 512) (j : Fin 1024) :
    iblk (F := Ideal) m c 0 t (ix2 p j) = m ((c : Thread nD τ).loc main_arg0) (ix2 (tok t p) j) := by
  blk_ext [iblk, V, idx t, tok]

theorem blk1 (c : Dev nD) (t : Fin cfg0.N) (p : Fin 512) (q : Fin 6) (j : Fin 1024) :
    iblk (F := Ideal) m c 1 t (ix3 0 q j) = m ((c : Thread nD τ).loc main_arg1) (ix3 (modRow (tok t p)) q j) := by
  have hm : min ((t.val * 512 + p.val) / 2048) 32 = min (t.val / 4) 32 := by omega
  blk_ext [iblk, V, idx t, tok, modRow, hm]

theorem blk2 (c : Dev nD) (t : Fin cfg0.N) (j : Fin 1024) :
    iblk (F := Ideal) m c 2 t (ix2 0 j) = m ((c : Thread nD τ).loc main_arg2) (ix1 j) := by
  blk_point [iblk, V, idx t]

theorem blk3 (c : Dev nD) (t : Fin cfg0.N) (k : Fin 1024) (f : Fin 2816) :
    iblk (F := Ideal) m c 3 t (ix2 k f) = m ((c : Thread nD τ).loc main_arg3) (ix2 k f) := by
  blk_point [iblk, V, idx t]

theorem blk4 (c : Dev nD) (t : Fin cfg0.N) (k : Fin 1024) (f : Fin 2816) :
    iblk (F := Ideal) m c 4 t (ix2 k f) = m ((c : Thread nD τ).loc main_arg4) (ix2 k f) := by
  blk_point [iblk, V, idx t]

theorem blk5 (c : Dev nD) (t : Fin cfg0.N) (f : Fin 2816) (k : Fin 1024) :
    iblk (F := Ideal) m c 5 t (ix2 f k) = m ((c : Thread nD τ).loc main_arg5) (ix2 f k) := by
  blk_point [iblk, V, idx t]

/-- The output array after the grid. -/
theorem final (c : Dev nD) : (dats (F := Ideal) m 0 c).arrAt 6 (cfgs 0).N
    = fun y : S73728x1024.Idx => result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (y 0) (y 1) := by
  refine (dats (F := Ideal) m 0 c).arrAt_eq_of_covers 6 _ (by decide +kernel) fun t _ y => ?_
  blk_simp
  rw [after0_6, outs m c t]
  obtain ⟨p, d, rfl⟩ : ∃ (p : Fin 512) (d : Fin 1024), y = ix2 p d := ⟨y 0, y 1, eq_ix2 y⟩
  have e0 : (((cfg0.win 6).blk t).view.emb (ix2 p d)) 0 = tok t p := Fin.ext (by
    blk_simp
    simp [idx t, tok])
  have e1 : (((cfg0.win 6).blk t).view.emb (ix2 p d)) 1 = d := Fin.ext (by
    blk_simp
    simp [idx t])
  rw [block_at]
  unfold result
  rw [e0, e1]
  simp only [blk0, blk1 m c t p, blk2, blk3, blk4, blk5]

end Cert.Kernel2Ideal.Final

end
-- ==== Proof.FRef.lean ====
/- The reference's feed-forward part read at one element: the latent tokens, the context tokens, and both joined. -/
module

public import proofs.«01_k».proof.Proof.Gen.Reference2Ideal.Run
public import proofs.«01_k».proof.Proof.FSpec
public import Idealize.ShloMosaic.Lib.Pointwise

@[expose] public section

set_option maxRecDepth 16384

noncomputable section

namespace Cert.Reference2Ideal.At

open Cert.Ffn Cert.Reference2Ideal Cert.Reference2Ideal.Gen Idealize.ShloMosaic Idealize.ShloMosaic.TcCoe Idealize.SL.Sem
open scoped BigOperators

/-- The latent tokens' sums of squares. -/
def sqL (x : FVec Ideal S32x2048x1024 .f32) : FVec Ideal S32x2048 .f32 :=
  Host.reduceAdd (mulf x x) (constant S_ .f32 0x00000000#32) reducesTo_S32x2048x1024_S32x2048_d2 h_S_

/-- The latent tokens' norm from the sums of squares, modulated. -/
def modL (q : FVec Ideal S32x2048 .f32) (x : FVec Ideal S32x2048x1024 .f32) (g : FVec Ideal S1024 .f32) (sc sh : FVec Ideal S32x1x1024 .f32) : FVec Ideal S32x2048x1024 .f32 :=
  addf (mulf (mulf (mulf x (broadcastInDim S32x2048x1024 ![0, 1, 2] bcast_S32x2048x1_S32x2048x1024_0_1_2 (Host.rsqrt (addf (Host.divf (broadcastInDim S32x2048x1 ![0, 1] bcast_S32x2048_S32x2048x1_0_1 q) (broadcastInDim S32x2048x1 ![] bcast_S_S32x2048x1 (constant S_ .f32 0x44800000#32))) (broadcastInDim S32x2048x1 ![] bcast_S_S32x2048x1 (constant S_ .f32 0x358637BD#32))))))
      (broadcastInDim S32x2048x1024 ![0, 1, 2] bcast_S1x1x1024_S32x2048x1024_0_1_2 (broadcastInDim S1x1x1024 ![2] bcast_S1024_S1x1x1024_2 g)))
    (broadcastInDim S32x2048x1024 ![0, 1, 2] bcast_S32x1x1024_S32x2048x1024_0_1_2 (addf (broadcastInDim S32x1x1024 ![] bcast_S_S32x1x1024 (constant S_ .f32 0x3F800000#32)) sc)))
    (broadcastInDim S32x2048x1024 ![0, 1, 2] bcast_S32x1x1024_S32x2048x1024_0_1_2 sh)

/-- The latent tokens' product with a weight. -/
def upL (h : FVec Ideal S32x2048x1024 .f32) (w : FVec Ideal S1024x2816 .f32) : FVec Ideal S32x2048x2816 .f32 :=
  Host.dotGeneral dot_S32x2048x1024_S1024x2816_S32x2048x2816_2_0_01_1_n_n none h w

/-- The latent tokens' hidden units. -/
def actL (v u : FVec Ideal S32x2048x2816 .f32) : FVec Ideal S32x2048x2816 .f32 :=
  mulf (mulf v (Host.divf (broadcastInDim S32x2048x2816 ![] bcast_S_S32x2048x2816 (constant S_ .f32 0x3F800000#32)) (addf (broadcastInDim S32x2048x2816 ![] bcast_S_S32x2048x2816 (constant S_ .f32 0x3F800000#32)) (Host.exp (Host.negf v))))) u

/-- The latent tokens' results. -/
def outL (x : FVec Ideal S32x2048x1024 .f32) (gate : FVec Ideal S32x1x1024 .f32) (a : FVec Ideal S32x2048x2816 .f32) (w : FVec Ideal S2816x1024 .f32) : FVec Ideal S32x2048x1024 .f32 :=
  addf x (mulf (broadcastInDim S32x2048x1024 ![0, 1, 2] bcast_S32x1x1024_S32x2048x1024_0_1_2 gate) (Host.dotGeneral dot_S32x2048x2816_S2816x1024_S32x2048x1024_2_0_01_1_n_n none a w))

/-- The latent tokens' part. -/
def ffnL (x : FVec Ideal S32x2048x1024 .f32) (g : FVec Ideal S1024 .f32) (sc sh gate : FVec Ideal S32x1x1024 .f32) (wg wu : FVec Ideal S1024x2816 .f32) (wd : FVec Ideal S2816x1024 .f32) : FVec Ideal S32x2048x1024 .f32 :=
  outL x gate (actL (upL (modL (sqL x) x g sc sh) wg) (upL (modL (sqL x) x g sc sh) wu)) wd

theorem sqL_at (x : FVec Ideal S32x2048x1024 .f32) (b : Fin 32) (s : Fin 2048) : sqL x (ix2 b s) = ∑ j, x (ix3 b s j) * x (ix3 b s j) := by
  pointwise [sqL]

theorem modL_at (q : FVec Ideal S32x2048 .f32) (x : FVec Ideal S32x2048x1024 .f32) (g : FVec Ideal S1024 .f32) (sc sh : FVec Ideal S32x1x1024 .f32) (b : Fin 32) (s : Fin 2048) (k : Fin 1024) :
    modL q x g sc sh (ix3 b s k)
      = x (ix3 b s k) * Ideal.rsqrt (Ideal.div (q (ix2 b s)) (Ideal.ofBits .f32 0x44800000#32) + Ideal.ofBits .f32 0x358637BD#32) * g (ix1 k) * (1 + sc (ix3 b 0 k)) + sh (ix3 b 0 k) := by
  pointwise [modL]

theorem upL_at (h : FVec Ideal S32x2048x1024 .f32) (w : FVec Ideal S1024x2816 .f32) (b : Fin 32) (s : Fin 2048) (f : Fin 2816) :
    upL h w (ix3 b s f) = ∑ k, h (ix3 b s k) * w (ix2 k f) := by
  pointwise [upL]

theorem actL_at (v u : FVec Ideal S32x2048x2816 .f32) (b : Fin 32) (s : Fin 2048) (f : Fin 2816) :
    actL v u (ix3 b s f) = glu (v (ix3 b s f)) (u (ix3 b s f)) := by
  pointwise [actL]
  rw [mul_sigmoid]
  rfl

theorem outL_at (x : FVec Ideal S32x2048x1024 .f32) (gate : FVec Ideal S32x1x1024 .f32) (a : FVec Ideal S32x2048x2816 .f32) (w : FVec Ideal S2816x1024 .f32) (b : Fin 32) (s : Fin 2048) (d : Fin 1024) :
    outL x gate a w (ix3 b s d) = x (ix3 b s d) + gate (ix3 b 0 d) * ∑ f, a (ix3 b s f) * w (ix2 f d) := by
  pointwise [outL]

/-- The latent tokens' part at an element. -/
theorem ffnL_at (x : FVec Ideal S32x2048x1024 .f32) (g : FVec Ideal S1024 .f32) (sc sh gate : FVec Ideal S32x1x1024 .f32) (wg wu : FVec Ideal S1024x2816 .f32) (wd : FVec Ideal S2816x1024 .f32) (b : Fin 32) (s : Fin 2048) (d : Fin 1024) :
    ffnL x g sc sh gate wg wu wd (ix3 b s d)
      = token (fun j => x (ix3 b s j)) (fun j => g (ix1 j)) (fun j => sc (ix3 b 0 j)) (fun j => sh (ix3 b 0 j)) (fun j => gate (ix3 b 0 j))
          (fun k f => wg (ix2 k f)) (fun k f => wu (ix2 k f)) (fun f k => wd (ix2 f k)) d := by
  unfold ffnL token
  rw [outL_at]
  simp only [actL_at, upL_at, modL_at, sqL_at]
  rfl

/-- The context tokens' sums of squares. -/
def sqC (x : FVec Ideal S32x256x1024 .f32) : FVec Ideal S32x256 .f32 :=
  Host.reduceAdd (mulf x x) (constant S_ .f32 0x00000000#32) reducesTo_S32x256x1024_S32x256_d2 h_S_

/-- The context tokens' norm from the sums of squares, modulated. -/
def modC (q : FVec Ideal S32x256 .f32) (x : FVec Ideal S32x256x1024 .f32) (g : FVec Ideal S1024 .f32) (sc sh : FVec Ideal S1024 .f32) : FVec Ideal S32x256x1024 .f32 :=
  addf (mulf (mulf (mulf x (broadcastInDim S32x256x1024 ![0, 1, 2] bcast_S32x256x1_S32x256x1024_0_1_2 (Host.rsqrt (addf (Host.divf (broadcastInDim S32x256x1 ![0, 1] bcast_S32x256_S32x256x1_0_1 q) (broadcastInDim S32x256x1 ![] bcast_S_S32x256x1 (constant S_ .f32 0x44800000#32))) (broadcastInDim S32x256x1 ![] bcast_S_S32x256x1 (constant S_ .f32 0x358637BD#32))))))
      (broadcastInDim S32x256x1024 ![0, 1, 2] bcast_S1x1x1024_S32x256x1024_0_1_2 (broadcastInDim S1x1x1024 ![2] bcast_S1024_S1x1x1024_2 g)))
    (broadcastInDim S32x256x1024 ![0, 1, 2] bcast_S1x1x1024_S32x256x1024_0_1_2 (broadcastInDim S1x1x1024 ![2] bcast_S1024_S1x1x1024_2 (addf (broadcastInDim S1024 ![] bcast_S_S1024 (constant S_ .f32 0x3F800000#32)) sc))))
    (broadcastInDim S32x256x1024 ![0, 1, 2] bcast_S1x1x1024_S32x256x1024_0_1_2 (broadcastInDim S1x1x1024 ![2] bcast_S1024_S1x1x1024_2 sh))

/-- The context tokens' product with a weight. -/
def upC (h : FVec Ideal S32x256x1024 .f32) (w : FVec Ideal S1024x2816 .f32) : FVec Ideal S32x256x2816 .f32 :=
  Host.dotGeneral dot_S32x256x1024_S1024x2816_S32x256x2816_2_0_01_1_n_n none h w

/-- The context tokens' hidden units. -/
def actC (v u : FVec Ideal S32x256x2816 .f32) : FVec Ideal S32x256x2816 .f32 :=
  mulf (mulf v (Host.divf (broadcastInDim S32x256x2816 ![] bcast_S_S32x256x2816 (constant S_ .f32 0x3F800000#32)) (addf (broadcastInDim S32x256x2816 ![] bcast_S_S32x256x2816 (constant S_ .f32 0x3F800000#32)) (Host.exp (Host.negf v))))) u

/-- The context tokens' results. -/
def outC (x : FVec Ideal S32x256x1024 .f32) (gate : FVec Ideal S1024 .f32) (a : FVec Ideal S32x256x2816 .f32) (w : FVec Ideal S2816x1024 .f32) : FVec Ideal S32x256x1024 .f32 :=
  addf x (mulf (broadcastInDim S32x256x1024 ![0, 1, 2] bcast_S1x1x1024_S32x256x1024_0_1_2 (broadcastInDim S1x1x1024 ![2] bcast_S1024_S1x1x1024_2 gate)) (Host.dotGeneral dot_S32x256x2816_S2816x1024_S32x256x1024_2_0_01_1_n_n none a w))

/-- The context tokens' part. -/
def ffnC (x : FVec Ideal S32x256x1024 .f32) (g : FVec Ideal S1024 .f32) (sc sh gate : FVec Ideal S1024 .f32) (wg wu : FVec Ideal S1024x2816 .f32) (wd : FVec Ideal S2816x1024 .f32) : FVec Ideal S32x256x1024 .f32 :=
  outC x gate (actC (upC (modC (sqC x) x g sc sh) wg) (upC (modC (sqC x) x g sc sh) wu)) wd

theorem sqC_at (x : FVec Ideal S32x256x1024 .f32) (b : Fin 32) (s : Fin 256) : sqC x (ix2 b s) = ∑ j, x (ix3 b s j) * x (ix3 b s j) := by
  pointwise [sqC]

theorem modC_at (q : FVec Ideal S32x256 .f32) (x : FVec Ideal S32x256x1024 .f32) (g : FVec Ideal S1024 .f32) (sc sh : FVec Ideal S1024 .f32) (b : Fin 32) (s : Fin 256) (k : Fin 1024) :
    modC q x g sc sh (ix3 b s k)
      = x (ix3 b s k) * Ideal.rsqrt (Ideal.div (q (ix2 b s)) (Ideal.ofBits .f32 0x44800000#32) + Ideal.ofBits .f32 0x358637BD#32) * g (ix1 k) * (1 + sc (ix1 k)) + sh (ix1 k) := by
  pointwise [modC]

theorem upC_at (h : FVec Ideal S32x256x1024 .f32) (w : FVec Ideal S1024x2816 .f32) (b : Fin 32) (s : Fin 256) (f : Fin 2816) :
    upC h w (ix3 b s f) = ∑ k, h (ix3 b s k) * w (ix2 k f) := by
  pointwise [upC]

theorem actC_at (v u : FVec Ideal S32x256x2816 .f32) (b : Fin 32) (s : Fin 256) (f : Fin 2816) :
    actC v u (ix3 b s f) = glu (v (ix3 b s f)) (u (ix3 b s f)) := by
  pointwise [actC]
  rw [mul_sigmoid]
  rfl

theorem outC_at (x : FVec Ideal S32x256x1024 .f32) (gate : FVec Ideal S1024 .f32) (a : FVec Ideal S32x256x2816 .f32) (w : FVec Ideal S2816x1024 .f32) (b : Fin 32) (s : Fin 256) (d : Fin 1024) :
    outC x gate a w (ix3 b s d) = x (ix3 b s d) + gate (ix1 d) * ∑ f, a (ix3 b s f) * w (ix2 f d) := by
  pointwise [outC]

/-- The context tokens' part at an element. -/
theorem ffnC_at (x : FVec Ideal S32x256x1024 .f32) (g : FVec Ideal S1024 .f32) (sc sh gate : FVec Ideal S1024 .f32) (wg wu : FVec Ideal S1024x2816 .f32) (wd : FVec Ideal S2816x1024 .f32) (b : Fin 32) (s : Fin 256) (d : Fin 1024) :
    ffnC x g sc sh gate wg wu wd (ix3 b s d)
      = token (fun j => x (ix3 b s j)) (fun j => g (ix1 j)) (fun j => sc (ix1 j)) (fun j => sh (ix1 j)) (fun j => gate (ix1 j))
          (fun k f => wg (ix2 k f)) (fun k f => wu (ix2 k f)) (fun f k => wd (ix2 f k)) d := by
  unfold ffnC token
  rw [outC_at]
  simp only [actC_at, upC_at, modC_at, sqC_at]
  rfl

/-- The latent tokens' residual stream. -/
def xL (X : FVec Ideal S73728x1024 .f32) : FVec Ideal S32x2048x1024 .f32 :=
  shapeCast _ (extractStridedSlice S65536x1024 ![0, 0] X slices_S73728x1024_S65536x1024_0_0) shapeCasts_S65536x1024_S32x2048x1024

/-- The context tokens' residual stream. -/
def xC (X : FVec Ideal S73728x1024 .f32) : FVec Ideal S32x256x1024 .f32 :=
  shapeCast _ (extractStridedSlice S8192x1024 ![65536, 0] X slices_S73728x1024_S8192x1024_65536_0) shapeCasts_S8192x1024_S32x256x1024

/-- The latent tokens' modulation. -/
def mL (M : FVec Ideal S33x6x1024 .f32) : FVec Ideal S32x6x1x1024 .f32 :=
  shapeCast _ (extractStridedSlice S32x6x1024 ![0, 0, 0] M slices_S33x6x1024_S32x6x1024_0_0_0) shapeCasts_S32x6x1024_S32x6x1x1024

/-- The context tokens' modulation. -/
def mC (M : FVec Ideal S33x6x1024 .f32) : FVec Ideal S6x1024 .f32 :=
  shapeCast _ (extractStridedSlice S1x6x1024 ![32, 0, 0] M slices_S33x6x1024_S1x6x1024_32_0_0) shapeCasts_S1x6x1024_S6x1024

def mL3 (M : FVec Ideal S33x6x1024 .f32) : FVec Ideal S32x1x1024 .f32 :=
  shapeCast _ (extractStridedSlice S32x1x1x1024 ![0, 3, 0, 0] (mL M) slices_S32x6x1x1024_S32x1x1x1024_0_3_0_0) shapeCasts_S32x1x1x1024_S32x1x1024

def mC3 (M : FVec Ideal S33x6x1024 .f32) : FVec Ideal S1024 .f32 :=
  shapeCast _ (extractStridedSlice S1x1024 ![3, 0] (mC M) slices_S6x1024_S1x1024_3_0) shapeCasts_S1x1024_S1024

def mL4 (M : FVec Ideal S33x6x1024 .f32) : FVec Ideal S32x1x1024 .f32 :=
  shapeCast _ (extractStridedSlice S32x1x1x1024 ![0, 4, 0, 0] (mL M) slices_S32x6x1x1024_S32x1x1x1024_0_4_0_0) shapeCasts_S32x1x1x1024_S32x1x1024

def mC4 (M : FVec Ideal S33x6x1024 .f32) : FVec Ideal S1024 .f32 :=
  shapeCast _ (extractStridedSlice S1x1024 ![4, 0] (mC M) slices_S6x1024_S1x1024_4_0) shapeCasts_S1x1024_S1024

def mL5 (M : FVec Ideal S33x6x1024 .f32) : FVec Ideal S32x1x1024 .f32 :=
  shapeCast _ (extractStridedSlice S32x1x1x1024 ![0, 5, 0, 0] (mL M) slices_S32x6x1x1024_S32x1x1x1024_0_5_0_0) shapeCasts_S32x1x1x1024_S32x1x1024

def mC5 (M : FVec Ideal S33x6x1024 .f32) : FVec Ideal S1024 .f32 :=
  shapeCast _ (extractStridedSlice S1x1024 ![5, 0] (mC M) slices_S6x1024_S1x1024_5_0) shapeCasts_S1x1024_S1024

/-- Both parts joined, the latent tokens first. -/
def join (a : FVec Ideal S32x2048x1024 .f32) (b : FVec Ideal S32x256x1024 .f32) : FVec Ideal S73728x1024 .f32 :=
  Value.fn_main_v79 (F := Ideal) (shapeCast _ a shapeCasts_S32x2048x1024_S65536x1024) (shapeCast _ b shapeCasts_S32x256x1024_S8192x1024)

/-- The reference's result is these stages one after the other. -/
theorem res_eq (m : (ℓ : Loc nD τ sig) → Buf (Elt Ideal) ℓ) (c : Dev nD) :
    Value.res_out0 (F := Ideal) m c
      = join (ffnL (xL (m ((c.tc : Thread nD τ).loc main_arg0))) (m ((c.tc : Thread nD τ).loc main_arg2)) (mL4 (m ((c.tc : Thread nD τ).loc main_arg1))) (mL3 (m ((c.tc : Thread nD τ).loc main_arg1))) (mL5 (m ((c.tc : Thread nD τ).loc main_arg1)))
            (m ((c.tc : Thread nD τ).loc main_arg3)) (m ((c.tc : Thread nD τ).loc main_arg4)) (m ((c.tc : Thread nD τ).loc main_arg5)))
          (ffnC (xC (m ((c.tc : Thread nD τ).loc main_arg0))) (m ((c.tc : Thread nD τ).loc main_arg2)) (mC4 (m ((c.tc : Thread nD τ).loc main_arg1))) (mC3 (m ((c.tc : Thread nD τ).loc main_arg1))) (mC5 (m ((c.tc : Thread nD τ).loc main_arg1)))
            (m ((c.tc : Thread nD τ).loc main_arg3)) (m ((c.tc : Thread nD τ).loc main_arg4)) (m ((c.tc : Thread nD τ).loc main_arg5))) := rfl

theorem xL_at (X : FVec Ideal S73728x1024 .f32) (b : Fin 32) (s : Fin 2048) (j : Fin 1024) :
    xL X (ix3 b s j) = X (ix2 ⟨b.val * 2048 + s.val, by omega⟩ j) := by
  pointwise [xL]

theorem xC_at (X : FVec Ideal S73728x1024 .f32) (b : Fin 32) (s : Fin 256) (j : Fin 1024) :
    xC X (ix3 b s j) = X (ix2 ⟨65536 + (b.val * 256 + s.val), by omega⟩ j) := by
  pointwise [xC]

theorem mL3_at (M : FVec Ideal S33x6x1024 .f32) (b : Fin 32) (j : Fin 1024) :
    mL3 M (ix3 b 0 j) = M (ix3 ⟨b.val, by omega⟩ 3 j) := by
  pointwise [mL3, mL]

theorem mC3_at (M : FVec Ideal S33x6x1024 .f32) (j : Fin 1024) :
    mC3 M (ix1 j) = M (ix3 32 3 j) := by
  pointwise [mC3, mC]

theorem mL4_at (M : FVec Ideal S33x6x1024 .f32) (b : Fin 32) (j : Fin 1024) :
    mL4 M (ix3 b 0 j) = M (ix3 ⟨b.val, by omega⟩ 4 j) := by
  pointwise [mL4, mL]

theorem mC4_at (M : FVec Ideal S33x6x1024 .f32) (j : Fin 1024) :
    mC4 M (ix1 j) = M (ix3 32 4 j) := by
  pointwise [mC4, mC]

theorem mL5_at (M : FVec Ideal S33x6x1024 .f32) (b : Fin 32) (j : Fin 1024) :
    mL5 M (ix3 b 0 j) = M (ix3 ⟨b.val, by omega⟩ 5 j) := by
  pointwise [mL5, mL]

theorem mC5_at (M : FVec Ideal S33x6x1024 .f32) (j : Fin 1024) :
    mC5 M (ix1 j) = M (ix3 32 5 j) := by
  pointwise [mC5, mC]

theorem joinL_at (a : FVec Ideal S32x2048x1024 .f32) (b : FVec Ideal S32x256x1024 .f32) (r : Fin 73728) (h : r.val < 65536) (d : Fin 1024) :
    join a b (ix2 r d) = a (ix3 ⟨r.val / 2048, by omega⟩ ⟨r.val % 2048, by omega⟩ d) := by
  pointwise [join, Value.fn_main_v79]
  rw [dif_pos h]

theorem joinC_at (a : FVec Ideal S32x2048x1024 .f32) (b : FVec Ideal S32x256x1024 .f32) (r : Fin 73728) (h : ¬r.val < 65536) (d : Fin 1024) :
    join a b (ix2 r d) = b (ix3 ⟨(r.val - 65536) / 256, by omega⟩ ⟨(r.val - 65536) % 256, by omega⟩ d) := by
  pointwise [join, Value.fn_main_v79]
  rw [dif_neg h]

/-- The reference's result at an element. -/
theorem res_at (m : (ℓ : Loc nD τ sig) → Buf (Elt Ideal) ℓ) (c : Dev nD) (r : Fin 73728) (d : Fin 1024) :
    (Value.res_out0 (F := Ideal) m c : FVec Ideal S73728x1024 .f32) (ix2 r d)
      = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) r d := by
  rw [res_eq]
  by_cases h : r.val < 65536
  · rw [joinL_at _ _ r h, ffnL_at]
    have e : (⟨r.val / 2048 * 2048 + r.val % 2048, by omega⟩ : Fin 73728) = r := Fin.ext (by simp only; omega)
    have e2 : (⟨r.val / 2048, by omega⟩ : Fin 33) = modRow r := Fin.ext (by simp only [modRow]; omega)
    simp only [xL_at, mL3_at, mL4_at, mL5_at, e, e2]
    rfl
  · rw [joinC_at _ _ r h, ffnC_at]
    have e : (⟨65536 + ((r.val - 65536) / 256 * 256 + (r.val - 65536) % 256), by omega⟩ : Fin 73728) = r := Fin.ext (by simp only; omega)
    have e2 : (32 : Fin 33) = modRow r := Fin.ext (by have := r.isLt; simp only [modRow]; change 32 = _; omega)
    simp only [xC_at, mC3_at, mC4_at, mC5_at, e, e2]
    rfl

end Cert.Reference2Ideal.At

end
-- ==== Proof.ERuns.lean ====
/- The body's branches, the tables it reads, and what a run of it leaves. -/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Kit
public import Idealize.ShloMosaic.Lib.Claim

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

abbrev bodyAt0 (a : (pcfg0 (F := F)).Adm) (t : Fin (cfg0 a).N) : Prog (TpuEff nD τ sig (Elt F) Λ₀ .tc) PUnit :=
  cc0_moe_experts (grid0.coords t) (Memref.whole main_v19) (Memref.isWhole_whole _) (Memref.whole main_v21) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _)

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def tbl : pre0.Contents (Elt F) := fun j => V m (0 : Dev nD) (pre0.ref j)
theorem V_pre (c : Dev nD) (j : Fin 2) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S296 .i32 := Memref.whole main_v19
abbrev htbM0_0 : tbM0_0.IsWhole := Memref.isWhole_whole _
abbrev tbM0_1 : Memref sig .tc .smem S1 .i32 := Memref.whole main_v21
abbrev htbM0_1 : tbM0_1.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      ((h c).1 0).trans (((dats 0 c).arrAt_in 0 rfl _).trans ((hA c 0).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

abbrev VO0_4 : View sig .tc .vmem S512x1024 .f32 := (Memref.whole cc0_stg4_0 : Memref sig .tc .vmem S512x1024 .f32).view
abbrev ms0_0 (hO : Ok m) (t : Fin (cfgM m hO).N) : Memref sig .tc .vmem S512x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x2816 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x2816 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x2816x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev scM0_0 : Memref sig .tc .vmem S512x1024 .f32 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The word of the used-tiles table, as the body reads it. -/
def nw0 (c : Dev nD) (xt1 : TbBuf0 (F := F) c tbM0_1) : BitVec 32 :=
  View.readAt (Elt F) tbM0_1.view (Rect.unit (s := S1) ![0] S1.size inb_S1_S1_0).toLoadRect xt1 (Shape.Idx.first (by decide))

/-- The second branch is taken exactly when the first is not. -/
theorem cond2_iff (i : grid0.Coords) (w : BitVec 32) : k0_cond2 i w = 1#1 ↔ ¬ k0_cond1 i w = 1#1 := by
  have key : ∀ b : BitVec 1, (Scalar.cmpi .ne (Scalar.extui (Scalar.xori b 1#1) : BitVec 32) 0#32 = 1#1)
      ↔ ¬ (Scalar.cmpi .ne (Scalar.extui b : BitVec 32) 0#32 = 1#1) := by decide
  exact key _

end Cert.Kernel3Ideal.Gen

end
-- ==== Proof.ETab.lean ====
/- The host code's tables of the row counts: the expert of every tile and the number of tiles in use. -/
module

public import proofs.«01_k».proof.Proof.ERuns
public import Idealize.ShloMosaic.Lib.StableHlo.RunRead
public import Idealize.ShloMosaic.Lib.Routing.Words
public import Idealize.ShloMosaic.Lib.Routing.Ops

@[expose] public section

set_option maxRecDepth 16384

noncomputable section

namespace Cert.Kernel3Ideal.Tab

open Idealize.ShloMosaic Idealize.ShloMosaic.TcCoe Idealize.ShloMosaic.Tactic Idealize.ShloMosaic.StableHlo
open Idealize.ShloMosaic.Routing Idealize.ShloMosaic.ValueIdx

variable {F : FTy → Type} [FloatOps F]
variable (m : (ℓ : Loc nD τ sig) → Buf (Elt F) ℓ)

open Cert.Kernel3Ideal.Gen

/-- The numbers of rows, each made a multiple of the tile. -/
def padW (x : IVec S8 32) : IVec S8 32 :=
  muli (pyDiv bcast_S_S8 (subi (addi x (broadcastInDim S8 ![] bcast_S_S8 (constantI S_ 32 512#32)))
    (broadcastInDim S8 ![] bcast_S_S8 (constantI S_ 32 1#32))) (constantI S_ 32 512#32))
    (broadcastInDim S8 ![] bcast_S_S8 (constantI S_ 32 512#32))

/-- Where each expert's slots end. -/
def endsW (x : IVec S8 32) : IVec S8 32 :=
  Host.reduceWindow IntOp.addi ![8] ![1] ![7] ![0] (padW x) (broadcastInDim S_ ![] bcast_S_S_ (constantI S_ 32 0#32)) reduceWindows_S8_S8_w8s1p7_0 h_S_

/-- The expert of each tile. -/
def tileW (x : IVec S8 32) : IVec S296 32 :=
  minsi (Host.reduce IntOp.addi (extui 32 (cmpi .sge
      (broadcastInDim S296x8 ![0, 1] bcast_S296x1_S296x8_0_1 (broadcastInDim S296x1 ![0] bcast_S296_S296x1_0
        (muli (iotaInDim S296 32 0) (broadcastInDim S296 ![] bcast_S_S296 (constantI S_ 32 512#32)))))
      (broadcastInDim S296x8 ![0, 1] bcast_S1x8_S296x8_0_1 (broadcastInDim S1x8 ![1] bcast_S8_S1x8_1 (endsW x)))) natLt_1_32)
      (constantI S_ 32 0#32) reducesTo_S296x8_S296_d1 h_S_)
    (broadcastInDim S296 ![] bcast_S_S296 (constantI S_ 32 7#32))

/-- The number of used tiles. -/
def usedW (x : IVec S8 32) : IVec S1 32 :=
  pyDiv bcast_S_S1 (extractStridedSlice S1 ![7] (endsW x) slices_S8_S1_7) (constantI S_ 32 512#32)

/-- The table of the tiles' experts, as the call finds it. -/
theorem V_tile (c : Dev nD) : V m c main_v19 = tileW (m ((c : Thread nD τ).loc main_arg0)) := by
  unfold_abbrev_sides
  after_reads_simp
  simp -implicitDefEqProofs only [StableHlo.TRef.ofBuf_toBuf, StableHlo.TRef.toBuf, StableHlo.TRef.ofBuf, cast_eq, id_eq]
  unfold tileW endsW padW pyDiv
  rfl

/-- The table of the used tiles, as the call finds it. -/
theorem V_used (c : Dev nD) : V m c main_v21 = usedW (m ((c : Thread nD τ).loc main_arg0)) := by
  unfold_abbrev_sides
  after_reads_simp
  simp -implicitDefEqProofs only [StableHlo.TRef.ofBuf_toBuf, StableHlo.TRef.toBuf, StableHlo.TRef.ofBuf, cast_eq, id_eq]
  unfold usedW endsW padW pyDiv
  rfl

end Cert.Kernel3Ideal.Tab

end
-- ==== Proof.EInt.lean ====
/- The numbers behind the tables: the slots of every expert, where they end, how many tiles are in use; and what the precondition says of them. -/
module

public import proofs.«01_k».proof.Proof.ETab
public import proofs.«01_k».proof.Proof.Gen.Pre_rows_routed
public import Idealize.ShloMosaic.Lib.StableHlo.Predicate

@[expose] public section

set_option maxRecDepth 16384

noncomputable section

namespace Cert.Kernel3Ideal.Tab

open Idealize.ShloMosaic Idealize.ShloMosaic.Routing Idealize.ShloMosaic.ValueIdx
open Cert.Kernel3Ideal.Gen

/-- The number of rows of expert `e`. -/
def cnt (x : IVec S8 32) (e : ℕ) : ℕ := if h : e < 8 then (x (ix1 ⟨e, h⟩)).toNat else 0

/-- The number of slots of expert `e`. -/
def pad (x : IVec S8 32) (e : ℕ) : ℕ := (cnt x e + 511) / 512 * 512

/-- The number of slots of the first `j` experts. -/
def ends (x : IVec S8 32) (j : ℕ) : ℕ := ((List.range j).map (pad x)).sum

/-- The number of tiles in use. -/
def used (x : IVec S8 32) : ℕ := ends x 8 / 512

/-- The expert of tile `t`. -/
def te (x : IVec S8 32) (t : ℕ) : ℕ := min (Nat.count (fun q => ends x (q + 1) ≤ 512 * t) 8) 7

/-- The counts of a batch of rows, every row with two experts. -/
structure Routed (x : IVec S8 32) : Prop where
  le : ∀ e, cnt x e ≤ 147456
  sum : ((List.range 8).map (cnt x)).sum = 147456

theorem cnt_at (x : IVec S8 32) (e : Fin 8) : x (ix1 e) = BitVec.ofNat 32 (cnt x e.val) := by
  unfold cnt; rw [dif_pos e.isLt, BitVec.ofNat_toNat, BitVec.setWidth_eq]

theorem ends_succ (x : IVec S8 32) (j : ℕ) : ends x (j + 1) = ends x j + pad x j := by
  unfold ends; rw [List.range_succ, List.map_append, List.sum_append]; simp

theorem ends_dvd (x : IVec S8 32) (j : ℕ) : 512 ∣ ends x j := by
  induction j with
  | zero => exact ⟨0, rfl⟩
  | succ j ih => rw [ends_succ]; exact dvd_add ih (Dvd.intro_left _ rfl)

theorem ends_mono (x : IVec S8 32) {i j : ℕ} (h : i ≤ j) : ends x i ≤ ends x j := by
  induction j, h using Nat.le_induction with
  | base => exact le_rfl
  | succ j _ ih => rw [ends_succ]; omega

variable {x : IVec S8 32}

theorem pad_le (x : IVec S8 32) (e : ℕ) : pad x e ≤ cnt x e + 511 := by unfold pad; omega
theorem le_pad (x : IVec S8 32) (e : ℕ) : cnt x e ≤ pad x e := by unfold pad; omega

theorem ends_8 (h : Routed x) : 147456 ≤ ends x 8 ∧ ends x 8 ≤ 151552 := by
  have hs := h.sum
  have hl := fun e => le_pad x e
  have hu := fun e => pad_le x e
  unfold ends
  simp only [List.range_succ, List.range_zero, List.nil_append, List.map_append, List.map_cons, List.map_nil, List.sum_append, List.sum_cons,
    List.sum_nil, List.cons_append, List.map_cons] at hs ⊢
  have := hl 0; have := hl 1; have := hl 2; have := hl 3; have := hl 4; have := hl 5; have := hl 6; have := hl 7
  have := hu 0; have := hu 1; have := hu 2; have := hu 3; have := hu 4; have := hu 5; have := hu 6; have := hu 7
  omega

theorem used_bounds (h : Routed x) : 1 ≤ used x ∧ used x ≤ 296 := by
  have := ends_8 h; unfold used; omega

theorem ends_le (h : Routed x) {j : ℕ} (hj : j ≤ 8) : ends x j ≤ 151552 := (ends_mono x hj).trans (ends_8 h).2

theorem padW_at (h : Routed x) (e : Fin 8) : padW x (ix1 e) = BitVec.ofNat 32 (pad x e.val) := by
  have hc := h.le e.val
  unfold padW pad
  rw [muli_ap, pyDiv_ap (a := cnt x e.val + 511) (b := 512) _ _ _ _ ?_ rfl (by omega) (by omega) (by omega)]
  · rw [show broadcastInDim S8 ![] bcast_S_S8 (constantI S_ 32 512#32) (ix1 e) = BitVec.ofNat 32 512 from rfl, ← BitVec.ofNat_mul]
  · rw [subi_ap, addi_ap, cnt_at x e]
    show BitVec.ofNat 32 (cnt x e.val) + BitVec.ofNat 32 512 - BitVec.ofNat 32 1 = _
    rw [← BitVec.ofNat_add, ofNat32_sub (by omega), show cnt x e.val + 512 - 1 = cnt x e.val + 511 by omega]

theorem endsW_at (h : Routed x) (e : Fin 8) : endsW x (ix1 e) = BitVec.ofNat 32 (ends x (e.val + 1)) :=
  cumsum1 (N := 8) (Nm1 := 7) rfl (padW x) (pad x) (padW_at h) _ rfl _ _ e

theorem usedW_at (h : Routed x) : usedW x (ix1 (0 : Fin 1)) = BitVec.ofNat 32 (used x) := by
  have hb := ends_8 h
  unfold usedW
  refine pyDiv_ap _ _ _ _ ?_ rfl (by omega) (by omega) (by omega)
  exact (slice1 (m := 8) (n := 1) 7 (endsW x) slices_S8_S1_7 0 (by decide)).trans (endsW_at h 7)

theorem tileW_at (h : Routed x) (t : Fin 296) : tileW x (ix1 t) = BitVec.ofNat 32 (te x t.val) := by
  unfold tileW te
  have hc : Host.reduce IntOp.addi (extui 32 (cmpi .sge
      (broadcastInDim S296x8 ![0, 1] bcast_S296x1_S296x8_0_1 (broadcastInDim S296x1 ![0] bcast_S296_S296x1_0
        (muli (iotaInDim S296 32 0) (broadcastInDim S296 ![] bcast_S_S296 (constantI S_ 32 512#32)))))
      (broadcastInDim S296x8 ![0, 1] bcast_S1x8_S296x8_0_1 (broadcastInDim S1x8 ![1] bcast_S8_S1x8_1 (endsW x)))) natLt_1_32)
      (constantI S_ 32 0#32) reducesTo_S296x8_S296_d1 h_S_ (ix1 t)
      = BitVec.ofNat 32 (Nat.count (fun q => ends x (q + 1) ≤ 512 * t.val) 8) := by
    refine reduce_count (n := 296) (m := 8) (by decide) _ natLt_1_32 reducesTo_S296x8_S296_d1 h_S_ t _ fun q => ?_
    have hq := endsW_at h q
    have hb := ends_le h (j := q.val + 1) (by omega)
    have ht := t.isLt
    show IntOp.cmpi .sge _ _ = 1#1 ↔ _
    rw [bcRows (n := 296) (m := 8) bcast_S296_S296x1_0 bcast_S296x1_S296x8_0_1,
      bcCols (n := 296) (m := 8) bcast_S8_S1x8_1 bcast_S1x8_S296x8_0_1, hq]
    rw [show muli (iotaInDim S296 32 0) (broadcastInDim S296 ![] bcast_S_S296 (constantI S_ 32 512#32)) (ix1 t)
      = BitVec.ofNat 32 t.val * BitVec.ofNat 32 512 from rfl, ← BitVec.ofNat_mul]
    rw [StableHlo.Predicate.sge_iff_toNat (by rw [BitVec.toNat_ofNat, Nat.mod_eq_of_lt (by omega)]; omega)
      (by rw [BitVec.toNat_ofNat, Nat.mod_eq_of_lt (by omega)]; omega), BitVec.toNat_ofNat, BitVec.toNat_ofNat,
      Nat.mod_eq_of_lt (by omega), Nat.mod_eq_of_lt (by omega), Nat.mul_comm]
  have hle := Nat.count_le (p := fun q => ends x (q + 1) ≤ 512 * t.val) (n := 8)
  show IntOp.minsi _ (BitVec.ofNat 32 7) = _
  rw [hc]
  generalize Nat.count (fun q => ends x (q + 1) ≤ 512 * t.val) 8 = k at hle ⊢
  interval_cases k <;> decide

/-- The precondition, read off its words. -/
theorem routed_of_pre {F : FTy → Type} [FloatOps F] (x : IVec S8 32) (a : FVec F S151552x1024 .f32)
    (b c : FVec F S8x1024x2816 .f32) (d : FVec F S8x2816x1024 .f32)
    (h1 : (Cert.Pre_rows_routed.fn (F := F) x a b c d).1 = fun _ => 1#1)
    (h2 : (Cert.Pre_rows_routed.fn (F := F) x a b c d).2.1 = fun _ => 1#1)
    (h3 : (Cert.Pre_rows_routed.fn (F := F) x a b c d).2.2 = fun _ => 1#1) : Routed x := by
  have hle : ∀ e, cnt x e ≤ 147456 := fun e => by
    by_cases he : e < 8
    · have a1 : IntOp.cmpi .sge (x (ix1 ⟨e, he⟩)) 0#32 = 1#1 := congrFun h1 (ix1 ⟨e, he⟩)
      have a2 : IntOp.cmpi .sle (x (ix1 ⟨e, he⟩)) 147456#32 = 1#1 := congrFun h2 (ix1 ⟨e, he⟩)
      unfold cnt; rw [dif_pos he]
      generalize x (ix1 ⟨e, he⟩) = w at a1 a2 ⊢
      have key : ∀ b : Bool, BitVec.ofBool b = 1#1 → b = true := by decide
      have b1 : (0#32 : BitVec 32).toInt ≤ w.toInt := of_decide_eq_true (key _ a1)
      have b2 : w.toInt ≤ (147456#32 : BitVec 32).toInt := of_decide_eq_true (key _ a2)
      have e0 : (0#32 : BitVec 32).toInt = 0 := by decide
      have e1 : (147456#32 : BitVec 32).toInt = 147456 := by decide
      rw [e0] at b1; rw [e1] at b2
      rw [BitVec.toInt_eq_toNat_cond] at b1 b2
      split at b1 <;> omega
    · unfold cnt; rw [dif_neg he]; omega
  refine ⟨hle, ?_⟩
  have h := congrFun h3 ValueIdx.ix0
  have hs : Host.reduce IntOp.addi x (constantI S_ 32 0#32) Cert.Pre_rows_routed.Gen.reducesTo_S8_S_d0 Cert.Pre_rows_routed.Gen.h_S_ ValueIdx.ix0
      = BitVec.ofNat 32 ((List.range 8).map (cnt x)).sum := reduce_sum (N := 8) x (cnt x) (cnt_at x) _ _
  have hb : ((List.range 8).map (cnt x)).sum ≤ 8 * 147456 := by
    simp only [List.range_succ, List.range_zero, List.nil_append, List.map_append, List.map_cons, List.map_nil, List.sum_append, List.sum_cons,
      List.sum_nil, List.cons_append, List.map_cons]
    have := hle 0; have := hle 1; have := hle 2; have := hle 3; have := hle 4; have := hle 5; have := hle 6; have := hle 7
    omega
  have h' : IntOp.cmpi .eq (BitVec.ofNat 32 ((List.range 8).map (cnt x)).sum) 147456#32 = 1#1 := by
    rw [← hs]; exact h
  generalize ((List.range 8).map (cnt x)).sum = k at hb h'
  have h'' : BitVec.ofNat 32 k = 147456#32 :=
    eq_of_beq ((by decide : ∀ b : Bool, BitVec.ofBool b = 1#1 → b = true) _ h')
  have := congrArg BitVec.toNat h''
  rw [BitVec.toNat_ofNat, BitVec.toNat_ofNat, Nat.mod_eq_of_lt (by omega)] at this
  exact this

end Cert.Kernel3Ideal.Tab

end
-- ==== Proof.ERunA.lean ====
/- The body's run at a grid point whose tile is in use. -/
module

public import proofs.«01_k».proof.Proof.ERuns

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a used tile: the pieces it stores into the output block and into the scratch, and its triple. -/
noncomputable def kernelRun0_A (c : Dev nD) (i : grid0.Coords) (arg3 : Memref sig .tc .vmem S512x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S512x1024 .f32) (harg7 : arg7.IsWhole) (arg8 : Memref sig .tc .vmem S512x1024 .f32) (harg8 : arg8.IsWhole)
    (x0 : Vec F S512x1024 .f32) (x1 : Vec F S1x1024x2816 .bf16) (x2 : Vec F S1x1024x2816 .bf16) (x3 : Vec F S1x2816x1024 .bf16) (xt0 : TbBuf0 (F := F) c tbM0_0) (xt1 : TbBuf0 (F := F) c tbM0_1)
    (hc1 : k0_cond1 i (nw0 c xt1) = 1#1) (hc2 : ¬ k0_cond2 i (nw0 c xt1) = 1#1) :
    Σ' (L4 : List (View.Piece (Elt F) S512x1024 .f32)), { LT0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LT0) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8) K } := by
  refine ⟨?_, ?_, fun E K => ?run⟩
  case run =>
    simp only [cc0_moe_experts_eq_skeleton]; unfold cc0_moe_experts_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, HT0, HT1, Hk⟩
    obtain rfl := harg3.eq_unread hf0; obtain rfl := harg4.eq_unread hf1; obtain rfl := harg5.eq_unread hf2; obtain rfl := harg6.eq_unread hf3
    sl_exec (disch := first | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HT0]; · iexact HT0
    iexact HT1

end Cert.Kernel3Ideal.Gen

end
-- ==== Proof.ERunB.lean ====
/- The body's run at a grid point whose tile is not in use. -/
module

public import proofs.«01_k».proof.Proof.ERunA

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at an unused tile: zeros into the output block, and its triple. -/
noncomputable def kernelRun0_B (c : Dev nD) (i : grid0.Coords) (arg3 : Memref sig .tc .vmem S512x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S512x1024 .f32) (harg7 : arg7.IsWhole) (arg8 : Memref sig .tc .vmem S512x1024 .f32) (harg8 : arg8.IsWhole)
    (x0 : Vec F S512x1024 .f32) (x1 : Vec F S1x1024x2816 .bf16) (x2 : Vec F S1x1024x2816 .bf16) (x3 : Vec F S1x2816x1024 .bf16) (xt0 : TbBuf0 (F := F) c tbM0_0) (xt1 : TbBuf0 (F := F) c tbM0_1)
    (hc1 : ¬ k0_cond1 i (nw0 c xt1) = 1#1) (hc2 : k0_cond2 i (nw0 c xt1) = 1#1) :
    { L4 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ d, owns (c : Thread nD τ) arg8 fullShare d) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8) K } := by
  refine ⟨?_, fun E K => ?run⟩
  case run =>
    simp only [cc0_moe_experts_eq_skeleton]; unfold cc0_moe_experts_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, HT0, HT1, Hk⟩
    obtain rfl := harg3.eq_unread hf0; obtain rfl := harg4.eq_unread hf1; obtain rfl := harg5.eq_unread hf2; obtain rfl := harg6.eq_unread hf3
    sl_exec (disch := first | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]
    · iexists _; iexists fs0; isplitr; · ipureintro; rfl
      iexact HS0
    isplitl [HT0]; · iexact HT0
    iexact HT1

end Cert.Kernel3Ideal.Gen

end
-- ==== Proof.EFrame.lean ====
/- The experts' kernel at every grid point: the pipeline's data, and the body's triple at a point that computes and at one that writes zeros. -/
module

public import proofs.«01_k».proof.Proof.ERunB
public import Idealize.ShloMosaic.Lib.Claim

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores at a used tile cover the output block. -/
theorem cover0_A_4 (c : Dev nD) (i : grid0.Coords) (arg3 : Memref sig .tc .vmem S512x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S512x1024 .f32) (harg7 : arg7.IsWhole) (arg8 : Memref sig .tc .vmem S512x1024 .f32) (harg8 : arg8.IsWhole)
    (x0 : Vec F S512x1024 .f32) (x1 : Vec F S1x1024x2816 .bf16) (x2 : Vec F S1x1024x2816 .bf16) (x3 : Vec F S1x2816x1024 .bf16) (xt0 : TbBuf0 (F := F) c tbM0_0) (xt1 : TbBuf0 (F := F) c tbM0_1)
    (hc1 : k0_cond1 i (nw0 c xt1) = 1#1) (hc2 : ¬ k0_cond2 i (nw0 c xt1) = 1#1) (y : S512x1024.Idx) :
    ∃ pc ∈ (kernelRun0_A c i arg3 harg3 arg4 harg4 arg5 harg5 arg6 harg6 arg7 harg7 arg8 harg8 x0 x1 x2 x3 xt0 xt1 hc1 hc2).1, y ∈ pc.1.set :=
  View.cover_of_tiledL (kernelRun0_A c i arg3 harg3 arg4 harg4 arg5 harg5 arg6 harg6 arg7 harg7 arg8 harg8 x0 x1 x2 x3 xt0 xt1 hc1 hc2).1 S512x1024.size (by sl_kernel_rfl) y

/-- The output block at a used tile. -/
def out0_A_4 (c : Dev nD) (i : grid0.Coords) (arg3 : Memref sig .tc .vmem S512x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S512x1024 .f32) (harg7 : arg7.IsWhole) (arg8 : Memref sig .tc .vmem S512x1024 .f32) (harg8 : arg8.IsWhole)
    (x0 : Vec F S512x1024 .f32) (x1 : Vec F S1x1024x2816 .bf16) (x2 : Vec F S1x1024x2816 .bf16) (x3 : Vec F S1x2816x1024 .bf16) (xt0 : TbBuf0 (F := F) c tbM0_0) (xt1 : TbBuf0 (F := F) c tbM0_1)
    (hc1 : k0_cond1 i (nw0 c xt1) = 1#1) (hc2 : ¬ k0_cond2 i (nw0 c xt1) = 1#1) : Vec F S512x1024 .f32 :=
  VO0_4.read (Elt F) (VO0_4.writes (Elt F) VO0_4.junk (kernelRun0_A c i arg3 harg3 arg4 harg4 arg5 harg5 arg6 harg6 arg7 harg7 arg8 harg8 x0 x1 x2 x3 xt0 xt1 hc1 hc2).1)

/-- The store at an unused tile covers the output block. -/
theorem cover0_B_4 (c : Dev nD) (i : grid0.Coords) (arg3 : Memref sig .tc .vmem S512x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S512x1024 .f32) (harg7 : arg7.IsWhole) (arg8 : Memref sig .tc .vmem S512x1024 .f32) (harg8 : arg8.IsWhole)
    (x0 : Vec F S512x1024 .f32) (x1 : Vec F S1x1024x2816 .bf16) (x2 : Vec F S1x1024x2816 .bf16) (x3 : Vec F S1x2816x1024 .bf16) (xt0 : TbBuf0 (F := F) c tbM0_0) (xt1 : TbBuf0 (F := F) c tbM0_1)
    (hc1 : ¬ k0_cond1 i (nw0 c xt1) = 1#1) (hc2 : k0_cond2 i (nw0 c xt1) = 1#1) (y : S512x1024.Idx) :
    ∃ pc ∈ (kernelRun0_B c i arg3 harg3 arg4 harg4 arg5 harg5 arg6 harg6 arg7 harg7 arg8 harg8 x0 x1 x2 x3 xt0 xt1 hc1 hc2).1, y ∈ pc.1.set :=
  View.cover_of_tiledL (kernelRun0_B c i arg3 harg3 arg4 harg4 arg5 harg5 arg6 harg6 arg7 harg7 arg8 harg8 x0 x1 x2 x3 xt0 xt1 hc1 hc2).1 S512x1024.size (by sl_kernel_rfl) y

/-- The output block at an unused tile. -/
def out0_B_4 (c : Dev nD) (i : grid0.Coords) (arg3 : Memref sig .tc .vmem S512x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S512x1024 .f32) (harg7 : arg7.IsWhole) (arg8 : Memref sig .tc .vmem S512x1024 .f32) (harg8 : arg8.IsWhole)
    (x0 : Vec F S512x1024 .f32) (x1 : Vec F S1x1024x2816 .bf16) (x2 : Vec F S1x1024x2816 .bf16) (x3 : Vec F S1x2816x1024 .bf16) (xt0 : TbBuf0 (F := F) c tbM0_0) (xt1 : TbBuf0 (F := F) c tbM0_1)
    (hc1 : ¬ k0_cond1 i (nw0 c xt1) = 1#1) (hc2 : k0_cond2 i (nw0 c xt1) = 1#1) : Vec F S512x1024 .f32 :=
  VO0_4.read (Elt F) (VO0_4.writes (Elt F) VO0_4.junk (kernelRun0_B c i arg3 harg3 arg4 harg4 arg5 harg5 arg6 harg6 arg7 harg7 arg8 harg8 x0 x1 x2 x3 xt0 xt1 hc1 hc2).1)

variable (m : (ℓ : Loc nD τ sig) → Buf (Elt F) ℓ) (ρ : Dev nD → PrngReg)

/-- Whether the tile of grid point `t` is a used one. -/
abbrev Live (c : Dev nD) (t : Fin grid0.N) : Prop := k0_cond1 (grid0.coords t) (nw0 (F := F) c (tbl m 1)) = 1#1

theorem live_not {c : Dev nD} {t : Fin grid0.N} (h : Live m c t) : ¬ k0_cond2 (grid0.coords t) (nw0 (F := F) c (tbl m 1)) = 1#1 :=
  fun h2 => (cond2_iff _ _).mp h2 h
theorem dead_cond {c : Dev nD} {t : Fin grid0.N} (h : ¬ Live m c t) : k0_cond2 (grid0.coords t) (nw0 (F := F) c (tbl m 1)) = 1#1 :=
  (cond2_iff _ _).mpr h

/-- The output block after point `t`. -/
def outsAt0 (hO : Ok m) (c : Dev nD) (t : Fin (cfgM m hO).N) : Vec F S512x1024 .f32 :=
  if h : Live m c t then out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (iblk m hO c 0 t) (iblk m hO c 1 t) (iblk m hO c 2 t) (iblk m hO c 3 t) (tbl m 0) (tbl m 1) h (live_not m h)
  else out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (iblk m hO c 0 t) (iblk m hO c 1 t) (iblk m hO c 2 t) (iblk m hO c 3 t) (tbl m 0) (tbl m 1) h (dead_cond m h)

/-- The data of the pipeline: the arrays as the region finds them, each input block kept, the output block at `outsAt0`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t)
  Φ _ := iprop(Pipeline.ΦA spec0 c ∗ Pipeline.ΦT pre0 (tbl m) c)
  q _ := fullShare
  owed _ := 0

/-- The arrays are those the region finds. -/
theorem A_eq (hO : Ok m) (c : Dev nD) (w : Fin (cfgM m hO).W) : (dats m hO 0 c).A w = V m c (Pipeline.arrRef spec0 w) := by
  dsimp only [dats]

/-- What each window holds after the body. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t) := by dsimp only [dats]; try rfl

/-- What each input window holds before the body. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-- What the body is given at point `t`. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- What the body gives back at point `t`. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

/-- The body at any point, by the two cases. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq, PhiA0_eq]
  unfold outsAt0
  by_cases h : Live m c t
  · rw [dif_pos h]
    unfold out0_A_4
    iintro ⟨⟨⟨HS0, Hg⟩, ⟨HT0, HT1⟩⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ (iblk m hO c 0 t) (iblk m hO c 1 t) (iblk m hO c 2 t) (iblk m hO c 3 t) (tbl m 0) (tbl m 1) h (live_not m h)).2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HT0]; · iexact HT0
    isplitl [HT1]; · iexact HT1
    iintro ⟨H0, H1, H2, H3, ⟨%e4, H4⟩, ⟨%fT0, HS0⟩, HT0, HT1⟩
    isplitl [HS0 Hg HT0 HT1]
    · isplitl [HS0 Hg]
      · isplitl [HS0]
        · iexists _; unfold owns; iexists _; isplitr
          swap; · iexact HS0
          ipureintro; rfl
        iexact Hg
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _ _ _ _ h (live_not m h))
  · rw [dif_neg h]
    unfold out0_B_4
    iintro ⟨⟨⟨HS0, Hg⟩, ⟨HT0, HT1⟩⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (iblk m hO c 0 t) (iblk m hO c 1 t) (iblk m hO c 2 t) (iblk m hO c 3 t) (tbl m 0) (tbl m 1) h (dead_cond m h)).2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HT0]; · iexact HT0
    isplitl [HT1]; · iexact HT1
    iintro ⟨H0, H1, H2, H3, ⟨%e4, H4⟩, HS0, HT0, HT1⟩
    isplitl [HS0 Hg HT0 HT1]
    · isplitl [HS0 Hg]
      · isplitl [HS0]
        · iexact HS0
        iexact Hg
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _ _ h (dead_cond m h))

/-- The body of the pipeline at point `t`. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- One of the two branches is taken. -/
theorem not_idle (i : grid0.Coords) (w : BitVec 32) : (!(k0_cond1 i w == 1#1) && !(k0_cond2 i w == 1#1)) = false := by
  have h := cond2_iff i w
  generalize k0_cond1 i w = p at h ⊢
  generalize k0_cond2 i w = q at h ⊢
  revert p q; decide

/-- The output window is stored into at every point. -/
theorem idle_4 (a : (pcfg0 (F := F)).Adm) (i : grid0.Coords) : (cfg0 a).idle (4 : Fin 5) i = false := by
  have h : ∀ pf : pre0.Contents (Elt F), idle0 pf (4 : Fin 5) i = false := fun pf => not_idle i (pf.atD 1 ![0])
  exact h a.1

end Cert.Kernel3Ideal.Gen

end
-- ==== Proof.ELaunch.lean ====
/- The experts' program as a whole: it runs to its end, its arguments unchanged and every counter at zero. -/
module

public import proofs.«01_k».proof.Proof.EFrame
public import Idealize.ShloMosaic.Lib.Claim

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's triple at every point is the pipeline's obligation. -/
theorem obligation_of (a : (pcfg0 (F := F)).Adm) {c : Dev nD} (dat : Dat τ (Elt F) Unit ℕ (UR sig nD τ) ℕ (cfg0 a) c)
    (h : ∀ t : Fin (cfg0 a).N, iprop(dat.Φ t.castSucc ∗ dat.owesAt () t.castSucc ∗ (∃ d, owns (c : Thread nD τ) (spec0_0.stage ((cfg0 a).slots t 0)) fullShare (dat.before 0 t d)) ∗ (∃ d, owns (c : Thread nD τ) (spec0_1.stage ((cfg0 a).slots t 1)) fullShare (dat.before 1 t d)) ∗ (∃ d, owns (c : Thread nD τ) (spec0_2.stage ((cfg0 a).slots t 2)) fullShare (dat.before 2 t d)) ∗ (∃ d, owns (c : Thread nD τ) (spec0_3.stage ((cfg0 a).slots t 3)) fullShare (dat.before 3 t d)) ∗ (∃ d, owns (c : Thread nD τ) (spec0_4.stage ((cfg0 a).slots t 4)) fullShare (dat.before 4 t d)))
      ⊢ wp frame (wpE (defs₀ (F := F)) Variants.none c none) Set.univ (bodyAt0 a t)
        (fun _ => iprop(dat.Φ t.succ ∗ dat.owesAt () t.succ ∗ owns (c : Thread nD τ) (spec0_0.stage ((cfg0 a).slots t 0)) fullShare (dat.after 0 t) ∗ owns (c : Thread nD τ) (spec0_1.stage ((cfg0 a).slots t 1)) fullShare (dat.after 1 t) ∗ owns (c : Thread nD τ) (spec0_2.stage ((cfg0 a).slots t 2)) fullShare (dat.after 2 t) ∗ owns (c : Thread nD τ) (spec0_3.stage ((cfg0 a).slots t 3)) fullShare (dat.after 3 t) ∗ owns (c : Thread nD τ) (spec0_4.stage ((cfg0 a).slots t 4)) fullShare (dat.after 4 t)))) :
    BodyObligation dat (defs₀ (F := F)) Variants.none () Set.univ := fun t => by
  have hrow : defs₀ (F := F) .tc (cfg0 a).body ((cfg0 a).bodyArgs t ((cfg0 a).slots t)) = bodyAt0 a t := by
    unfold defs₀; rw [Defs.onTc_tc]
  rw [bigSep_W0, bigSep_W0, hrow]
  refine triple_restated (h t) rfl .rfl fun _ => ?_
  have h4 : idle0 a.1 (4 : Fin 5) ((pcfg0.gridAt a.1).coords t) = false := idle_4 a (grid0.coords t)
  iintro ⟨HΦ, Ho, H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  dsimp only
  rw [h4]
  iexact H4

/-- The obligation of the pipeline at every point. -/
theorem body_obligation (hO : Ok m) (c : Dev nD) : BodyObligation (dats (F := F) m hO 0 c) (defs₀ (F := F)) Variants.none () Set.univ :=
  obligation_of (adm m hO) (dats m hO 0 c) (sound_body m hO c)

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The whole program runs to the arrays the pipeline data describe. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The arguments end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- The arguments end unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.Kernel3Ideal.Gen

end
-- ==== Proof.EOk.lean ====
/- The blocks that the tables pick lie in their arrays, and a point computes exactly when its tile is in use. -/
module

public import proofs.«01_k».proof.Proof.EInt
public import proofs.«01_k».proof.Proof.ELaunch

@[expose] public section

set_option maxRecDepth 16384

noncomputable section

namespace Cert.Kernel3Ideal.Tab

open Idealize.ShloMosaic Idealize.ShloMosaic.TcCoe Idealize.ShloMosaic.Routing
open Cert.Kernel3Ideal.Gen

variable {F : FTy → Type} [FloatOps F]

/-- Tables holding the tiles' experts and the number of used tiles. -/
structure Holds (pf : pre0.Contents (Elt F)) (x : IVec S8 32) : Prop where
  tile : ∀ t : Fin 296, (pf 0 : IVec S296 32) (ValueIdx.ix1 t) = BitVec.ofNat 32 (te x t.val)
  used : (pf 1 : IVec S1 32) (ValueIdx.ix1 (0 : Fin 1)) = BitVec.ofNat 32 (used x)

variable {pf : pre0.Contents (Elt F)} {x : IVec S8 32}

theorem te_le (x : IVec S8 32) (t : ℕ) : te x t ≤ 7 := by unfold te; omega

/-- The word the index map of the rows reads. -/
theorem at_used (hp : Holds pf x) : pf.at 1 (Rect.unit (s := S1) ![0] S1.size inb_S1_S1_0) numel1_S1 = BitVec.ofNat 32 (used x) := by
  refine Eq.trans (congrArg (pf 1 : IVec S1 32) ?_) hp.used
  exact funext fun a => by fin_cases a; exact Subsingleton.elim (α := Fin 1) _ _

/-- The word the index maps of the weights read. -/
theorem at_tile (hp : Holds pf x) (i : grid0.Coords) :
    pf.at 0 (Rect.unit (s := S296) ![(Scalar.indexCast (BitVec.ofNat 32 (i 0).val)).toNat] S1.size (k0_off1_inb i)) numel1_S1 = BitVec.ofNat 32 (te x (i 0).val) := by
  refine Eq.trans (congrArg (pf 0 : IVec S296 32) ?_) (hp.tile (i 0))
  refine funext fun a => ?_
  fin_cases a
  apply Fin.ext
  have hi : (i 0).val < 296 := (i 0).isLt
  show (BitVec.ofNat 32 (i 0).val).toNat + 1 * 0 = (i 0).val
  rw [BitVec.toNat_ofNat, Nat.mod_eq_of_lt (by omega)]; omega

/-- The block of rows read at a point: the point's own, the last used one past it. -/
theorem index_0 (h : Routed x) (hp : Holds pf x) (i : grid0.Coords) :
    cc0_transform_0 inb_S1_S1_0 numel1_S1 pf i = ![min (i 0).val (used x - 1), 0] := by
  have hu := used_bounds h
  have hi : (i 0).val < 296 := (i 0).isLt
  have e : (Scalar.minsi (BitVec.ofNat 32 (i 0).val) (Scalar.subi (BitVec.ofNat 32 (used x)) 1#32)).toNat = min (i 0).val (used x - 1) := by
    show (IntOp.minsi (BitVec.ofNat 32 (i 0).val) (BitVec.ofNat 32 (used x) - BitVec.ofNat 32 1)).toNat = _
    rw [ofNat32_sub (by omega)]
    generalize (i 0).val = a at hi ⊢
    have hb : used x - 1 < 296 := by omega
    generalize used x - 1 = b at hb ⊢
    have hs : (BitVec.ofNat 32 a).slt (BitVec.ofNat 32 b) = decide (a < b) := by
      rw [BitVec.slt, BitVec.toInt_eq_toNat_cond, BitVec.toInt_eq_toNat_cond, BitVec.toNat_ofNat, BitVec.toNat_ofNat,
        Nat.mod_eq_of_lt (by omega), Nat.mod_eq_of_lt (by omega), if_pos (by omega), if_pos (by omega)]
      exact decide_eq_decide.mpr Int.ofNat_lt
    unfold IntOp.minsi
    rw [hs]
    by_cases hab : a < b
    · rw [if_pos (by simpa using hab), BitVec.toNat_ofNat, Nat.mod_eq_of_lt (by omega)]; omega
    · rw [if_neg (by simpa using hab), BitVec.toNat_ofNat, Nat.mod_eq_of_lt (by omega)]; omega
  show ![(Scalar.minsi (BitVec.ofNat 32 (i 0).val) (Scalar.subi (pf.at 1 (Rect.unit (s := S1) ![0] S1.size inb_S1_S1_0) numel1_S1) 1#32)).toNat, 0] = _
  rw [at_used hp, e]

theorem index_w (hp : Holds pf x) (i : grid0.Coords) :
    (pf.at 0 (Rect.unit (s := S296) ![(Scalar.indexCast (BitVec.ofNat 32 (i 0).val)).toNat] S1.size (k0_off1_inb i)) numel1_S1 : BitVec 32).toNat = te x (i 0).val := by
  have := te_le x (i 0).val
  rw [at_tile hp, BitVec.toNat_ofNat, Nat.mod_eq_of_lt (by omega)]

theorem index_1 (hp : Holds pf x) (i : grid0.Coords) : cc0_transform_1 k0_off1_inb numel1_S1 pf i = ![te x (i 0).val, 0, 0] := by
  show ![(pf.at 0 (Rect.unit (s := S296) ![(Scalar.indexCast (BitVec.ofNat 32 (i 0).val)).toNat] S1.size (k0_off1_inb i)) numel1_S1 : BitVec 32).toNat, 0, 0] = _
  rw [index_w hp]

theorem index_2 (hp : Holds pf x) (i : grid0.Coords) : cc0_transform_2 k0_off1_inb numel1_S1 pf i = ![te x (i 0).val, 0, 0] := by
  show ![(pf.at 0 (Rect.unit (s := S296) ![(Scalar.indexCast (BitVec.ofNat 32 (i 0).val)).toNat] S1.size (k0_off1_inb i)) numel1_S1 : BitVec 32).toNat, 0, 0] = _
  rw [index_w hp]

theorem index_3 (hp : Holds pf x) (i : grid0.Coords) : cc0_transform_3 k0_off1_inb numel1_S1 pf i = ![te x (i 0).val, 0, 0] := by
  show ![(pf.at 0 (Rect.unit (s := S296) ![(Scalar.indexCast (BitVec.ofNat 32 (i 0).val)).toNat] S1.size (k0_off1_inb i)) numel1_S1 : BitVec 32).toNat, 0, 0] = _
  rw [index_w hp]

/-- With such tables every block lies in its array. -/
theorem ok_of_holds (h : Routed x) (hp : Holds pf x) : ok0 pf := by
  have hu := used_bounds h
  have ht := te_le x
  refine ⟨fun i => ⟨?_, .inl rfl⟩, fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩⟩
  · rw [index_0 h hp]
    intro a; fin_cases a
    · show (min (i 0).val (used x - 1) + 1) * 512 ≤ 151552; omega
    · exact Nat.le_refl _
  · rw [index_1 hp]
    have := ht (i 0).val
    intro a; fin_cases a
    · show (te x (i 0).val + 1) * 1 ≤ 8; omega
    · exact Nat.le_refl _
    · exact Nat.le_refl _
  · rw [index_2 hp]
    have := ht (i 0).val
    intro a; fin_cases a
    · show (te x (i 0).val + 1) * 1 ≤ 8; omega
    · exact Nat.le_refl _
    · exact Nat.le_refl _
  · rw [index_3 hp]
    have := ht (i 0).val
    intro a; fin_cases a
    · show (te x (i 0).val + 1) * 1 ≤ 8; omega
    · exact Nat.le_refl _
    · exact Nat.le_refl _

variable (m : (ℓ : Loc nD τ sig) → Buf (Elt F) ℓ)

/-- The tables the call finds hold them. -/
theorem holds (c : Dev nD) (h : Routed (m ((c : Thread nD τ).loc main_arg0))) : Holds (tbl m) (m ((c : Thread nD τ).loc main_arg0)) := by
  refine ⟨fun t => ?_, ?_⟩
  · rw [← V_pre m c 0]
    exact (congrFun (V_tile m c) _).trans (tileW_at h t)
  · rw [← V_pre m c 1]
    exact (congrFun (V_used m c) _).trans (usedW_at h)

theorem ok (c : Dev nD) (h : Routed (m ((c : Thread nD τ).loc main_arg0))) : Ok m := ok_of_holds h (holds m c h)

/-- A point computes exactly when its tile is in use. -/
theorem live_iff (c : Dev nD) (h : Routed (m ((c : Thread nD τ).loc main_arg0))) (t : Fin grid0.N) :
    Live m c t ↔ (grid0.coords t 0).val < used (m ((c : Thread nD τ).loc main_arg0)) := by
  have hu := used_bounds h
  have e : nw0 (F := F) c (tbl m 1) = BitVec.ofNat 32 (used (m ((c : Thread nD τ).loc main_arg0))) := by
    refine Eq.trans ?_ (holds m c h).used
    exact congrArg (tbl m 1 : IVec S1 32) (funext fun a => by fin_cases a; exact Subsingleton.elim (α := Fin 1) _ _)
  unfold Live
  rw [e]
  generalize used (m ((c : Thread nD τ).loc main_arg0)) = n at hu ⊢
  have hi : (grid0.coords t 0).val < 296 := (grid0.coords t 0).isLt
  have key : ∀ b : BitVec 1, (Scalar.cmpi .ne (Scalar.extui b : BitVec 32) 0#32 = 1#1) ↔ b = 1#1 := by decide
  refine (key _).trans ?_
  show IntOp.cmpi .slt _ _ = 1#1 ↔ _
  rw [StableHlo.Predicate.slt_iff_toNat (by rw [BitVec.toNat_ofNat, Nat.mod_eq_of_lt (by omega)]; omega)
      (by rw [BitVec.toNat_ofNat, Nat.mod_eq_of_lt (by omega)]; omega), BitVec.toNat_ofNat, BitVec.toNat_ofNat,
      Nat.mod_eq_of_lt (by omega), Nat.mod_eq_of_lt (by omega)]

end Cert.Kernel3Ideal.Tab

end
-- ==== Proof.EKern.lean ====
/- The experts' kernel's block: a tile of 512 slots through one expert's hidden units, chunk by chunk, read at an element. -/
module

public import proofs.«01_k».proof.Proof.EFrame
public import proofs.«01_k».proof.Proof.FSpec
public import Idealize.ShloMosaic.Lib.Pipeline.ValueKit
public import Idealize.ShloMosaic.Lib.Pointwise

@[expose] public section

set_option maxRecDepth 16384

noncomputable section

namespace Cert.Kernel3Ideal.Kern

open Cert.Ffn Cert.Kernel3Ideal Cert.Kernel3Ideal.Gen Idealize.ShloMosaic Idealize.ShloMosaic.TcCoe Idealize.SL.Sem
open scoped BigOperators

/-- One more chunk on what the chunks before gave. -/
def step (h : FVec Ideal S512x1024 .bf16) (a b : Vec Ideal S1x1024x256 .bf16) (w : Vec Ideal S1x256x1024 .bf16) (acc : Vec Ideal S512x1024 .f32) : FVec Ideal S512x1024 .f32 :=
  k0_pay1 h (k0_pay25 h a) b w acc

/-- The block's result: eleven chunks. -/
def block (x : Vec Ideal S512x1024 .f32) (wg wu : Vec Ideal S1x1024x2816 .bf16) (wd : Vec Ideal S1x2816x1024 .bf16) : FVec Ideal S512x1024 .f32 :=
    step (k0_pay3 x) (View.ld wg (Rect.unit (s := S1x1024x2816) ![0, 0, 2560] S1x1024x256.size inb_S1x1024x2816_S1x1024x256_0_0_2560)) (View.ld wu (Rect.unit (s := S1x1024x2816) ![0, 0, 2560] S1x1024x256.size inb_S1x1024x2816_S1x1024x256_0_0_2560)) (View.ld wd (Rect.unit (s := S1x2816x1024) ![0, 2560, 0] S1x256x1024.size inb_S1x2816x1024_S1x256x1024_0_2560_0))
    (step (k0_pay3 x) (View.ld wg (Rect.unit (s := S1x1024x2816) ![0, 0, 2304] S1x1024x256.size inb_S1x1024x2816_S1x1024x256_0_0_2304)) (View.ld wu (Rect.unit (s := S1x1024x2816) ![0, 0, 2304] S1x1024x256.size inb_S1x1024x2816_S1x1024x256_0_0_2304)) (View.ld wd (Rect.unit (s := S1x2816x1024) ![0, 2304, 0] S1x256x1024.size inb_S1x2816x1024_S1x256x1024_0_2304_0))
    (step (k0_pay3 x) (View.ld wg (Rect.unit (s := S1x1024x2816) ![0, 0, 2048] S1x1024x256.size inb_S1x1024x2816_S1x1024x256_0_0_2048)) (View.ld wu (Rect.unit (s := S1x1024x2816) ![0, 0, 2048] S1x1024x256.size inb_S1x1024x2816_S1x1024x256_0_0_2048)) (View.ld wd (Rect.unit (s := S1x2816x1024) ![0, 2048, 0] S1x256x1024.size inb_S1x2816x1024_S1x256x1024_0_2048_0))
    (step (k0_pay3 x) (View.ld wg (Rect.unit (s := S1x1024x2816) ![0, 0, 1792] S1x1024x256.size inb_S1x1024x2816_S1x1024x256_0_0_1792)) (View.ld wu (Rect.unit (s := S1x1024x2816) ![0, 0, 1792] S1x1024x256.size inb_S1x1024x2816_S1x1024x256_0_0_1792)) (View.ld wd (Rect.unit (s := S1x2816x1024) ![0, 1792, 0] S1x256x1024.size inb_S1x2816x1024_S1x256x1024_0_1792_0))
    (step (k0_pay3 x) (View.ld wg (Rect.unit (s := S1x1024x2816) ![0, 0, 1536] S1x1024x256.size inb_S1x1024x2816_S1x1024x256_0_0_1536)) (View.ld wu (Rect.unit (s := S1x1024x2816) ![0, 0, 1536] S1x1024x256.size inb_S1x1024x2816_S1x1024x256_0_0_1536)) (View.ld wd (Rect.unit (s := S1x2816x1024) ![0, 1536, 0] S1x256x1024.size inb_S1x2816x1024_S1x256x1024_0_1536_0))
    (step (k0_pay3 x) (View.ld wg (Rect.unit (s := S1x1024x2816) ![0, 0, 1280] S1x1024x256.size inb_S1x1024x2816_S1x1024x256_0_0_1280)) (View.ld wu (Rect.unit (s := S1x1024x2816) ![0, 0, 1280] S1x1024x256.size inb_S1x1024x2816_S1x1024x256_0_0_1280)) (View.ld wd (Rect.unit (s := S1x2816x1024) ![0, 1280, 0] S1x256x1024.size inb_S1x2816x1024_S1x256x1024_0_1280_0))
    (step (k0_pay3 x) (View.ld wg (Rect.unit (s := S1x1024x2816) ![0, 0, 1024] S1x1024x256.size inb_S1x1024x2816_S1x1024x256_0_0_1024)) (View.ld wu (Rect.unit (s := S1x1024x2816) ![0, 0, 1024] S1x1024x256.size inb_S1x1024x2816_S1x1024x256_0_0_1024)) (View.ld wd (Rect.unit (s := S1x2816x1024) ![0, 1024, 0] S1x256x1024.size inb_S1x2816x1024_S1x256x1024_0_1024_0))
    (step (k0_pay3 x) (View.ld wg (Rect.unit (s := S1x1024x2816) ![0, 0, 768] S1x1024x256.size inb_S1x1024x2816_S1x1024x256_0_0_768)) (View.ld wu (Rect.unit (s := S1x1024x2816) ![0, 0, 768] S1x1024x256.size inb_S1x1024x2816_S1x1024x256_0_0_768)) (View.ld wd (Rect.unit (s := S1x2816x1024) ![0, 768, 0] S1x256x1024.size inb_S1x2816x1024_S1x256x1024_0_768_0))
    (step (k0_pay3 x) (View.ld wg (Rect.unit (s := S1x1024x2816) ![0, 0, 512] S1x1024x256.size inb_S1x1024x2816_S1x1024x256_0_0_512)) (View.ld wu (Rect.unit (s := S1x1024x2816) ![0, 0, 512] S1x1024x256.size inb_S1x1024x2816_S1x1024x256_0_0_512)) (View.ld wd (Rect.unit (s := S1x2816x1024) ![0, 512, 0] S1x256x1024.size inb_S1x2816x1024_S1x256x1024_0_512_0))
    (step (k0_pay3 x) (View.ld wg (Rect.unit (s := S1x1024x2816) ![0, 0, 256] S1x1024x256.size inb_S1x1024x2816_S1x1024x256_0_0_256)) (View.ld wu (Rect.unit (s := S1x1024x2816) ![0, 0, 256] S1x1024x256.size inb_S1x1024x2816_S1x1024x256_0_0_256)) (View.ld wd (Rect.unit (s := S1x2816x1024) ![0, 256, 0] S1x256x1024.size inb_S1x2816x1024_S1x256x1024_0_256_0))
    (k0_pay4 x (View.ld wg (Rect.unit (s := S1x1024x2816) ![0, 0, 0] S1x1024x256.size inb_S1x1024x2816_S1x1024x256_0_0_0)) (View.ld wu (Rect.unit (s := S1x1024x2816) ![0, 0, 0] S1x1024x256.size inb_S1x1024x2816_S1x1024x256_0_0_0)) (View.ld wd (Rect.unit (s := S1x2816x1024) ![0, 0, 0] S1x256x1024.size inb_S1x2816x1024_S1x256x1024_0_0_0))))))))))))

/-- At a used tile the block is the composed term of the kernel's stores. -/
theorem out_used (c : Dev nD) (i : grid0.Coords) (arg3 : Memref sig .tc .vmem S512x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S512x1024 .f32) (harg7 : arg7.IsWhole) (arg8 : Memref sig .tc .vmem S512x1024 .f32) (harg8 : arg8.IsWhole)
    (x0 : Vec Ideal S512x1024 .f32) (x1 : Vec Ideal S1x1024x2816 .bf16) (x2 : Vec Ideal S1x1024x2816 .bf16) (x3 : Vec Ideal S1x2816x1024 .bf16) (xt0 : TbBuf0 (F := Ideal) c tbM0_0) (xt1 : TbBuf0 (F := Ideal) c tbM0_1)
    (hc1 : k0_cond1 i (nw0 c xt1) = 1#1) (hc2 : ¬ k0_cond2 i (nw0 c xt1) = 1#1) :
    out0_A_4 (F := Ideal) c i arg3 harg3 arg4 harg4 arg5 harg5 arg6 harg6 arg7 harg7 arg8 harg8 x0 x1 x2 x3 xt0 xt1 hc1 hc2 = block x0 x1 x2 x3 := by
  frame_out
  rfl

/-- At an unused tile the block is zero. -/
theorem out_unused (c : Dev nD) (i : grid0.Coords) (arg3 : Memref sig .tc .vmem S512x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S512x1024 .f32) (harg7 : arg7.IsWhole) (arg8 : Memref sig .tc .vmem S512x1024 .f32) (harg8 : arg8.IsWhole)
    (x0 : Vec Ideal S512x1024 .f32) (x1 : Vec Ideal S1x1024x2816 .bf16) (x2 : Vec Ideal S1x1024x2816 .bf16) (x3 : Vec Ideal S1x2816x1024 .bf16) (xt0 : TbBuf0 (F := Ideal) c tbM0_0) (xt1 : TbBuf0 (F := Ideal) c tbM0_1)
    (hc1 : ¬ k0_cond1 i (nw0 c xt1) = 1#1) (hc2 : k0_cond2 i (nw0 c xt1) = 1#1) :
    out0_B_4 (F := Ideal) c i arg3 harg3 arg4 harg4 arg5 harg5 arg6 harg6 arg7 harg7 arg8 harg8 x0 x1 x2 x3 xt0 xt1 hc1 hc2 = k0_pay2 (F := Ideal) := by
  frame_out

/-- A chunk's step at an index. -/
theorem step_at (h : FVec Ideal S512x1024 .bf16) (a b : Vec Ideal S1x1024x256 .bf16) (w : Vec Ideal S1x256x1024 .bf16) (acc : Vec Ideal S512x1024 .f32) (p : Fin 512) (d : Fin 1024) :
    step h a b w acc (ix2 p d)
      = acc (ix2 p d) + ∑ j, glu (∑ k, h (ix2 p k) * a (ix3 0 k j)) (∑ k, h (ix2 p k) * b (ix3 0 k j)) * w (ix3 0 j d) := by
  pointwise [step, k0_pay1, k0_pay25]
  simp only [glu, zero_sub]

/-- The first chunk at an index. -/
theorem first_at (x : Vec Ideal S512x1024 .f32) (a b : Vec Ideal S1x1024x256 .bf16) (w : Vec Ideal S1x256x1024 .bf16) (p : Fin 512) (d : Fin 1024) :
    k0_pay4 x a b w (ix2 p d)
      = ∑ j, glu (∑ k, x (ix2 p k) * a (ix3 0 k j)) (∑ k, x (ix2 p k) * b (ix3 0 k j)) * w (ix3 0 j d) := by
  pointwise [k0_pay4, k0_pay3]
  simp only [glu, zero_sub]

/-- The slots' cast at an index. -/
theorem hid_at (x : Vec Ideal S512x1024 .f32) (p : Fin 512) (k : Fin 1024) : k0_pay3 x (ix2 p k) = x (ix2 p k) := by
  pointwise [k0_pay3]

/-- Part of a block at an element. -/
theorem ld_at {s : Shape} {e : EltTy} (X : s.Idx → Elt Ideal e) {off size : Fin s.rank → ℕ} (inb : ∀ a, off a + size a ≤ s.size a)
    (y : (Rect.unit (s := s) off size inb).shape.Idx) (j : s.Idx) (hj : ∀ a, (j a).val = off a + (y a).val) :
    View.ld X (Rect.unit (s := s) off size inb) y = X j := by
  rw [View.ld_apply]
  refine congrArg X (funext fun a => Fin.ext ?_)
  rw [hj a]
  exact Rect.emb_apply (Rect.unit (s := s) off size inb) y a |>.trans (by simp [Rect.unit])

/-- A chunk's columns of a weight. -/
theorem cols_at (W : Vec Ideal S1x1024x2816 .bf16) (c : Fin 11) {o : Fin S1x1024x2816.rank → ℕ} (inb : ∀ a, o a + S1x1024x256.size a ≤ S1x1024x2816.size a)
    (ho : o = ![0, 0, 256 * c.val]) (k : Fin 1024) (j : Fin 256) :
    View.ld W (Rect.unit (s := S1x1024x2816) o S1x1024x256.size inb) (ix3 0 k j) = W (ix3 0 k (at256 c j)) := by
  subst ho
  refine ld_at W _ _ _ fun a => ?_
  fin_cases a
  · simp
  · simp
  · simp [at256]

/-- A chunk's rows of the last weight. -/
theorem rows_at (W : Vec Ideal S1x2816x1024 .bf16) (c : Fin 11) {o : Fin S1x2816x1024.rank → ℕ} (inb : ∀ a, o a + S1x256x1024.size a ≤ S1x2816x1024.size a)
    (ho : o = ![0, 256 * c.val, 0]) (j : Fin 256) (d : Fin 1024) :
    View.ld W (Rect.unit (s := S1x2816x1024) o S1x256x1024.size inb) (ix3 0 j d) = W (ix3 0 (at256 c j) d) := by
  subst ho
  refine ld_at W _ _ _ fun a => ?_
  fin_cases a
  · simp
  · simp [at256]
  · simp

/-- A chunk's sum. -/
def part (x : Vec Ideal S512x1024 .f32) (wg wu : Vec Ideal S1x1024x2816 .bf16) (wd : Vec Ideal S1x2816x1024 .bf16) (p : Fin 512) (d : Fin 1024) (c : Fin 11) : EReal :=
  ∑ j, unit (fun k => x (ix2 p k)) (fun k f => wg (ix3 0 k f)) (fun k f => wu (ix3 0 k f)) (at256 c j) * wd (ix3 0 (at256 c j) d)

/-- A chunk's step of the full weights at an index. -/
theorem step_part (x : Vec Ideal S512x1024 .f32) (wg wu : Vec Ideal S1x1024x2816 .bf16) (wd : Vec Ideal S1x2816x1024 .bf16) (c : Fin 11)
    {o : Fin S1x1024x2816.rank → ℕ} {q : Fin S1x2816x1024.rank → ℕ} (inb : ∀ a, o a + S1x1024x256.size a ≤ S1x1024x2816.size a)
    (inq : ∀ a, q a + S1x256x1024.size a ≤ S1x2816x1024.size a) (ho : o = ![0, 0, 256 * c.val]) (hq : q = ![0, 256 * c.val, 0])
    (acc : Vec Ideal S512x1024 .f32) (p : Fin 512) (d : Fin 1024) :
    step (k0_pay3 x) (View.ld wg (Rect.unit (s := S1x1024x2816) o S1x1024x256.size inb)) (View.ld wu (Rect.unit (s := S1x1024x2816) o S1x1024x256.size inb))
      (View.ld wd (Rect.unit (s := S1x2816x1024) q S1x256x1024.size inq)) acc (ix2 p d) = acc (ix2 p d) + part x wg wu wd p d c := by
  rw [step_at]
  simp only [cols_at wg c inb ho, cols_at wu c inb ho, rows_at wd c inq hq, hid_at]
  rfl

/-- The first chunk of the full weights at an index. -/
theorem first_part (x : Vec Ideal S512x1024 .f32) (wg wu : Vec Ideal S1x1024x2816 .bf16) (wd : Vec Ideal S1x2816x1024 .bf16)
    {o : Fin S1x1024x2816.rank → ℕ} {q : Fin S1x2816x1024.rank → ℕ} (inb : ∀ a, o a + S1x1024x256.size a ≤ S1x1024x2816.size a)
    (inq : ∀ a, q a + S1x256x1024.size a ≤ S1x2816x1024.size a) (ho : o = ![0, 0, 0]) (hq : q = ![0, 0, 0])
    (p : Fin 512) (d : Fin 1024) :
    k0_pay4 x (View.ld wg (Rect.unit (s := S1x1024x2816) o S1x1024x256.size inb)) (View.ld wu (Rect.unit (s := S1x1024x2816) o S1x1024x256.size inb))
      (View.ld wd (Rect.unit (s := S1x2816x1024) q S1x256x1024.size inq)) (ix2 p d) = part x wg wu wd p d 0 := by
  rw [first_at]
  simp only [cols_at wg 0 inb ho, cols_at wu 0 inb ho, rows_at wd 0 inq hq]
  rfl

/-- The block at an element: the slot's result from the tile's expert. -/
theorem block_at (x : Vec Ideal S512x1024 .f32) (wg wu : Vec Ideal S1x1024x2816 .bf16) (wd : Vec Ideal S1x2816x1024 .bf16) (p : Fin 512) (d : Fin 1024) :
    block x wg wu wd (ix2 p d)
      = ∑ f, unit (fun k => x (ix2 p k)) (fun k f => wg (ix3 0 k f)) (fun k f => wu (ix3 0 k f)) f * wd (ix3 0 f d) := by
  unfold block
  rw [step_part _ _ _ _ 10 (o := ![0, 0, 2560]) (q := ![0, 2560, 0]) _ _ rfl rfl, step_part _ _ _ _ 9 (o := ![0, 0, 2304]) (q := ![0, 2304, 0]) _ _ rfl rfl, step_part _ _ _ _ 8 (o := ![0, 0, 2048]) (q := ![0, 2048, 0]) _ _ rfl rfl, step_part _ _ _ _ 7 (o := ![0, 0, 1792]) (q := ![0, 1792, 0]) _ _ rfl rfl, step_part _ _ _ _ 6 (o := ![0, 0, 1536]) (q := ![0, 1536, 0]) _ _ rfl rfl, step_part _ _ _ _ 5 (o := ![0, 0, 1280]) (q := ![0, 1280, 0]) _ _ rfl rfl, step_part _ _ _ _ 4 (o := ![0, 0, 1024]) (q := ![0, 1024, 0]) _ _ rfl rfl, step_part _ _ _ _ 3 (o := ![0, 0, 768]) (q := ![0, 768, 0]) _ _ rfl rfl, step_part _ _ _ _ 2 (o := ![0, 0, 512]) (q := ![0, 512, 0]) _ _ rfl rfl, step_part _ _ _ _ 1 (o := ![0, 0, 256]) (q := ![0, 256, 0]) _ _ rfl rfl, first_part _ _ _ _ (o := ![0, 0, 0]) (q := ![0, 0, 0]) _ _ rfl rfl,
    sum_eleven (part x wg wu wd p d)]
  unfold part
  rw [sum_chunks]

/-- The zero block at an element. -/
theorem zero_at (p : Fin 512) (d : Fin 1024) : k0_pay2 (F := Ideal) (ix2 p d) = 0 := by
  pointwise [k0_pay2]

end Cert.Kernel3Ideal.Kern

end
-- ==== Proof.EFinal.lean ====
/- The experts' kernel's output array after the whole grid: every slot of a used tile through its expert, zero past them. -/
module

public import proofs.«01_k».proof.Proof.EOk
public import proofs.«01_k».proof.Proof.EKern
public import Idealize.ShloMosaic.Lib.Claim

@[expose] public section

set_option maxRecDepth 16384

noncomputable section

namespace Cert.Kernel3Ideal.Final

open Cert.Ffn Cert.Kernel3Ideal Cert.Kernel3Ideal.Gen Cert.Kernel3Ideal.Kern Cert.Kernel3Ideal.Tab Idealize.ShloMosaic Idealize.ShloMosaic.TcCoe Idealize.SL.Sem
open Idealize.ShloMosaic.Pipeline (Dat)
open scoped BigOperators

/-- A grid point's only coordinate is its number. -/
theorem coords_val : ∀ t : Fin grid0.N, (grid0.coords t 0).val = t.val := by decide +kernel

variable (a : (pcfg0 (F := Ideal)).Adm)

/-- A block of rows, read at an element. -/
theorem read_0 (t : Fin (cfg0 a).N) (X : S151552x1024.Idx → EReal) (p : Fin 512) (j : Fin 1024) (r : Fin 151552)
    (hr : r.val = cc0_transform_0 inb_S1_S1_0 numel1_S1 a.1 (grid0.coords t) 0 * 512 + p.val)
    (h1 : cc0_transform_0 inb_S1_S1_0 numel1_S1 a.1 (grid0.coords t) 1 = 0) :
    (((cfg0 a).win 0).blk t).view.read (Elt Ideal) X (ix2 p j) = X (ix2 r j) := by
  refine congrArg X (funext fun b => Fin.ext ?_)
  fin_cases b
  · refine Eq.trans ?_ hr.symm
    exact (ValueKit.rect_emb_unit_val _ _ _ _ _).trans rfl
  · refine ((ValueKit.rect_emb_unit_val _ _ _ _ _).trans ?_)
    show cc0_transform_0 inb_S1_S1_0 numel1_S1 a.1 (grid0.coords t) 1 * 1024 + j.val = j.val
    rw [h1]; omega

/-- A block of the weights of window 1, read at an element. -/
theorem read_1 (t : Fin (cfg0 a).N) (X : S8x1024x2816.Idx → EReal) (e : Fin 8) (p : Fin 1024) (j : Fin 2816)
    (h : cc0_transform_1 k0_off1_inb numel1_S1 a.1 (grid0.coords t) = ![e.val, 0, 0]) :
    (((cfg0 a).win 1).blk t).view.read (Elt Ideal) X (ix3 0 p j) = X (ix3 e p j) := by
  refine congrArg X (funext fun b => Fin.ext ?_)
  fin_cases b
  · refine ((ValueKit.rect_emb_unit_val _ _ _ _ _).trans ?_)
    show cc0_transform_1 k0_off1_inb numel1_S1 a.1 (grid0.coords t) 0 * 1 + 0 = e.val
    rw [h]; simp
  · refine ((ValueKit.rect_emb_unit_val _ _ _ _ _).trans ?_)
    show cc0_transform_1 k0_off1_inb numel1_S1 a.1 (grid0.coords t) 1 * 1024 + p.val = p.val
    rw [h]; simp
  · refine ((ValueKit.rect_emb_unit_val _ _ _ _ _).trans ?_)
    show cc0_transform_1 k0_off1_inb numel1_S1 a.1 (grid0.coords t) 2 * 2816 + j.val = j.val
    rw [h]; simp

/-- A block of the weights of window 2, read at an element. -/
theorem read_2 (t : Fin (cfg0 a).N) (X : S8x1024x2816.Idx → EReal) (e : Fin 8) (p : Fin 1024) (j : Fin 2816)
    (h : cc0_transform_2 k0_off1_inb numel1_S1 a.1 (grid0.coords t) = ![e.val, 0, 0]) :
    (((cfg0 a).win 2).blk t).view.read (Elt Ideal) X (ix3 0 p j) = X (ix3 e p j) := by
  refine congrArg X (funext fun b => Fin.ext ?_)
  fin_cases b
  · refine ((ValueKit.rect_emb_unit_val _ _ _ _ _).trans ?_)
    show cc0_transform_2 k0_off1_inb numel1_S1 a.1 (grid0.coords t) 0 * 1 + 0 = e.val
    rw [h]; simp
  · refine ((ValueKit.rect_emb_unit_val _ _ _ _ _).trans ?_)
    show cc0_transform_2 k0_off1_inb numel1_S1 a.1 (grid0.coords t) 1 * 1024 + p.val = p.val
    rw [h]; simp
  · refine ((ValueKit.rect_emb_unit_val _ _ _ _ _).trans ?_)
    show cc0_transform_2 k0_off1_inb numel1_S1 a.1 (grid0.coords t) 2 * 2816 + j.val = j.val
    rw [h]; simp

/-- A block of the weights of window 3, read at an element. -/
theorem read_3 (t : Fin (cfg0 a).N) (X : S8x2816x1024.Idx → EReal) (e : Fin 8) (p : Fin 2816) (j : Fin 1024)
    (h : cc0_transform_3 k0_off1_inb numel1_S1 a.1 (grid0.coords t) = ![e.val, 0, 0]) :
    (((cfg0 a).win 3).blk t).view.read (Elt Ideal) X (ix3 0 p j) = X (ix3 e p j) := by
  refine congrArg X (funext fun b => Fin.ext ?_)
  fin_cases b
  · refine ((ValueKit.rect_emb_unit_val _ _ _ _ _).trans ?_)
    show cc0_transform_3 k0_off1_inb numel1_S1 a.1 (grid0.coords t) 0 * 1 + 0 = e.val
    rw [h]; simp
  · refine ((ValueKit.rect_emb_unit_val _ _ _ _ _).trans ?_)
    show cc0_transform_3 k0_off1_inb numel1_S1 a.1 (grid0.coords t) 1 * 2816 + p.val = p.val
    rw [h]; simp
  · refine ((ValueKit.rect_emb_unit_val _ _ _ _ _).trans ?_)
    show cc0_transform_3 k0_off1_inb numel1_S1 a.1 (grid0.coords t) 2 * 1024 + j.val = j.val
    rw [h]; simp

/-- The slot a row of a point's block is. -/
def slot (t : Fin grid0.N) (p : Fin 512) : Fin 151552 :=
  ⟨t.val * 512 + p.val, by have : t.val < 296 := t.isLt; omega⟩

/-- Where the output block lies. -/
theorem emb_4 (t : Fin (cfg0 a).N) (p : Fin 512) (d : Fin 1024) :
    ((((cfg0 a).win 4).blk t).view.emb (ix2 p d) : S151552x1024.Idx) = ix2 (slot t p) d := by
  have ht : t.val < 296 := t.isLt
  refine funext fun b => Fin.ext ?_
  fin_cases b
  · refine ((ValueKit.rect_emb_unit_val _ _ _ _ _).trans ?_)
    show (BitVec.ofNat 32 (grid0.coords t 0).val).toNat * 512 + p.val = t.val * 512 + p.val
    rw [coords_val, BitVec.toNat_ofNat, Nat.mod_eq_of_lt (by omega)]
  · refine ((ValueKit.rect_emb_unit_val _ _ _ _ _).trans ?_)
    show 0 * 1024 + d.val = d.val
    omega

/-- The tile's expert. -/
def expert (x : IVec S8 32) (t : ℕ) : Fin 8 := ⟨te x t, by have := te_le x t; omega⟩

/-- The whole result, slot by slot. -/
def result (x : IVec S8 32) (X : S151552x1024.Idx → EReal) (wg wu : S8x1024x2816.Idx → EReal) (wd : S8x2816x1024.Idx → EReal) (r : Fin 151552) (d : Fin 1024) : EReal :=
  if r.val / 512 < used x then
    ∑ f, unit (fun k => X (ix2 r k)) (fun k f => wg (ix3 (expert x (r.val / 512)) k f)) (fun k f => wu (ix3 (expert x (r.val / 512)) k f)) f * wd (ix3 (expert x (r.val / 512)) f d)
  else 0

variable (m : (ℓ : Loc nD τ sig) → Buf (Elt Ideal) ℓ)

/-- The weights, as the call finds them. -/
theorem V_wg (c : Dev nD) : V m c main_v22 = m ((c : Thread nD τ).loc main_arg2) := by
  unfold_abbrev_sides
  after_reads_simp
  rfl
theorem V_wu (c : Dev nD) : V m c main_v23 = m ((c : Thread nD τ).loc main_arg3) := by
  unfold_abbrev_sides
  after_reads_simp
  rfl
theorem V_wd (c : Dev nD) : V m c main_v24 = m ((c : Thread nD τ).loc main_arg4) := by
  unfold_abbrev_sides
  after_reads_simp
  rfl

/-- The slots' block of a used tile. -/
theorem blk_0 (c : Dev nD) (h : Routed (m ((c : Thread nD τ).loc main_arg0))) (hO : Ok m) (t : Fin (cfgM m hO).N) (hlt : t.val < used (m ((c : Thread nD τ).loc main_arg0))) (p : Fin 512) (k : Fin 1024) :
    (iblk m hO c 0 t : S512x1024.Idx → EReal) (ix2 p k) = m ((c : Thread nD τ).loc main_arg1) (ix2 (slot t p) k) := by
  have hp := holds m c h
  refine (read_0 (adm m hO) t (V m c main_arg1) p k (slot t p) ?_ ?_).trans (congrFun (V_main_arg1 m c) _)
  · show t.val * 512 + p.val = cc0_transform_0 inb_S1_S1_0 numel1_S1 (tbl m) (grid0.coords t) 0 * 512 + p.val
    rw [index_0 h hp, coords_val]
    show _ = min t.val (used _ - 1) * 512 + p.val
    rw [Nat.min_eq_left (by omega)]
  · show cc0_transform_0 inb_S1_S1_0 numel1_S1 (tbl m) (grid0.coords t) 1 = 0
    rw [index_0 h hp]; rfl

/-- The block of window 1: the weights of the tile's expert. -/
theorem blk_1 (c : Dev nD) (h : Routed (m ((c : Thread nD τ).loc main_arg0))) (hO : Ok m) (t : Fin (cfgM m hO).N) (k : Fin 1024) (f : Fin 2816) :
    (iblk m hO c 1 t : S1x1024x2816.Idx → EReal) (ix3 0 k f) = m ((c : Thread nD τ).loc main_arg2) (ix3 (expert (m ((c : Thread nD τ).loc main_arg0)) t.val) k f) := by
  refine (read_1 (adm m hO) t (V m c main_v22) (expert (m ((c : Thread nD τ).loc main_arg0)) t.val) k f ?_).trans (congrFun (V_wg m c) _)
  refine (index_1 (holds m c h) _).trans ?_
  rw [coords_val]; rfl

/-- The block of window 2: the weights of the tile's expert. -/
theorem blk_2 (c : Dev nD) (h : Routed (m ((c : Thread nD τ).loc main_arg0))) (hO : Ok m) (t : Fin (cfgM m hO).N) (k : Fin 1024) (f : Fin 2816) :
    (iblk m hO c 2 t : S1x1024x2816.Idx → EReal) (ix3 0 k f) = m ((c : Thread nD τ).loc main_arg3) (ix3 (expert (m ((c : Thread nD τ).loc main_arg0)) t.val) k f) := by
  refine (read_2 (adm m hO) t (V m c main_v23) (expert (m ((c : Thread nD τ).loc main_arg0)) t.val) k f ?_).trans (congrFun (V_wu m c) _)
  refine (index_2 (holds m c h) _).trans ?_
  rw [coords_val]; rfl

/-- The block of window 3: the weights of the tile's expert. -/
theorem blk_3 (c : Dev nD) (h : Routed (m ((c : Thread nD τ).loc main_arg0))) (hO : Ok m) (t : Fin (cfgM m hO).N) (k : Fin 2816) (f : Fin 1024) :
    (iblk m hO c 3 t : S1x2816x1024.Idx → EReal) (ix3 0 k f) = m ((c : Thread nD τ).loc main_arg4) (ix3 (expert (m ((c : Thread nD τ).loc main_arg0)) t.val) k f) := by
  refine (read_3 (adm m hO) t (V m c main_v24) (expert (m ((c : Thread nD τ).loc main_arg0)) t.val) k f ?_).trans (congrFun (V_wd m c) _)
  refine (index_3 (holds m c h) _).trans ?_
  rw [coords_val]; rfl

/-- The output block of a point at an element. -/
theorem out_at (c : Dev nD) (h : Routed (m ((c : Thread nD τ).loc main_arg0))) (hO : Ok m) (t : Fin (cfgM m hO).N) (p : Fin 512) (d : Fin 1024) :
    outsAt0 (F := Ideal) m hO c t (ix2 p d)
      = result (m ((c : Thread nD τ).loc main_arg0)) (m ((c : Thread nD τ).loc main_arg1)) (m ((c : Thread nD τ).loc main_arg2))
        (m ((c : Thread nD τ).loc main_arg3)) (m ((c : Thread nD τ).loc main_arg4)) (slot t p) d := by
  have hl := live_iff m c h t
  have hq : (slot t p).val / 512 = t.val := by show (t.val * 512 + p.val) / 512 = t.val; omega
  rw [coords_val] at hl
  unfold result
  rw [hq]
  unfold outsAt0
  by_cases hL : Live m c t
  · rw [dif_pos hL, if_pos (hl.mp hL)]
    refine (congrFun (out_used _ _ _ _ _ _ _ _ _ _ _ _ _ _ _ _ _ _ _ _ _ _) (ix2 p d)).trans ((block_at _ _ _ _ p d).trans ?_)
    refine Finset.sum_congr rfl fun f _ => congrArg₂ (· * ·) (congrArg₂ glu ?_ ?_) (blk_3 m c h hO t f d)
    · exact Finset.sum_congr rfl fun k _ => congrArg₂ (· * ·) (blk_0 m c h hO t (hl.mp hL) p k) (blk_1 m c h hO t k f)
    · exact Finset.sum_congr rfl fun k _ => congrArg₂ (· * ·) (blk_0 m c h hO t (hl.mp hL) p k) (blk_2 m c h hO t k f)
  · rw [dif_neg hL, if_neg (fun hh => hL (hl.mpr hh))]
    exact (congrFun (out_unused _ _ _ _ _ _ _ _ _ _ _ _ _ _ _ _ _ _ _ _ _ _) (ix2 p d)).trans (zero_at p d)

/-- An array whose blocks are given slot by slot. -/
theorem arr_of {c : Dev nD} (dat : Dat τ (Elt Ideal) Unit ℕ (UR sig nD τ) ℕ (cfg0 a) c) (G : S151552x1024.Idx → EReal)
    (h : ∀ (t : Fin (cfg0 a).N) (p : Fin 512) (d : Fin 1024), (dat.after 4 t : S512x1024.Idx → EReal) (ix2 p d) = G (ix2 (slot t p) d)) :
    dat.arrAt 4 (cfg0 a).N = G := by
  refine dat.arrAt_eq_of_emb 4 G (fun t _ (y : S512x1024.Idx) => ?_) (fun (i : S151552x1024.Idx) => ?_)
  · obtain ⟨p, d, rfl⟩ : ∃ (p : Fin 512) (d : Fin 1024), y = ix2 p d := ⟨y 0, y 1, eq_ix2 y⟩
    exact (h t p d).trans (congrArg G (emb_4 a t p d)).symm
  · obtain ⟨r, d, rfl⟩ : ∃ (r : Fin 151552) (d : Fin 1024), i = ix2 r d := ⟨i 0, i 1, eq_ix2 i⟩
    have hr := r.isLt
    let t : Fin grid0.N := ⟨r.val / 512, by show r.val / 512 < 296; omega⟩
    refine ⟨t, flush0_4 a t, ?_⟩
    have e := emb_4 a t ⟨r.val % 512, by omega⟩ d
    have es : slot t ⟨r.val % 512, by omega⟩ = r := Fin.ext (by show r.val / 512 * 512 + r.val % 512 = r.val; omega)
    rw [es] at e
    exact e ▸ View.emb_mem_set _ _

/-- The output array after the grid. -/
theorem final (c : Dev nD) (h : Routed (m ((c : Thread nD τ).loc main_arg0))) (hO : Ok m) : (dats (F := Ideal) m hO 0 c).arrAt 4 (cfgM m hO).N
    = fun y : S151552x1024.Idx => result (m ((c : Thread nD τ).loc main_arg0)) (m ((c : Thread nD τ).loc main_arg1)) (m ((c : Thread nD τ).loc main_arg2))
        (m ((c : Thread nD τ).loc main_arg3)) (m ((c : Thread nD τ).loc main_arg4)) (y 0) (y 1) :=
  arr_of (adm m hO) (dats m hO 0 c) _ fun t p d => (congrFun (after0_4 m hO c t) _).trans (out_at m c h hO t p d)

end Cert.Kernel3Ideal.Final

end
-- ==== Proof.ERef.lean ====
/- The reference's experts read at one element: each expert's slots, its weights, and the sum over the experts. -/
module

public import proofs.«01_k».proof.Proof.Gen.Reference3Ideal.Run
public import proofs.«01_k».proof.Proof.EFinal
public import Idealize.ShloMosaic.Lib.Pointwise
public import Idealize.ShloMosaic.Lib.Routing.OpsSearch

@[expose] public section

set_option maxRecDepth 16384

noncomputable section

namespace Cert.Reference3Ideal.At

open Cert.Ffn Cert.Reference3Ideal Cert.Reference3Ideal.Gen Idealize.ShloMosaic Idealize.ShloMosaic.TcCoe Idealize.ShloMosaic.Routing Idealize.SL.Sem
open Cert.Kernel3Ideal.Tab (cnt ends used te Routed cnt_at ends_succ ends_mono ends_dvd ends_le ends_8)
open scoped BigOperators

/-- The slots of an expert, from the number of its rows. -/
def padW (x : IVec S8 32) {o : Fin 1 → ℕ} (hs : S8.Slices o S1) : IVec S_ 32 :=
  muli (pyDiv0 (subi (addi (shapeCast S_ (extractStridedSlice S1 o x hs) shapeCasts_S1_S_) (constantI S_ 32 512#32)) (constantI S_ 32 1#32)) (constantI S_ 32 512#32)) (constantI S_ 32 512#32)

/-- One where a slot is the expert's, zero elsewhere. -/
def combW (s f : IVec S_ 32) : FVec Ideal S151552 .f32 :=
  uitofp .f32 (andi (cmpi .sge (iotaInDim S151552 32 0) (broadcastInDim S151552 ![] bcast_S_S151552 s)) (cmpi .slt (iotaInDim S151552 32 0) (broadcastInDim S151552 ![] bcast_S_S151552 f)))

/-- A product with an expert's weights. -/
def up (X : FVec Ideal S151552x1024 .f32) (W : FVec Ideal S8x1024x2816 .f32) {o : Fin 3 → ℕ} (hs : S8x1024x2816.Slices o S1x1024x2816) : FVec Ideal S151552x2816 .f32 :=
  Host.dotGeneral dot_S151552x1024_S1024x2816_S151552x2816_1_0_0_1_n_n none X (shapeCast S1024x2816 (extractStridedSlice S1x1024x2816 o W hs) shapeCasts_S1x1024x2816_S1024x2816)

/-- The hidden units. -/
def act (v u : FVec Ideal S151552x2816 .f32) : FVec Ideal S151552x2816 .f32 :=
  mulf (mulf v (Host.divf (broadcastInDim S151552x2816 ![] bcast_S_S151552x2816 (constant S_ .f32 0x3F800000#32)) (addf (broadcastInDim S151552x2816 ![] bcast_S_S151552x2816 (constant S_ .f32 0x3F800000#32)) (Host.exp (Host.negf v))))) u

/-- The product back. -/
def down (a : FVec Ideal S151552x2816 .f32) (W : FVec Ideal S8x2816x1024 .f32) {o : Fin 3 → ℕ} (hs : S8x2816x1024.Slices o S1x2816x1024) : FVec Ideal S151552x1024 .f32 :=
  Host.dotGeneral dot_S151552x2816_S2816x1024_S151552x1024_1_0_0_1_n_n none a (shapeCast S2816x1024 (extractStridedSlice S1x2816x1024 o W hs) shapeCasts_S1x2816x1024_S2816x1024)

/-- One more expert on what the experts before gave. -/
def plus (acc : FVec Ideal S151552x1024 .f32) (w : FVec Ideal S151552 .f32) (y : FVec Ideal S151552x1024 .f32) : FVec Ideal S151552x1024 .f32 :=
  addf acc (mulf (broadcastInDim S151552x1024 ![0, 1] bcast_S151552x1_S151552x1024_0_1 (broadcastInDim S151552x1 ![0] bcast_S151552_S151552x1_0 w)) y)

/-- An expert's result of every slot. -/
def swig (X : FVec Ideal S151552x1024 .f32) (WG WU : FVec Ideal S8x1024x2816 .f32) (WD : FVec Ideal S8x2816x1024 .f32) {o : Fin 3 → ℕ}
    (hs : S8x1024x2816.Slices o S1x1024x2816) (hd : S8x2816x1024.Slices o S1x2816x1024) : FVec Ideal S151552x1024 .f32 :=
  down (act (up X WG hs) (up X WU hs)) WD hd

/-- Where each expert's slots end. -/
def end0 (x : IVec S8 32) : IVec S_ 32 := addi (constantI S_ 32 0#32) (padW x slices_S8_S1_0)
def end1 (x : IVec S8 32) : IVec S_ 32 := addi (end0 x) (padW x slices_S8_S1_1)
def end2 (x : IVec S8 32) : IVec S_ 32 := addi (end1 x) (padW x slices_S8_S1_2)
def end3 (x : IVec S8 32) : IVec S_ 32 := addi (end2 x) (padW x slices_S8_S1_3)
def end4 (x : IVec S8 32) : IVec S_ 32 := addi (end3 x) (padW x slices_S8_S1_4)
def end5 (x : IVec S8 32) : IVec S_ 32 := addi (end4 x) (padW x slices_S8_S1_5)
def end6 (x : IVec S8 32) : IVec S_ 32 := addi (end5 x) (padW x slices_S8_S1_6)
def end7 (x : IVec S8 32) : IVec S_ 32 := addi (end6 x) (padW x slices_S8_S1_7)

/-- The reference's result. -/
def out (x : IVec S8 32) (X : FVec Ideal S151552x1024 .f32) (WG WU : FVec Ideal S8x1024x2816 .f32) (WD : FVec Ideal S8x2816x1024 .f32) : FVec Ideal S151552x1024 .f32 :=
  plus (plus (plus (plus (plus (plus (plus (plus
    (broadcastInDim S151552x1024 ![] bcast_S_S151552x1024 (constant S_ .f32 0x00000000#32))
    (combW (constantI S_ 32 0#32) (end0 x)) (swig X WG WU WD slices_S8x1024x2816_S1x1024x2816_0_0_0 slices_S8x2816x1024_S1x2816x1024_0_0_0))
    (combW (end0 x) (end1 x)) (swig X WG WU WD slices_S8x1024x2816_S1x1024x2816_1_0_0 slices_S8x2816x1024_S1x2816x1024_1_0_0))
    (combW (end1 x) (end2 x)) (swig X WG WU WD slices_S8x1024x2816_S1x1024x2816_2_0_0 slices_S8x2816x1024_S1x2816x1024_2_0_0))
    (combW (end2 x) (end3 x)) (swig X WG WU WD slices_S8x1024x2816_S1x1024x2816_3_0_0 slices_S8x2816x1024_S1x2816x1024_3_0_0))
    (combW (end3 x) (end4 x)) (swig X WG WU WD slices_S8x1024x2816_S1x1024x2816_4_0_0 slices_S8x2816x1024_S1x2816x1024_4_0_0))
    (combW (end4 x) (end5 x)) (swig X WG WU WD slices_S8x1024x2816_S1x1024x2816_5_0_0 slices_S8x2816x1024_S1x2816x1024_5_0_0))
    (combW (end5 x) (end6 x)) (swig X WG WU WD slices_S8x1024x2816_S1x1024x2816_6_0_0 slices_S8x2816x1024_S1x2816x1024_6_0_0))
    (combW (end6 x) (end7 x)) (swig X WG WU WD slices_S8x1024x2816_S1x1024x2816_7_0_0 slices_S8x2816x1024_S1x2816x1024_7_0_0)

/-- The composed term is that. -/
theorem out_eq (V0 : Valuation τ sig (Elt Ideal)) : Value.res_out0 V0
    = out (V0 (Proc.devRef .tc main_arg0)) (V0 (Proc.devRef .tc main_arg1)) (V0 (Proc.devRef .tc main_arg2)) (V0 (Proc.devRef .tc main_arg3)) (V0 (Proc.devRef .tc main_arg4)) := by
  rfl

/-- A slot's weight in an expert's sum. -/
theorem combW_at (s f : IVec S_ 32) {a b : ℕ} (hs : s ValueIdx.ix0 = BitVec.ofNat 32 a) (hf : f ValueIdx.ix0 = BitVec.ofNat 32 b) (ha : a < 2 ^ 31) (hb : b < 2 ^ 31) (r : Fin 151552) :
    combW s f (ix1 r) = if a ≤ r.val ∧ r.val < b then 1 else 0 := by
  have hr := r.isLt
  have e0 : ∀ v : IVec S_ 32, broadcastInDim S151552 ![] bcast_S_S151552 v (ix1 r) = v ValueIdx.ix0 := fun v => congrArg v (funext fun i => i.elim0)
  have h1 : IntOp.cmpi .sge (BitVec.ofNat 32 r.val) (BitVec.ofNat 32 a) = 1#1 ↔ a ≤ r.val := by
    rw [StableHlo.Predicate.sge_iff_toNat (by rw [BitVec.toNat_ofNat, Nat.mod_eq_of_lt (by omega)]; omega)
      (by rw [BitVec.toNat_ofNat, Nat.mod_eq_of_lt (by omega)]; omega), BitVec.toNat_ofNat, BitVec.toNat_ofNat,
      Nat.mod_eq_of_lt (by omega), Nat.mod_eq_of_lt (by omega)]
  have h2 : IntOp.cmpi .slt (BitVec.ofNat 32 r.val) (BitVec.ofNat 32 b) = 1#1 ↔ r.val < b := by
    rw [StableHlo.Predicate.slt_iff_toNat (by rw [BitVec.toNat_ofNat, Nat.mod_eq_of_lt (by omega)]; omega)
      (by rw [BitVec.toNat_ofNat, Nat.mod_eq_of_lt (by omega)]; omega), BitVec.toNat_ofNat, BitVec.toNat_ofNat,
      Nat.mod_eq_of_lt (by omega), Nat.mod_eq_of_lt (by omega)]
  have key : ∀ p q : BitVec 1, ((((p &&& q).toNat : ℕ) : ℝ) : EReal) = if p = 1#1 ∧ q = 1#1 then 1 else 0 := by
    intro p q
    have hp : p = 0#1 ∨ p = 1#1 := (by decide : ∀ p : BitVec 1, p = 0#1 ∨ p = 1#1) p
    have hq : q = 0#1 ∨ q = 1#1 := (by decide : ∀ p : BitVec 1, p = 0#1 ∨ p = 1#1) q
    rcases hp with rfl | rfl <;> rcases hq with rfl | rfl <;> simp
  refine Eq.trans ?_ ((key (IntOp.cmpi .sge (BitVec.ofNat 32 r.val) (BitVec.ofNat 32 a)) (IntOp.cmpi .slt (BitVec.ofNat 32 r.val) (BitVec.ofNat 32 b))).trans (if_congr (and_congr h1 h2) rfl rfl))
  rw [← hs, ← hf, ← e0 s, ← e0 f]
  rfl

theorem up_at (X : FVec Ideal S151552x1024 .f32) (W : FVec Ideal S8x1024x2816 .f32) (e : Fin 8) {o : Fin 3 → ℕ} (hs : S8x1024x2816.Slices o S1x1024x2816) (ho : o = ![e.val, 0, 0]) (r : Fin 151552) (f : Fin 2816) :
    up X W hs (ix2 r f) = ∑ k, X (ix2 r k) * W (ix3 e k f) := by
  subst ho
  pointwise [up]

theorem act_at (v u : FVec Ideal S151552x2816 .f32) (r : Fin 151552) (f : Fin 2816) : act v u (ix2 r f) = glu (v (ix2 r f)) (u (ix2 r f)) := by
  pointwise [act]
  rw [mul_sigmoid]
  rfl

theorem down_at (a : FVec Ideal S151552x2816 .f32) (W : FVec Ideal S8x2816x1024 .f32) (e : Fin 8) {o : Fin 3 → ℕ} (hs : S8x2816x1024.Slices o S1x2816x1024) (ho : o = ![e.val, 0, 0]) (r : Fin 151552) (d : Fin 1024) :
    down a W hs (ix2 r d) = ∑ f, a (ix2 r f) * W (ix3 e f d) := by
  subst ho
  pointwise [down]

theorem plus_at (acc : FVec Ideal S151552x1024 .f32) (w : FVec Ideal S151552 .f32) (y : FVec Ideal S151552x1024 .f32) (r : Fin 151552) (d : Fin 1024) :
    plus acc w y (ix2 r d) = acc (ix2 r d) + w (ix1 r) * y (ix2 r d) := by
  pointwise [plus]

theorem zero_at (r : Fin 151552) (d : Fin 1024) : (broadcastInDim S151552x1024 ![] bcast_S_S151552x1024 (constant (F := Ideal) S_ .f32 0x00000000#32)) (ix2 r d) = 0 := by
  pointwise

/-- An expert's result of a slot. -/
theorem swig_at (X : FVec Ideal S151552x1024 .f32) (WG WU : FVec Ideal S8x1024x2816 .f32) (WD : FVec Ideal S8x2816x1024 .f32) (e : Fin 8) {o : Fin 3 → ℕ}
    (hs : S8x1024x2816.Slices o S1x1024x2816) (hd : S8x2816x1024.Slices o S1x2816x1024) (ho : o = ![e.val, 0, 0]) (r : Fin 151552) (d : Fin 1024) :
    swig X WG WU WD hs hd (ix2 r d)
      = ∑ f, unit (fun k => X (ix2 r k)) (fun k f => WG (ix3 e k f)) (fun k f => WU (ix3 e k f)) f * WD (ix3 e f d) := by
  unfold swig
  rw [down_at _ _ e hd ho]
  simp only [act_at, up_at _ _ e hs ho]
  rfl

/-- The slots of an expert as a number. -/
theorem padW_at {x : IVec S8 32} (h : Routed x) (e : Fin 8) {o : Fin 1 → ℕ} (hs : S8.Slices o S1) (ho : o = ![e.val]) : padW x hs ValueIdx.ix0 = BitVec.ofNat 32 (Cert.Kernel3Ideal.Tab.pad x e.val) := by
  subst ho
  have hc := h.le e.val
  unfold padW Cert.Kernel3Ideal.Tab.pad
  rw [muli_ap, pyDiv0_ap (a := cnt x e.val + 511) (b := 512) _ _ ?_ rfl (by omega) (by omega) (by omega)]
  · rw [show constantI S_ 32 512#32 ValueIdx.ix0 = BitVec.ofNat 32 512 from rfl, ← BitVec.ofNat_mul]
  · have e1 : shapeCast S_ (extractStridedSlice S1 ![e.val] x hs) shapeCasts_S1_S_ ValueIdx.ix0 = BitVec.ofNat 32 (cnt x e.val) := by
      refine Eq.trans ?_ ((slice1 (m := 8) (n := 1) e.val x hs 0 (by omega)).trans ?_)
      · exact congrArg (extractStridedSlice S1 ![e.val] x hs) (funext fun a => by fin_cases a; exact Subsingleton.elim (α := Fin 1) _ _)
      · refine (congrArg x ?_).trans (cnt_at x e)
        exact congrArg ix1 (Fin.ext (by simp))
    rw [subi_ap, addi_ap, e1]
    show BitVec.ofNat 32 (cnt x e.val) + BitVec.ofNat 32 512 - BitVec.ofNat 32 1 = _
    rw [← BitVec.ofNat_add, ofNat32_sub (by omega), show cnt x e.val + 512 - 1 = cnt x e.val + 511 by omega]

theorem end_at {x : IVec S8 32} (h : Routed x) (e : Fin 8) {o : Fin 1 → ℕ} (hs : S8.Slices o S1) (ho : o = ![e.val]) (s : IVec S_ 32)
    (h0 : s ValueIdx.ix0 = BitVec.ofNat 32 (ends x e.val)) : addi s (padW x hs) ValueIdx.ix0 = BitVec.ofNat 32 (ends x (e.val + 1)) := by
  rw [addi_ap, h0, padW_at h e hs ho, ← BitVec.ofNat_add, ends_succ]

theorem end0_at {x : IVec S8 32} (h : Routed x) : end0 x ValueIdx.ix0 = BitVec.ofNat 32 (ends x 1) := end_at h 0 slices_S8_S1_0 rfl _ rfl
theorem end1_at {x : IVec S8 32} (h : Routed x) : end1 x ValueIdx.ix0 = BitVec.ofNat 32 (ends x 2) := end_at h 1 slices_S8_S1_1 rfl _ (end0_at h)
theorem end2_at {x : IVec S8 32} (h : Routed x) : end2 x ValueIdx.ix0 = BitVec.ofNat 32 (ends x 3) := end_at h 2 slices_S8_S1_2 rfl _ (end1_at h)
theorem end3_at {x : IVec S8 32} (h : Routed x) : end3 x ValueIdx.ix0 = BitVec.ofNat 32 (ends x 4) := end_at h 3 slices_S8_S1_3 rfl _ (end2_at h)
theorem end4_at {x : IVec S8 32} (h : Routed x) : end4 x ValueIdx.ix0 = BitVec.ofNat 32 (ends x 5) := end_at h 4 slices_S8_S1_4 rfl _ (end3_at h)
theorem end5_at {x : IVec S8 32} (h : Routed x) : end5 x ValueIdx.ix0 = BitVec.ofNat 32 (ends x 6) := end_at h 5 slices_S8_S1_5 rfl _ (end4_at h)
theorem end6_at {x : IVec S8 32} (h : Routed x) : end6 x ValueIdx.ix0 = BitVec.ofNat 32 (ends x 7) := end_at h 6 slices_S8_S1_6 rfl _ (end5_at h)
theorem end7_at {x : IVec S8 32} (h : Routed x) : end7 x ValueIdx.ix0 = BitVec.ofNat 32 (ends x 8) := end_at h 7 slices_S8_S1_7 rfl _ (end6_at h)

/-- What an expert gives a slot. -/
def give (X : FVec Ideal S151552x1024 .f32) (WG WU : FVec Ideal S8x1024x2816 .f32) (WD : FVec Ideal S8x2816x1024 .f32) (r : Fin 151552) (d : Fin 1024) (e : Fin 8) : EReal :=
  ∑ f, unit (fun k => X (ix2 r k)) (fun k f => WG (ix3 e k f)) (fun k f => WU (ix3 e k f)) f * WD (ix3 e f d)

/-- Eight sums one after the other. -/
theorem sum_eight (P : Fin 8 → EReal) : 0 + P 0 + P 1 + P 2 + P 3 + P 4 + P 5 + P 6 + P 7 = ∑ e, P e := by
  simp only [Fin.sum_univ_succ, Fin.sum_univ_zero, add_zero, zero_add, add_assoc]
  rfl

/-- The reference's result at an element: the sum over the experts, each weighted by whether the slot is its. -/
theorem out_at {x : IVec S8 32} (h : Routed x) (X : FVec Ideal S151552x1024 .f32) (WG WU : FVec Ideal S8x1024x2816 .f32) (WD : FVec Ideal S8x2816x1024 .f32) (r : Fin 151552) (d : Fin 1024) :
    out x X WG WU WD (ix2 r d) = ∑ e : Fin 8, (if ends x e.val ≤ r.val ∧ r.val < ends x (e.val + 1) then 1 else 0) * give X WG WU WD r d e := by
  have hb : ∀ j, j ≤ 8 → ends x j < 2 ^ 31 := fun j hj => by have := ends_le h hj; omega
  unfold out
  rw [plus_at, combW_at _ _ (end6_at h) (end7_at h) (hb 7 (by decide)) (hb 8 (by decide)), swig_at X WG WU WD 7 _ _ rfl,
    plus_at, combW_at _ _ (end5_at h) (end6_at h) (hb 6 (by decide)) (hb 7 (by decide)), swig_at X WG WU WD 6 _ _ rfl,
    plus_at, combW_at _ _ (end4_at h) (end5_at h) (hb 5 (by decide)) (hb 6 (by decide)), swig_at X WG WU WD 5 _ _ rfl,
    plus_at, combW_at _ _ (end3_at h) (end4_at h) (hb 4 (by decide)) (hb 5 (by decide)), swig_at X WG WU WD 4 _ _ rfl,
    plus_at, combW_at _ _ (end2_at h) (end3_at h) (hb 3 (by decide)) (hb 4 (by decide)), swig_at X WG WU WD 3 _ _ rfl,
    plus_at, combW_at _ _ (end1_at h) (end2_at h) (hb 2 (by decide)) (hb 3 (by decide)), swig_at X WG WU WD 2 _ _ rfl,
    plus_at, combW_at _ _ (end0_at h) (end1_at h) (hb 1 (by decide)) (hb 2 (by decide)), swig_at X WG WU WD 1 _ _ rfl,
    plus_at, combW_at (a := ends x 0) _ _ rfl (end0_at h) (hb 0 (by decide)) (hb 1 (by decide)), swig_at X WG WU WD 0 _ _ rfl, zero_at]
  exact sum_eight fun e => (if ends x e.val ≤ r.val ∧ r.val < ends x (e.val + 1) then 1 else 0) * give X WG WU WD r d e

/-- A predicate true below a number and false from it on is counted by that number. -/
theorem count_eq (P : ℕ → Prop) [DecidablePred P] (e : ℕ) (h1 : ∀ q, q < e → P q) (h2 : ∀ q, e ≤ q → ¬ P q) : ∀ n, Nat.count P n = min e n
  | 0 => by simp
  | n + 1 => by
    rw [Nat.count_succ, count_eq P e h1 h2 n]
    by_cases hn : n < e
    · rw [if_pos (h1 n hn)]; omega
    · rw [if_neg (h2 n (by omega))]; omega

/-- A slot between two ends lies in a tile of that expert. -/
theorem te_eq (x : IVec S8 32) (r e : ℕ) (he : e < 8) (h1 : ends x e ≤ r) (h2 : r < ends x (e + 1)) : te x (r / 512) = e := by
  unfold te
  have d : ∀ j, ends x j ≤ 512 * (r / 512) ↔ ends x j ≤ r := fun j => by
    obtain ⟨k, hk⟩ := ends_dvd x j
    omega
  rw [count_eq (fun q => ends x (q + 1) ≤ 512 * (r / 512)) e (fun q hq => (d _).mpr ((ends_mono x hq).trans h1))
    (fun q hq hh => by have := (d _).mp hh; have := ends_mono x (Nat.succ_le_succ hq); simp only [Nat.succ_eq_add_one] at this; omega)]
  omega

/-- A slot before the last end lies between two. -/
theorem exists_expert (x : IVec S8 32) (r : ℕ) : ∀ n, r < ends x n → ∃ e, e < n ∧ ends x e ≤ r ∧ r < ends x (e + 1)
  | 0 => fun h => by simp [ends] at h
  | n + 1 => fun h => by
    by_cases hn : r < ends x n
    · obtain ⟨e, h1, h2⟩ := exists_expert x r n hn
      exact ⟨e, by omega, h2⟩
    · exact ⟨n, by omega, by omega, h⟩

/-- The sum over the experts is the tile's expert's result, and zero past the used tiles. -/
theorem sum_experts (x : IVec S8 32) (r : ℕ) (P : Fin 8 → EReal) :
    (∑ e : Fin 8, (if ends x e.val ≤ r ∧ r < ends x (e.val + 1) then 1 else 0) * P e)
      = if r / 512 < used x then P (Cert.Kernel3Ideal.Final.expert x (r / 512)) else 0 := by
  have hu : r / 512 < used x ↔ r < ends x 8 := by
    unfold used
    obtain ⟨k, hk⟩ := ends_dvd x 8
    omega
  by_cases hr : r < ends x 8
  · rw [if_pos (hu.mpr hr)]
    obtain ⟨e, he, h1, h2⟩ := exists_expert x r 8 hr
    have ht := te_eq x r e he h1 h2
    have hx : Cert.Kernel3Ideal.Final.expert x (r / 512) = ⟨e, he⟩ := Fin.ext ht
    rw [hx, Finset.sum_eq_single (⟨e, he⟩ : Fin 8)]
    · rw [if_pos ⟨h1, h2⟩, one_mul]
    · intro q _ hq
      rw [if_neg, zero_mul]
      rintro ⟨g1, g2⟩
      exact hq (Fin.ext ((te_eq x r q.val q.isLt g1 g2).symm.trans ht))
    · exact fun hq => absurd (Finset.mem_univ _) hq
  · rw [if_neg (fun hh => hr (hu.mp hh))]
    refine Finset.sum_eq_zero fun q _ => ?_
    rw [if_neg, zero_mul]
    rintro ⟨_, g2⟩
    exact hr (g2.trans_le (ends_mono x q.isLt))

/-- The reference's result is the kernel's. -/
theorem out_result {x : IVec S8 32} (h : Routed x) (X : FVec Ideal S151552x1024 .f32) (WG WU : FVec Ideal S8x1024x2816 .f32) (WD : FVec Ideal S8x2816x1024 .f32) :
    out x X WG WU WD = fun y : S151552x1024.Idx => Cert.Kernel3Ideal.Final.result x X WG WU WD (y 0) (y 1) := by
  funext y
  obtain ⟨r, d, rfl⟩ : ∃ (r : Fin 151552) (d : Fin 1024), y = ix2 r d := ⟨y 0, y 1, eq_ix2 y⟩
  exact (out_at h X WG WU WD r d).trans (sum_experts x r.val (give X WG WU WD r d))

end Cert.Reference3Ideal.At

end
-- ==== Proof.ESame.lean ====
/- The experts' program and its idealization have the same text, so they are equal: the labels' bodies, the calls of
   the module's functions, and the whole. What is proved of the one at bit patterns is so of the other. -/
module

public import proofs.«01_k».proof.Proof.Gen.Kernel3
public import proofs.«01_k».proof.Proof.Gen.Kernel3Ideal

@[expose] public section

set_option maxRecDepth 16384
set_option maxHeartbeats 4000000

noncomputable section

namespace Cert.Kernel3Ideal.Same

open Idealize.ShloMosaic Idealize.ShloMosaic.TcCoe Idealize.SL.Sem

variable {F : FTy → Type} [FloatOps F]

theorem bodies_eq : Cert.Kernel3.defs₀ (F := F) = Cert.Kernel3Ideal.defs₀ (F := F) := by
  unfold Cert.Kernel3.defs₀ Cert.Kernel3Ideal.defs₀
  refine congrArg Defs.onTc (funext fun l => funext fun a => ?_)
  rcases l with ⟨_ | n, hl⟩
  · rcases a with ⟨t, s⟩
    exact rfl
  · exact absurd hl (by omega)

theorem defs_eq : Cert.Kernel3.defs (F := F) = Cert.Kernel3Ideal.defs (F := F) := by
  unfold Cert.Kernel3.defs Cert.Kernel3Ideal.defs
  exact congrArg (Pipeline.defs (Cert.Kernel3Ideal.pcfgs (F := F))) bodies_eq

theorem divide_eq : Cert.Kernel3.fn_floor_divide.body (F := F) (.of Cert.Kernel3.main_v3) (.of Cert.Kernel3.main_c_1) Cert.Kernel3.main_call0
    = Cert.Kernel3Ideal.fn_floor_divide.body (.of Cert.Kernel3Ideal.main_v3) (.of Cert.Kernel3Ideal.main_c_1) Cert.Kernel3Ideal.main_call0 := by
  exact rfl

theorem sums_eq : Cert.Kernel3.fn_cumsum.body (F := F) (.of Cert.Kernel3.main_v6) Cert.Kernel3.main_call1
    = Cert.Kernel3Ideal.fn_cumsum.body (.of Cert.Kernel3Ideal.main_v6) Cert.Kernel3Ideal.main_call1 := by
  exact rfl

theorem divide_one_eq : Cert.Kernel3.fn_floor_divide_1.body (F := F) (.of Cert.Kernel3.main_v20) (.of Cert.Kernel3.main_c_6) Cert.Kernel3.main_call2
    = Cert.Kernel3Ideal.fn_floor_divide_1.body (.of Cert.Kernel3Ideal.main_v20) (.of Cert.Kernel3Ideal.main_c_6) Cert.Kernel3Ideal.main_call2 := by
  exact rfl

theorem main_eq : Cert.Kernel3.main (F := F) = Cert.Kernel3Ideal.main (F := F) := by
  funext c
  unfold Cert.Kernel3.main Cert.Kernel3Ideal.main
  rw [divide_eq, sums_eq, divide_one_eq]
  exact rfl

/-- A run of one program is a run of an equal one. -/
theorem transfer {nD : ℕ} {τ : Topo} {sig : RefSig} {Val : EltTy → Type} {Λ : Labels} {d d' : Defs nD τ sig Val Λ}
    {p p' : Dev nD → Prog (TpuEff nD τ sig Val Λ .tc) PUnit} (hd : d = d') (hp : p = p') {s} {Q}
    (h : θ_run d' (onTc (τ := τ) p') s Q) : θ_run d (onTc (τ := τ) p) s Q := by
  subst hd hp; exact h

end Cert.Kernel3Ideal.Same

end
-- ==== Proof.lean ====
/- The certificate: the frames; the attention's result equal to its reference's at finite sinks, queries and keys; the
   feed-forward part's result equal to its reference's; the routed experts' result equal to its reference's at routed
   row counts. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_finite_scores
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3Ideal.Launch
public import proofs.«01_k».proof.Proof.Gen.Reference3Ideal.Run
public import proofs.«01_k».proof.Proof.Gen.Pre_rows_routed
public import proofs.«01_k».proof.Proof.KFinal
public import proofs.«01_k».proof.Proof.RefValue
public import proofs.«01_k».proof.Proof.FFinal
public import proofs.«01_k».proof.Proof.FRef
public import proofs.«01_k».proof.Proof.EFinal
public import proofs.«01_k».proof.Proof.ERef
public import proofs.«01_k».proof.Proof.ESame
public import Idealize.ShloMosaic.Adequacy
public import Idealize.ShloMosaic.Init
public import Idealize.ShloMosaic.Lib.Quiescent
public import Idealize.ShloMosaic.Lib.Pointwise.Select

@[expose] public section

set_option maxRecDepth 16384

noncomputable section

namespace Cert.Proof

open Idealize.ShloMosaic Idealize.ShloMosaic.TcCoe Idealize.SL.Sem

/-- An extended real whose absolute value is below +∞ is a real number. -/
theorem real_of_abs_lt (x : EReal) (h : Ideal.cmp .olt (max x (-x)) (Ideal.ofBits .f32 0x7F800000#32) = 1#1) : ∃ r : ℝ, x = r := by
  rw [show Ideal.ofBits .f32 0x7F800000#32 = (⊤ : EReal) from by simp [Ideal.ofBits, Ideal.ieee]] at h
  have h' : max x (-x) < ⊤ := (Ideal.cmp_olt_eq_one (x := max x (-x)) (y := ⊤)).mp h
  induction x using EReal.rec with
  | bot => simp at h'
  | coe r => exact ⟨r, rfl⟩
  | top => simp at h'

/-- The precondition says that the sinks, the queries and the keys are real numbers. -/
theorem finite_of_pre (m : (ℓ : Loc Cert.KernelIdeal.nD Cert.KernelIdeal.τ Cert.KernelIdeal.sig) → Buf (Elt Ideal) ℓ) (h : Pre_KernelIdeal_finite_scores m)
    (c : Dev Cert.KernelIdeal.nD) : Cert.KernelIdeal.Final.Finite m c where
  sinks i := real_of_abs_lt _ (congrFun (h c).1 i)
  queries i := real_of_abs_lt _ (congrFun (h c).2.1 i)
  keys i := real_of_abs_lt _ (congrFun (h c).2.2 i)

/-- The reference's frame. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At finite sinks, queries and keys the kernel's result is the reference's. -/
theorem algebraic : algebraic_KernelIdeal_ReferenceIdeal_pre_finite_scores := by
  intro m ρ m' ρ' hpre hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  refine (h c).1.trans ((Cert.ReferenceIdeal.At.res_eq_result m' c).trans ?_)
  rw [(hagree c).1, (hagree c).2.1, (hagree c).2.2.1, (hagree c).2.2.2]
  exact (Cert.KernelIdeal.Final.final (finite_of_pre m hpre c)).symm

/-- The feed-forward reference's frame. -/
theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The feed-forward kernel's result is its reference's. -/
theorem algebraic2 : algebraic_Kernel2Ideal_Reference2Ideal := by
  intro m ρ m' ρ' hpre hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  refine (h c).1.trans (Eq.trans ?_ (Cert.Kernel2Ideal.Final.final m c).symm)
  funext y
  obtain ⟨r, d, rfl⟩ : ∃ (r : Fin 73728) (d : Fin 1024), y = ix2 r d := ⟨y 0, y 1, eq_ix2 y⟩
  refine (Cert.Reference2Ideal.At.res_at m' c r d).trans ?_
  rw [(hagree c).1, (hagree c).2.1, (hagree c).2.2.1, (hagree c).2.2.2.1, (hagree c).2.2.2.2.1, (hagree c).2.2.2.2.2]
  rfl

/-- The precondition says that the counts are of rows routed to the experts. -/
theorem routed_ideal (m : (ℓ : Loc Cert.Kernel3Ideal.nD Cert.Kernel3Ideal.τ Cert.Kernel3Ideal.sig) → Buf (Elt Ideal) ℓ) (h : Pre_Kernel3Ideal m)
    (c : Dev Cert.Kernel3Ideal.nD) : Cert.Kernel3Ideal.Tab.Routed (m ((c : Thread Cert.Kernel3Ideal.nD Cert.Kernel3Ideal.τ).loc Cert.Kernel3Ideal.main_arg0)) :=
  Cert.Kernel3Ideal.Tab.routed_of_pre _ _ _ _ _ (h c).1 (h c).2.1 (h c).2.2

/-- The same at bit patterns. -/
theorem routed_bits (m : (ℓ : Loc Cert.Kernel3.nD Cert.Kernel3.τ Cert.Kernel3.sig) → Buf (Elt Bits) ℓ) (h : Pre_Kernel3 m)
    (c : Dev Cert.Kernel3.nD) : Cert.Kernel3Ideal.Tab.Routed (m ((c : Thread Cert.Kernel3.nD Cert.Kernel3.τ).loc Cert.Kernel3.main_arg0)) :=
  Cert.Kernel3Ideal.Tab.routed_of_pre _ _ _ _ _ (h c).1 (h c).2.1 (h c).2.2

/-- The experts' frame, idealized. -/
theorem quiescent_Kernel3Ideal : quiescent_Kernel3Ideal := fun m ρ h =>
  Cert.Kernel3Ideal.Gen.frame (F := Ideal) m ρ (Cert.Kernel3Ideal.Tab.ok m 0 (routed_ideal m h 0))

set_option maxHeartbeats 4000000 in
/-- The experts' frame: the programs have the same text. -/
theorem quiescent_Kernel3 : quiescent_Kernel3 := fun m ρ h => by
  refine Cert.Kernel3Ideal.Same.transfer Cert.Kernel3Ideal.Same.defs_eq Cert.Kernel3Ideal.Same.main_eq ?_
  exact Cert.Kernel3Ideal.Gen.frame (F := Bits) m ρ (Cert.Kernel3Ideal.Tab.ok (F := Bits) m 0 (routed_bits m h 0))

/-- The experts' reference's frame. -/
theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- At routed row counts the experts' result is their reference's. -/
theorem algebraic3 : algebraic_Kernel3Ideal_Reference3Ideal := by
  intro m ρ m' ρ' hpre hagree
  have hR := routed_ideal m hpre
  have hO := Cert.Kernel3Ideal.Tab.ok m 0 (hR 0)
  refine ⟨fun c => (Cert.Kernel3Ideal.Gen.dats (F := Ideal) m hO 0 c).arrAt 4 (Cert.Kernel3Ideal.Gen.cfgM m hO).N,
    (θ_run Cert.Kernel3Ideal.defs _ _).mono (fun r h c => ⟨(h.1 c).1 4, h.2 c⟩)
      (θ_run_and (Cert.Kernel3Ideal.Gen.run_main (F := Ideal) m ρ hO) (Cert.Kernel3Ideal.Gen.unchanged (F := Ideal) m ρ hO)), ?_⟩
  refine (θ_run Cert.Reference3Ideal.defs _ _).mono (fun _ h c => ⟨?_, (h c).2⟩) (Cert.Reference3Ideal.Value.run (F := Ideal) m' ρ')
  refine (h c).1.trans (Eq.trans ?_ (Cert.Kernel3Ideal.Final.final m c (hR c) hO).symm)
  refine (Cert.Reference3Ideal.At.out_eq _).trans ?_
  refine Eq.trans ?_ (Cert.Reference3Ideal.At.out_result (hR c) _ _ _ _)
  show Cert.Reference3Ideal.At.out (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) = _
  rw [(hagree c).1, (hagree c).2.1, (hagree c).2.2.1, (hagree c).2.2.2.1, (hagree c).2.2.2.2]

/-- Every claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite_scores.Gen.facts, Cert.Pre_rows_routed.Gen.facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial,
  fun m ρ _ => Cert.Kernel2.Gen.frame m ρ, fun m ρ _ => Cert.Kernel2Ideal.Gen.frame m ρ, quiescent_Reference2Ideal,
  quiescent_Kernel3, quiescent_Kernel3Ideal, quiescent_Reference3Ideal, fun m ρ _ => quiescent_Reference3Ideal m ρ trivial,
  (trivial : preserves_Kernel_KernelIdeal), algebraic, (trivial : preserves_Kernel2_Kernel2Ideal), algebraic2,
  (trivial : preserves_Kernel3_Kernel3Ideal), algebraic3⟩

end Cert.Proof

end
